-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_kept_exactly [hPre_kept_exactly : Cert.Pre_kept_exactly.Facts] (m : (ℓ : Loc Cert.KernelIdeal.nD Cert.KernelIdeal.τ Cert.KernelIdeal.sig) → Buf (Elt Ideal) ℓ) : Prop :=
  ∀ c : Dev Cert.KernelIdeal.nD,
    (Cert.Pre_kept_exactly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_kept_exactly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_kept_exactly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_kept_exactly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_kept_exactly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_kept_exactly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2 = (fun _ => 1#1)

def Pre_KernelIdeal_kept_in_range [hPre_kept_in_range : Cert.Pre_kept_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_kept_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_kept_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_kept_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_kept_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_kept_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_kept_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_kept_exactly [hPre_kept_exactly : Cert.Pre_kept_exactly.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kept_exactly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_kept_exactly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_kept_exactly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_kept_exactly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_kept_exactly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_kept_exactly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_kept_exactly [hKernelIdeal : Cert.KernelIdeal.Facts] [hPre_kept_exactly : Cert.Pre_kept_exactly.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kept_exactly m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_kept_in_range [hKernelIdeal : Cert.KernelIdeal.Facts] [hPre_kept_in_range : Cert.Pre_kept_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kept_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_kept_exactly [hReferenceIdeal : Cert.ReferenceIdeal.Facts] [hPre_kept_exactly : Cert.Pre_kept_exactly.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kept_exactly m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_kept_exactly [hKernelIdeal : Cert.KernelIdeal.Facts] [hReferenceIdeal : Cert.ReferenceIdeal.Facts] [hPre_kept_exactly : Cert.Pre_kept_exactly.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kept_exactly m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def holds_KernelIdeal_within_a_step_pre_kept_in_range [hKernelIdeal : Cert.KernelIdeal.Facts] [hPre_kept_in_range : Cert.Pre_kept_in_range.Facts] [hPost_within_a_step : Cert.Post_within_a_step.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kept_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ (Cert.Post_within_a_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v36))).1 = (fun _ => 1#1)
      ∧ (Cert.Post_within_a_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v36))).2 = (fun _ => 1#1))

def Claim : Prop :=
  ∃ (hKernel : Cert.Kernel.Facts) (hKernelIdeal : Cert.KernelIdeal.Facts) (hReferenceIdeal : Cert.ReferenceIdeal.Facts) (hPre_kept_exactly : Cert.Pre_kept_exactly.Facts) (hPre_kept_in_range : Cert.Pre_kept_in_range.Facts) (hPost_within_a_step : Cert.Post_within_a_step.Facts),
    quiescent_Kernel (hKernel := hKernel)
    ∧ quiescent_KernelIdeal (hKernelIdeal := hKernelIdeal)
    ∧ quiescent_KernelIdeal_pre_kept_exactly (hKernelIdeal := hKernelIdeal) (hPre_kept_exactly := hPre_kept_exactly)
    ∧ quiescent_KernelIdeal_pre_kept_in_range (hKernelIdeal := hKernelIdeal) (hPre_kept_in_range := hPre_kept_in_range)
    ∧ quiescent_ReferenceIdeal (hReferenceIdeal := hReferenceIdeal)
    ∧ quiescent_ReferenceIdeal_pre_kept_exactly (hReferenceIdeal := hReferenceIdeal) (hPre_kept_exactly := hPre_kept_exactly)
    ∧ preserves_Kernel_KernelIdeal
    ∧ algebraic_KernelIdeal_ReferenceIdeal_pre_kept_exactly (hKernelIdeal := hKernelIdeal) (hReferenceIdeal := hReferenceIdeal) (hPre_kept_exactly := hPre_kept_exactly)
    ∧ holds_KernelIdeal_within_a_step_pre_kept_in_range (hKernelIdeal := hKernelIdeal) (hPre_kept_in_range := hPre_kept_in_range) (hPost_within_a_step := hPost_within_a_step)
-- ==== Post_within_a_step.lean ====
abbrev S16x1x512x512 : Shape := ⟨4, ![16, 1, 512, 512]⟩
abbrev S_ : Shape := ⟨0, ![]⟩
abbrev S4194304 : Shape := ⟨1, ![4194304]⟩

class Facts : Prop where
  bcast_S_S16x1x512x512 : S_.BroadcastsInDim S16x1x512x512 (![] : Fin 0 → Fin S16x1x512x512.rank)
  natLt_1_32 : 1 < 32
  reducesTo_S16x1x512x512_S_d0_1_2_3 : S16x1x512x512.ReducesTo [0, 1, 2, 3] S_
  h_S_ : 0 < S_.numel
  shapeCasts_S16x1x512x512_S4194304 : S16x1x512x512.ShapeCasts S4194304
  bcast_S_S4194304 : S_.BroadcastsInDim S4194304 (![] : Fin 0 → Fin S4194304.rank)
  reducesTo_S4194304_S_d0 : S4194304.ReducesTo [0] S_

variable [Facts]

variable {F : FTy → Type} [FloatOps F]
def comparator_f32_d0 : F .f32 → F .f32 → BitVec 1 :=
  fun l r =>
    let cst_38 := FloatOps.ofBits .f32 0x00000000#32
    let v132 := FloatOps.cmpf .oeq l cst_38
    let cst_39 := FloatOps.ofBits .f32 0x00000000#32
    let v133 := Scalar.select v132 cst_39 l
    let v134 := FloatOps.cmpf .une l l
    let cst_40 := FloatOps.ofBits .f32 0x7FC00000#32
    let v135 := Scalar.select v134 cst_40 v133
    let cst_41 := FloatOps.ofBits .f32 0x00000000#32
    let v136 := FloatOps.cmpf .oeq r cst_41
    let cst_42 := FloatOps.ofBits .f32 0x00000000#32
    let v137 := Scalar.select v136 cst_42 r
    let v138 := FloatOps.cmpf .une r r
    let cst_43 := FloatOps.ofBits .f32 0x7FC00000#32
    let v139 := Scalar.select v138 cst_43 v137
    let v140 := FloatOps.cmpfTotal .lt v135 v139
    v140

def fn_part7 {F : FTy → Type} [FloatOps F] (main_arg4 : FVec F S_ .f32) (main_v56 : FVec F S_ .f32) (main_v119 : FVec F S_ .f32) (main_v127 : FVec F S_ .f32) : IVec S_ 1 × IVec S_ 1 :=
  let main_v128 : IVec S_ 1 := cmpf .ole main_v127 main_arg4
  let main_v129 : FVec F S_ .f32 := addf main_v56 main_v119
  let main_v130 : FVec F S_ .f32 := addf main_v127 main_v129
  let main_v131 : IVec S_ 1 := cmpf .ole main_arg4 main_v130
  (main_v128, main_v131)

def fn_part6 {F : FTy → Type} [FloatOps F] (main_arg1 : FVec F S16x1x512x512 .f32) (main_arg3 : FVec F S16x1x512x512 .f32) (main_arg4 : FVec F S_ .f32) (main_v53 : FVec F S_ .f32) (main_v56 : FVec F S_ .f32) (main_v66 : IVec S_ 32) (main_v69 : IVec S_ 32) (main_v95 : FVec F S4194304 .f32) (main_v103 : FVec F S_ .f32) (main_v106 : FVec F S_ .f32) (main_v109 : IVec S4194304 1) (main_v110 : FVec F S4194304 .f32) : IVec S_ 1 × IVec S_ 1 :=
  let main_v111 : FVec F S4194304 .f32 := select main_v109 main_v95 main_v110
  let main_cst_31 : FVec F S_ .f32 := constant S_ .f32 0x00000000#32
  let main_v112 : FVec F S_ .f32 := (fun x v => Host.reduceAdd x v reducesTo_S4194304_S_d0 h_S_) main_v111 main_cst_31
  let main_v113 : FVec F S_ .f32 := addf main_v106 main_v112
  let main_v114 : IVec S_ 32 := addi main_v66 main_v69
  let main_v115 : FVec F S_ .f32 := sitofp .f32 main_v114
  let main_v116 : FVec F S_ .f32 := Host.divf main_v113 main_v115
  let main_v117 : FVec F S_ .f32 := Host.absf main_v103
  let main_cst_32 : FVec F S_ .f32 := constant S_ .f32 0x34000000#32
  let main_v118 : FVec F S_ .f32 := mulf main_v117 main_cst_32
  let main_cst_33 : FVec F S_ .f32 := constant S_ .f32 0x00000001#32
  let main_v119 : FVec F S_ .f32 := addf main_v118 main_cst_33
  let main_v120 : FVec F S16x1x512x512 .f32 := subf main_arg1 main_arg3
  let main_v121 : FVec F S16x1x512x512 .f32 := Host.absf main_v120
  let main_cst_34 : FVec F S_ .f32 := constant S_ .f32 0x00000000#32
  let main_v122 : FVec F S_ .f32 := (fun x v => Host.reduceAdd x v reducesTo_S16x1x512x512_S_d0_1_2_3 h_S_) main_v121 main_cst_34
  let main_cst_35 : FVec F S_ .f32 := constant S_ .f32 0x4A800000#32
  let main_v123 : FVec F S_ .f32 := Host.divf main_v122 main_cst_35
  let main_cst_36 : FVec F S_ .f32 := constant S_ .f32 0x3F800000#32
  let main_v124 : FVec F S_ .f32 := mulf main_cst_36 main_v116
  let main_v125 : FVec F S_ .f32 := addf main_v53 main_v124
  let main_cst_37 : FVec F S_ .f32 := constant S_ .f32 0x41200000#32
  let main_v126 : FVec F S_ .f32 := mulf main_cst_37 main_v123
  let main_v127 : FVec F S_ .f32 := addf main_v125 main_v126
  fn_part7 (F := F) main_arg4 main_v56 main_v119 main_v127

def fn_part5 {F : FTy → Type} [FloatOps F] (main_arg1 : FVec F S16x1x512x512 .f32) (main_arg3 : FVec F S16x1x512x512 .f32) (main_arg4 : FVec F S_ .f32) (main_v53 : FVec F S_ .f32) (main_v56 : FVec F S_ .f32) (main_v64 : IVec S16x1x512x512 1) (main_v66 : IVec S_ 32) (main_v69 : IVec S_ 32) (main_v89 : FVec F S16x1x512x512 .f32) (main_v92 : FVec F S4194304 .f32) : IVec S_ 1 × IVec S_ 1 :=
  let main_v93 : FVec F S4194304 .f32 := Host.negf main_v92
  let main_v94 : FVec F S4194304 .f32 := (fun x => Host.sort S4194304 0 comparator_f32_d0 x) main_v93
  let main_v95 : FVec F S4194304 .f32 := Host.negf main_v94
  let main_v96 : IVec S4194304 32 := iotaInDim S4194304 32 0
  let main_c_25 : IVec S_ 32 := constantI S_ 32 1#32
  let main_v97 : IVec S4194304 32 := broadcastInDim S4194304 ![] bcast_S_S4194304 main_c_25
  let main_v98 : IVec S4194304 32 := addi main_v96 main_v97
  let main_v99 : IVec S4194304 32 := broadcastInDim S4194304 ![] bcast_S_S4194304 main_v69
  let main_v100 : IVec S4194304 1 := cmpi .eq main_v98 main_v99
  let main_cst_26 : FVec F S_ .f32 := constant S_ .f32 0x00000000#32
  let main_v101 : FVec F S4194304 .f32 := broadcastInDim S4194304 ![] bcast_S_S4194304 main_cst_26
  let main_v102 : FVec F S4194304 .f32 := select main_v100 main_v95 main_v101
  let main_cst_27 : FVec F S_ .f32 := constant S_ .f32 0x00000000#32
  let main_v103 : FVec F S_ .f32 := (fun x v => Host.reduceAdd x v reducesTo_S4194304_S_d0 h_S_) main_v102 main_cst_27
  let main_cst_28 : FVec F S_ .f32 := constant S_ .f32 0x00000000#32
  let main_v104 : FVec F S16x1x512x512 .f32 := broadcastInDim S16x1x512x512 ![] bcast_S_S16x1x512x512 main_cst_28
  let main_v105 : FVec F S16x1x512x512 .f32 := select main_v64 main_v89 main_v104
  let main_cst_29 : FVec F S_ .f32 := constant S_ .f32 0x00000000#32
  let main_v106 : FVec F S_ .f32 := (fun x v => Host.reduceAdd x v reducesTo_S16x1x512x512_S_d0_1_2_3 h_S_) main_v105 main_cst_29
  let main_v107 : IVec S4194304 32 := iotaInDim S4194304 32 0
  let main_v108 : IVec S4194304 32 := broadcastInDim S4194304 ![] bcast_S_S4194304 main_v69
  let main_v109 : IVec S4194304 1 := cmpi .slt main_v107 main_v108
  let main_cst_30 : FVec F S_ .f32 := constant S_ .f32 0x00000000#32
  let main_v110 : FVec F S4194304 .f32 := broadcastInDim S4194304 ![] bcast_S_S4194304 main_cst_30
  fn_part6 (F := F) main_arg1 main_arg3 main_arg4 main_v53 main_v56 main_v66 main_v69 main_v95 main_v103 main_v106 main_v109 main_v110

def fn_part4 {F : FTy → Type} [FloatOps F] (main_arg1 : FVec F S16x1x512x512 .f32) (main_arg3 : FVec F S16x1x512x512 .f32) (main_arg4 : FVec F S_ .f32) (main_v53 : FVec F S_ .f32) (main_v56 : FVec F S_ .f32) (main_v59 : FVec F S16x1x512x512 .f32) (main_v62 : FVec F S16x1x512x512 .f32) (main_v64 : IVec S16x1x512x512 1) (main_v66 : IVec S_ 32) (main_v69 : IVec S_ 32) (main_v70 : FVec F S16x1x512x512 .f32) (main_v71 : FVec F S16x1x512x512 .f32) : IVec S_ 1 × IVec S_ 1 :=
  let main_v72 : FVec F S16x1x512x512 .f32 := maximumf main_v70 main_v71
  let main_v73 : FVec F S16x1x512x512 .f32 := Host.absf main_v70
  let main_v74 : FVec F S16x1x512x512 .f32 := Host.negf main_v73
  let main_v75 : FVec F S16x1x512x512 .f32 := Host.exp main_v74
  let main_v76 : FVec F S16x1x512x512 .f32 := Host.log1p main_v75
  let main_v77 : FVec F S16x1x512x512 .f32 := addf main_v72 main_v76
  let main_v78 : FVec F S16x1x512x512 .f32 := mulf main_v62 main_v77
  let main_cst_22 : FVec F S_ .f32 := constant S_ .f32 0x3F800000#32
  let main_v79 : FVec F S16x1x512x512 .f32 := broadcastInDim S16x1x512x512 ![] bcast_S_S16x1x512x512 main_cst_22
  let main_v80 : FVec F S16x1x512x512 .f32 := subf main_v79 main_v62
  let main_cst_23 : FVec F S_ .f32 := constant S_ .f32 0x00000000#32
  let main_v81 : FVec F S16x1x512x512 .f32 := broadcastInDim S16x1x512x512 ![] bcast_S_S16x1x512x512 main_cst_23
  let main_v82 : FVec F S16x1x512x512 .f32 := maximumf main_v59 main_v81
  let main_v83 : FVec F S16x1x512x512 .f32 := Host.absf main_v59
  let main_v84 : FVec F S16x1x512x512 .f32 := Host.negf main_v83
  let main_v85 : FVec F S16x1x512x512 .f32 := Host.exp main_v84
  let main_v86 : FVec F S16x1x512x512 .f32 := Host.log1p main_v85
  let main_v87 : FVec F S16x1x512x512 .f32 := addf main_v82 main_v86
  let main_v88 : FVec F S16x1x512x512 .f32 := mulf main_v80 main_v87
  let main_v89 : FVec F S16x1x512x512 .f32 := addf main_v78 main_v88
  let main_cst_24 : FVec F S_ .f32 := constant S_ .f32 0xFF800000#32
  let main_v90 : FVec F S16x1x512x512 .f32 := broadcastInDim S16x1x512x512 ![] bcast_S_S16x1x512x512 main_cst_24
  let main_v91 : FVec F S16x1x512x512 .f32 := select main_v64 main_v90 main_v89
  let main_v92 : FVec F S4194304 .f32 := shapeCast S4194304 main_v91 shapeCasts_S16x1x512x512_S4194304
  fn_part5 (F := F) main_arg1 main_arg3 main_arg4 main_v53 main_v56 main_v64 main_v66 main_v69 main_v89 main_v92

def fn_part3 {F : FTy → Type} [FloatOps F] (main_arg0 : FVec F S16x1x512x512 .f32) (main_arg1 : FVec F S16x1x512x512 .f32) (main_arg2 : FVec F S16x1x512x512 .f32) (main_arg3 : FVec F S16x1x512x512 .f32) (main_arg4 : FVec F S_ .f32) (main_v53 : FVec F S_ .f32) (main_v55 : FVec F S_ .f32) : IVec S_ 1 × IVec S_ 1 :=
  let main_cst_14 : FVec F S_ .f32 := constant S_ .f32 0x00000001#32
  let main_v56 : FVec F S_ .f32 := addf main_v55 main_cst_14
  let main_v57 : FVec F S16x1x512x512 .f32 := subf main_arg0 main_arg1
  let main_cst_15 : FVec F S_ .f32 := constant S_ .f32 0x42480000#32
  let main_v58 : FVec F S16x1x512x512 .f32 := broadcastInDim S16x1x512x512 ![] bcast_S_S16x1x512x512 main_cst_15
  let main_v59 : FVec F S16x1x512x512 .f32 := mulf main_v58 main_v57
  let main_v60 : FVec F S16x1x512x512 .f32 := subf main_arg2 main_arg3
  let main_cst_16 : FVec F S_ .f32 := constant S_ .f32 0x42480000#32
  let main_v61 : FVec F S16x1x512x512 .f32 := broadcastInDim S16x1x512x512 ![] bcast_S_S16x1x512x512 main_cst_16
  let main_v62 : FVec F S16x1x512x512 .f32 := mulf main_v61 main_v60
  let main_cst_17 : FVec F S_ .f32 := constant S_ .f32 0x3F000000#32
  let main_v63 : FVec F S16x1x512x512 .f32 := broadcastInDim S16x1x512x512 ![] bcast_S_S16x1x512x512 main_cst_17
  let main_v64 : IVec S16x1x512x512 1 := cmpf .ogt main_v62 main_v63
  let main_v65 : IVec S16x1x512x512 32 := (extui 32 · natLt_1_32) main_v64
  let main_c_18 : IVec S_ 32 := constantI S_ 32 0#32
  let main_v66 : IVec S_ 32 := (fun x v => Host.reduce IntOp.addi x v reducesTo_S16x1x512x512_S_d0_1_2_3 h_S_) main_v65 main_c_18
  let main_c_19 : IVec S_ 32 := constantI S_ 32 4194304#32
  let main_v67 : IVec S_ 32 := subi main_c_19 main_v66
  let main_c_20 : IVec S_ 32 := constantI S_ 32 3#32
  let main_v68 : IVec S_ 32 := muli main_c_20 main_v66
  let main_v69 : IVec S_ 32 := minsi main_v67 main_v68
  let main_v70 : FVec F S16x1x512x512 .f32 := Host.negf main_v59
  let main_cst_21 : FVec F S_ .f32 := constant S_ .f32 0x00000000#32
  let main_v71 : FVec F S16x1x512x512 .f32 := broadcastInDim S16x1x512x512 ![] bcast_S_S16x1x512x512 main_cst_21
  fn_part4 (F := F) main_arg1 main_arg3 main_arg4 main_v53 main_v56 main_v59 main_v62 main_v64 main_v66 main_v69 main_v70 main_v71

def fn_part2 {F : FTy → Type} [FloatOps F] (main_arg0 : FVec F S16x1x512x512 .f32) (main_arg1 : FVec F S16x1x512x512 .f32) (main_arg2 : FVec F S16x1x512x512 .f32) (main_arg3 : FVec F S16x1x512x512 .f32) (main_arg4 : FVec F S_ .f32) (main_v1 : IVec S16x1x512x512 1) (main_v3 : IVec S_ 32) (main_v6 : IVec S_ 32) (main_v26 : FVec F S16x1x512x512 .f32) (main_v32 : FVec F S4194304 .f32) (main_v37 : IVec S4194304 1) (main_cst_7 : FVec F S_ .f32) : IVec S_ 1 × IVec S_ 1 :=
  let main_v38 : FVec F S4194304 .f32 := broadcastInDim S4194304 ![] bcast_S_S4194304 main_cst_7
  let main_v39 : FVec F S4194304 .f32 := select main_v37 main_v32 main_v38
  let main_cst_8 : FVec F S_ .f32 := constant S_ .f32 0x00000000#32
  let main_v40 : FVec F S_ .f32 := (fun x v => Host.reduceAdd x v reducesTo_S4194304_S_d0 h_S_) main_v39 main_cst_8
  let main_cst_9 : FVec F S_ .f32 := constant S_ .f32 0x00000000#32
  let main_v41 : FVec F S16x1x512x512 .f32 := broadcastInDim S16x1x512x512 ![] bcast_S_S16x1x512x512 main_cst_9
  let main_v42 : FVec F S16x1x512x512 .f32 := select main_v1 main_v26 main_v41
  let main_cst_10 : FVec F S_ .f32 := constant S_ .f32 0x00000000#32
  let main_v43 : FVec F S_ .f32 := (fun x v => Host.reduceAdd x v reducesTo_S16x1x512x512_S_d0_1_2_3 h_S_) main_v42 main_cst_10
  let main_v44 : IVec S4194304 32 := iotaInDim S4194304 32 0
  let main_v45 : IVec S4194304 32 := broadcastInDim S4194304 ![] bcast_S_S4194304 main_v6
  let main_v46 : IVec S4194304 1 := cmpi .slt main_v44 main_v45
  let main_cst_11 : FVec F S_ .f32 := constant S_ .f32 0x00000000#32
  let main_v47 : FVec F S4194304 .f32 := broadcastInDim S4194304 ![] bcast_S_S4194304 main_cst_11
  let main_v48 : FVec F S4194304 .f32 := select main_v46 main_v32 main_v47
  let main_cst_12 : FVec F S_ .f32 := constant S_ .f32 0x00000000#32
  let main_v49 : FVec F S_ .f32 := (fun x v => Host.reduceAdd x v reducesTo_S4194304_S_d0 h_S_) main_v48 main_cst_12
  let main_v50 : FVec F S_ .f32 := addf main_v43 main_v49
  let main_v51 : IVec S_ 32 := addi main_v3 main_v6
  let main_v52 : FVec F S_ .f32 := sitofp .f32 main_v51
  let main_v53 : FVec F S_ .f32 := Host.divf main_v50 main_v52
  let main_v54 : FVec F S_ .f32 := Host.absf main_v40
  let main_cst_13 : FVec F S_ .f32 := constant S_ .f32 0x34000000#32
  let main_v55 : FVec F S_ .f32 := mulf main_v54 main_cst_13
  fn_part3 (F := F) main_arg0 main_arg1 main_arg2 main_arg3 main_arg4 main_v53 main_v55

def fn_part1 {F : FTy → Type} [FloatOps F] (main_arg0 : FVec F S16x1x512x512 .f32) (main_arg1 : FVec F S16x1x512x512 .f32) (main_arg2 : FVec F S16x1x512x512 .f32) (main_arg3 : FVec F S16x1x512x512 .f32) (main_arg4 : FVec F S_ .f32) (main_v1 : IVec S16x1x512x512 1) (main_v3 : IVec S_ 32) (main_v6 : IVec S_ 32) (main_v15 : FVec F S16x1x512x512 .f32) (main_v17 : FVec F S16x1x512x512 .f32) : IVec S_ 1 × IVec S_ 1 :=
  let main_cst_4 : FVec F S_ .f32 := constant S_ .f32 0x00000000#32
  let main_v18 : FVec F S16x1x512x512 .f32 := broadcastInDim S16x1x512x512 ![] bcast_S_S16x1x512x512 main_cst_4
  let main_v19 : FVec F S16x1x512x512 .f32 := maximumf main_arg0 main_v18
  let main_v20 : FVec F S16x1x512x512 .f32 := Host.absf main_arg0
  let main_v21 : FVec F S16x1x512x512 .f32 := Host.negf main_v20
  let main_v22 : FVec F S16x1x512x512 .f32 := Host.exp main_v21
  let main_v23 : FVec F S16x1x512x512 .f32 := Host.log1p main_v22
  let main_v24 : FVec F S16x1x512x512 .f32 := addf main_v19 main_v23
  let main_v25 : FVec F S16x1x512x512 .f32 := mulf main_v17 main_v24
  let main_v26 : FVec F S16x1x512x512 .f32 := addf main_v15 main_v25
  let main_cst_5 : FVec F S_ .f32 := constant S_ .f32 0xFF800000#32
  let main_v27 : FVec F S16x1x512x512 .f32 := broadcastInDim S16x1x512x512 ![] bcast_S_S16x1x512x512 main_cst_5
  let main_v28 : FVec F S16x1x512x512 .f32 := select main_v1 main_v27 main_v26
  let main_v29 : FVec F S4194304 .f32 := shapeCast S4194304 main_v28 shapeCasts_S16x1x512x512_S4194304
  let main_v30 : FVec F S4194304 .f32 := Host.negf main_v29
  let main_v31 : FVec F S4194304 .f32 := (fun x => Host.sort S4194304 0 comparator_f32_d0 x) main_v30
  let main_v32 : FVec F S4194304 .f32 := Host.negf main_v31
  let main_v33 : IVec S4194304 32 := iotaInDim S4194304 32 0
  let main_c_6 : IVec S_ 32 := constantI S_ 32 1#32
  let main_v34 : IVec S4194304 32 := broadcastInDim S4194304 ![] bcast_S_S4194304 main_c_6
  let main_v35 : IVec S4194304 32 := addi main_v33 main_v34
  let main_v36 : IVec S4194304 32 := broadcastInDim S4194304 ![] bcast_S_S4194304 main_v6
  let main_v37 : IVec S4194304 1 := cmpi .eq main_v35 main_v36
  let main_cst_7 : FVec F S_ .f32 := constant S_ .f32 0x00000000#32
  fn_part2 (F := F) main_arg0 main_arg1 main_arg2 main_arg3 main_arg4 main_v1 main_v3 main_v6 main_v26 main_v32 main_v37 main_cst_7

def fn {F : FTy → Type} [FloatOps F] (main_arg0 : FVec F S16x1x512x512 .f32) (main_arg1 : FVec F S16x1x512x512 .f32) (main_arg2 : FVec F S16x1x512x512 .f32) (main_arg3 : FVec F S16x1x512x512 .f32) (main_arg4 : FVec F S_ .f32) : IVec S_ 1 × IVec S_ 1 :=
  let main_cst : FVec F S_ .f32 := constant S_ .f32 0x3F000000#32
  let main_v0 : FVec F S16x1x512x512 .f32 := broadcastInDim S16x1x512x512 ![] bcast_S_S16x1x512x512 main_cst
  let main_v1 : IVec S16x1x512x512 1 := cmpf .ogt main_arg2 main_v0
  let main_v2 : IVec S16x1x512x512 32 := (extui 32 · natLt_1_32) main_v1
  let main_c : IVec S_ 32 := constantI S_ 32 0#32
  let main_v3 : IVec S_ 32 := (fun x v => Host.reduce IntOp.addi x v reducesTo_S16x1x512x512_S_d0_1_2_3 h_S_) main_v2 main_c
  let main_c_0 : IVec S_ 32 := constantI S_ 32 4194304#32
  let main_v4 : IVec S_ 32 := subi main_c_0 main_v3
  let main_c_1 : IVec S_ 32 := constantI S_ 32 3#32
  let main_v5 : IVec S_ 32 := muli main_c_1 main_v3
  let main_v6 : IVec S_ 32 := minsi main_v4 main_v5
  let main_v7 : FVec F S16x1x512x512 .f32 := Host.negf main_arg0
  let main_cst_2 : FVec F S_ .f32 := constant S_ .f32 0x00000000#32
  let main_v8 : FVec F S16x1x512x512 .f32 := broadcastInDim S16x1x512x512 ![] bcast_S_S16x1x512x512 main_cst_2
  let main_v9 : FVec F S16x1x512x512 .f32 := maximumf main_v7 main_v8
  let main_v10 : FVec F S16x1x512x512 .f32 := Host.absf main_v7
  let main_v11 : FVec F S16x1x512x512 .f32 := Host.negf main_v10
  let main_v12 : FVec F S16x1x512x512 .f32 := Host.exp main_v11
  let main_v13 : FVec F S16x1x512x512 .f32 := Host.log1p main_v12
  let main_v14 : FVec F S16x1x512x512 .f32 := addf main_v9 main_v13
  let main_v15 : FVec F S16x1x512x512 .f32 := mulf main_arg2 main_v14
  let main_cst_3 : FVec F S_ .f32 := constant S_ .f32 0x3F800000#32
  let main_v16 : FVec F S16x1x512x512 .f32 := broadcastInDim S16x1x512x512 ![] bcast_S_S16x1x512x512 main_cst_3
  let main_v17 : FVec F S16x1x512x512 .f32 := subf main_v16 main_arg2
  fn_part1 (F := F) main_arg0 main_arg1 main_arg2 main_arg3 main_arg4 main_v1 main_v3 main_v6 main_v15 main_v17
-- ==== Pre_kept_exactly.lean ====
abbrev S16x1x512x512 : Shape := ⟨4, ![16, 1, 512, 512]⟩
abbrev S_ : Shape := ⟨0, ![]⟩
abbrev S4194304 : Shape := ⟨1, ![4194304]⟩
abbrev S254 : Shape := ⟨1, ![254]⟩

class Facts : Prop where
  bcast_S_S16x1x512x512 : S_.BroadcastsInDim S16x1x512x512 (![] : Fin 0 → Fin S16x1x512x512.rank)
  natLt_1_32 : 1 < 32
  reducesTo_S16x1x512x512_S_d0_1_2_3 : S16x1x512x512.ReducesTo [0, 1, 2, 3] S_
  h_S_ : 0 < S_.numel
  shapeCasts_S16x1x512x512_S4194304 : S16x1x512x512.ShapeCasts S4194304
  bcast_S_S4194304 : S_.BroadcastsInDim S4194304 (![] : Fin 0 → Fin S4194304.rank)
  reducesTo_S4194304_S_d0 : S4194304.ReducesTo [0] S_
  bcast_S_S254 : S_.BroadcastsInDim S254 (![] : Fin 0 → Fin S254.rank)
  reducesTo_S254_S_d0 : S254.ReducesTo [0] S_

variable [Facts]

variable {F : FTy → Type} [FloatOps F]
def comparator_f32_d0 : F .f32 → F .f32 → BitVec 1 :=
  fun l r =>
    let cst_38 := FloatOps.ofBits .f32 0x00000000#32
    let v142 := FloatOps.cmpf .oeq l cst_38
    let cst_39 := FloatOps.ofBits .f32 0x00000000#32
    let v143 := Scalar.select v142 cst_39 l
    let v144 := FloatOps.cmpf .une l l
    let cst_40 := FloatOps.ofBits .f32 0x7FC00000#32
    let v145 := Scalar.select v144 cst_40 v143
    let cst_41 := FloatOps.ofBits .f32 0x00000000#32
    let v146 := FloatOps.cmpf .oeq r cst_41
    let cst_42 := FloatOps.ofBits .f32 0x00000000#32
    let v147 := Scalar.select v146 cst_42 r
    let v148 := FloatOps.cmpf .une r r
    let cst_43 := FloatOps.ofBits .f32 0x7FC00000#32
    let v149 := Scalar.select v148 cst_43 v147
    let v150 := FloatOps.cmpfTotal .lt v145 v149
    v150

def fn_part7 {F : FTy → Type} [FloatOps F] (main_v2 : IVec S16x1x512x512 1) (main_v5 : IVec S16x1x512x512 1) (main_v8 : IVec S16x1x512x512 1) (main_v11 : IVec S16x1x512x512 1) (main_v73 : IVec S_ 1) (main_v84 : IVec S_ 32) (main_v86 : IVec S_ 32) (main_v130 : FVec F S254 .f32) : IVec S16x1x512x512 1 × IVec S16x1x512x512 1 × IVec S16x1x512x512 1 × IVec S16x1x512x512 1 × IVec S_ 1 × IVec S_ 1 :=
  let main_v131 : FVec F S254 .f32 := Host.absf main_v130
  let main_cst_35 : FVec F S_ .f32 := constant S_ .f32 0x4B800000#32
  let main_v132 : FVec F S254 .f32 := broadcastInDim S254 ![] bcast_S_S254 main_cst_35
  let main_v133 : IVec S254 1 := cmpf .olt main_v131 main_v132
  let main_v134 : FVec F S254 .f32 := Host.floor main_v130
  let main_v135 : IVec S254 1 := cmpf .oeq main_v134 main_v130
  let main_v136 : IVec S254 1 := andi main_v133 main_v135
  let main_c_36 : IVec S_ 1 := constantI S_ 1 0#1
  let main_v137 : IVec S_ 1 := (fun x v => Host.reduce IntOp.ori x v reducesTo_S254_S_d0 h_S_) main_v136 main_c_36
  let main_v138 : IVec S_ 1 := cmpi .eq main_v86 main_v84
  let main_v139 : IVec S_ 1 := ori main_v137 main_v138
  let main_c_37 : IVec S_ 32 := constantI S_ 32 0#32
  let main_v140 : IVec S_ 1 := cmpi .eq main_v86 main_c_37
  let main_v141 : IVec S_ 1 := ori main_v139 main_v140
  (main_v2, main_v5, main_v8, main_v11, main_v73, main_v141)

def fn_part6 {F : FTy → Type} [FloatOps F] (main_v2 : IVec S16x1x512x512 1) (main_v5 : IVec S16x1x512x512 1) (main_v8 : IVec S16x1x512x512 1) (main_v11 : IVec S16x1x512x512 1) (main_v73 : IVec S_ 1) (main_v84 : IVec S_ 32) (main_v86 : IVec S_ 32) (main_v112 : FVec F S4194304 .f32) : IVec S16x1x512x512 1 × IVec S16x1x512x512 1 × IVec S16x1x512x512 1 × IVec S16x1x512x512 1 × IVec S_ 1 × IVec S_ 1 :=
  let main_v113 : IVec S4194304 32 := iotaInDim S4194304 32 0
  let main_c_29 : IVec S_ 32 := constantI S_ 32 1#32
  let main_v114 : IVec S4194304 32 := broadcastInDim S4194304 ![] bcast_S_S4194304 main_c_29
  let main_v115 : IVec S4194304 32 := addi main_v113 main_v114
  let main_v116 : IVec S4194304 32 := broadcastInDim S4194304 ![] bcast_S_S4194304 main_v86
  let main_v117 : IVec S4194304 1 := cmpi .eq main_v115 main_v116
  let main_cst_30 : FVec F S_ .f32 := constant S_ .f32 0x00000000#32
  let main_v118 : FVec F S4194304 .f32 := broadcastInDim S4194304 ![] bcast_S_S4194304 main_cst_30
  let main_v119 : FVec F S4194304 .f32 := select main_v117 main_v112 main_v118
  let main_cst_31 : FVec F S_ .f32 := constant S_ .f32 0x00000000#32
  let main_v120 : FVec F S_ .f32 := (fun x v => Host.reduceAdd x v reducesTo_S4194304_S_d0 h_S_) main_v119 main_cst_31
  let main_v121 : IVec S254 32 := iotaInDim S254 32 0
  let main_c_32 : IVec S_ 32 := constantI S_ 32 1#32
  let main_v122 : IVec S254 32 := broadcastInDim S254 ![] bcast_S_S254 main_c_32
  let main_v123 : IVec S254 32 := addi main_v121 main_v122
  let main_c_33 : IVec S_ 32 := constantI S_ 32 23#32
  let main_v124 : IVec S254 32 := broadcastInDim S254 ![] bcast_S_S254 main_c_33
  let main_v125 : IVec S254 32 := Host.shli main_v123 main_v124
  let main_v126 : FVec F S254 .f32 := bitcastToFloat .f32 main_v125
  let main_v127 : FVec F S254 .f32 := broadcastInDim S254 ![] bcast_S_S254 main_v120
  let main_v128 : FVec F S254 .f32 := Host.divf main_v127 main_v126
  let main_cst_34 : FVec F S_ .f32 := constant S_ .f32 0x4B000000#32
  let main_v129 : FVec F S254 .f32 := broadcastInDim S254 ![] bcast_S_S254 main_cst_34
  let main_v130 : FVec F S254 .f32 := mulf main_v128 main_v129
  fn_part7 (F := F) main_v2 main_v5 main_v8 main_v11 main_v73 main_v84 main_v86 main_v130

def fn_part5 {F : FTy → Type} [FloatOps F] (main_v2 : IVec S16x1x512x512 1) (main_v5 : IVec S16x1x512x512 1) (main_v8 : IVec S16x1x512x512 1) (main_v11 : IVec S16x1x512x512 1) (main_v73 : IVec S_ 1) (main_v76 : FVec F S16x1x512x512 .f32) (main_v79 : FVec F S16x1x512x512 .f32) (main_v81 : IVec S16x1x512x512 1) (main_v84 : IVec S_ 32) (main_v86 : IVec S_ 32) (main_v89 : FVec F S16x1x512x512 .f32) (main_v91 : FVec F S16x1x512x512 .f32) : IVec S16x1x512x512 1 × IVec S16x1x512x512 1 × IVec S16x1x512x512 1 × IVec S16x1x512x512 1 × IVec S_ 1 × IVec S_ 1 :=
  let main_v92 : FVec F S16x1x512x512 .f32 := Host.exp main_v91
  let main_v93 : FVec F S16x1x512x512 .f32 := Host.log1p main_v92
  let main_v94 : FVec F S16x1x512x512 .f32 := addf main_v89 main_v93
  let main_v95 : FVec F S16x1x512x512 .f32 := mulf main_v79 main_v94
  let main_cst_26 : FVec F S_ .f32 := constant S_ .f32 0x3F800000#32
  let main_v96 : FVec F S16x1x512x512 .f32 := broadcastInDim S16x1x512x512 ![] bcast_S_S16x1x512x512 main_cst_26
  let main_v97 : FVec F S16x1x512x512 .f32 := subf main_v96 main_v79
  let main_cst_27 : FVec F S_ .f32 := constant S_ .f32 0x00000000#32
  let main_v98 : FVec F S16x1x512x512 .f32 := broadcastInDim S16x1x512x512 ![] bcast_S_S16x1x512x512 main_cst_27
  let main_v99 : FVec F S16x1x512x512 .f32 := maximumf main_v76 main_v98
  let main_v100 : FVec F S16x1x512x512 .f32 := Host.absf main_v76
  let main_v101 : FVec F S16x1x512x512 .f32 := Host.negf main_v100
  let main_v102 : FVec F S16x1x512x512 .f32 := Host.exp main_v101
  let main_v103 : FVec F S16x1x512x512 .f32 := Host.log1p main_v102
  let main_v104 : FVec F S16x1x512x512 .f32 := addf main_v99 main_v103
  let main_v105 : FVec F S16x1x512x512 .f32 := mulf main_v97 main_v104
  let main_v106 : FVec F S16x1x512x512 .f32 := addf main_v95 main_v105
  let main_cst_28 : FVec F S_ .f32 := constant S_ .f32 0xFF800000#32
  let main_v107 : FVec F S16x1x512x512 .f32 := broadcastInDim S16x1x512x512 ![] bcast_S_S16x1x512x512 main_cst_28
  let main_v108 : FVec F S16x1x512x512 .f32 := select main_v81 main_v107 main_v106
  let main_v109 : FVec F S4194304 .f32 := shapeCast S4194304 main_v108 shapeCasts_S16x1x512x512_S4194304
  let main_v110 : FVec F S4194304 .f32 := Host.negf main_v109
  let main_v111 : FVec F S4194304 .f32 := (fun x => Host.sort S4194304 0 comparator_f32_d0 x) main_v110
  let main_v112 : FVec F S4194304 .f32 := Host.negf main_v111
  fn_part6 (F := F) main_v2 main_v5 main_v8 main_v11 main_v73 main_v84 main_v86 main_v112

def fn_part4 {F : FTy → Type} [FloatOps F] (main_arg2 : FVec F S16x1x512x512 .f32) (main_arg3 : FVec F S16x1x512x512 .f32) (main_v2 : IVec S16x1x512x512 1) (main_v5 : IVec S16x1x512x512 1) (main_v8 : IVec S16x1x512x512 1) (main_v11 : IVec S16x1x512x512 1) (main_v73 : IVec S_ 1) (main_v74 : FVec F S16x1x512x512 .f32) : IVec S16x1x512x512 1 × IVec S16x1x512x512 1 × IVec S16x1x512x512 1 × IVec S16x1x512x512 1 × IVec S_ 1 × IVec S_ 1 :=
  let main_cst_19 : FVec F S_ .f32 := constant S_ .f32 0x42480000#32
  let main_v75 : FVec F S16x1x512x512 .f32 := broadcastInDim S16x1x512x512 ![] bcast_S_S16x1x512x512 main_cst_19
  let main_v76 : FVec F S16x1x512x512 .f32 := mulf main_v75 main_v74
  let main_v77 : FVec F S16x1x512x512 .f32 := subf main_arg2 main_arg3
  let main_cst_20 : FVec F S_ .f32 := constant S_ .f32 0x42480000#32
  let main_v78 : FVec F S16x1x512x512 .f32 := broadcastInDim S16x1x512x512 ![] bcast_S_S16x1x512x512 main_cst_20
  let main_v79 : FVec F S16x1x512x512 .f32 := mulf main_v78 main_v77
  let main_cst_21 : FVec F S_ .f32 := constant S_ .f32 0x3F000000#32
  let main_v80 : FVec F S16x1x512x512 .f32 := broadcastInDim S16x1x512x512 ![] bcast_S_S16x1x512x512 main_cst_21
  let main_v81 : IVec S16x1x512x512 1 := cmpf .ogt main_v79 main_v80
  let main_v82 : IVec S16x1x512x512 32 := (extui 32 · natLt_1_32) main_v81
  let main_c_22 : IVec S_ 32 := constantI S_ 32 0#32
  let main_v83 : IVec S_ 32 := (fun x v => Host.reduce IntOp.addi x v reducesTo_S16x1x512x512_S_d0_1_2_3 h_S_) main_v82 main_c_22
  let main_c_23 : IVec S_ 32 := constantI S_ 32 4194304#32
  let main_v84 : IVec S_ 32 := subi main_c_23 main_v83
  let main_c_24 : IVec S_ 32 := constantI S_ 32 3#32
  let main_v85 : IVec S_ 32 := muli main_c_24 main_v83
  let main_v86 : IVec S_ 32 := minsi main_v84 main_v85
  let main_v87 : FVec F S16x1x512x512 .f32 := Host.negf main_v76
  let main_cst_25 : FVec F S_ .f32 := constant S_ .f32 0x00000000#32
  let main_v88 : FVec F S16x1x512x512 .f32 := broadcastInDim S16x1x512x512 ![] bcast_S_S16x1x512x512 main_cst_25
  let main_v89 : FVec F S16x1x512x512 .f32 := maximumf main_v87 main_v88
  let main_v90 : FVec F S16x1x512x512 .f32 := Host.absf main_v87
  let main_v91 : FVec F S16x1x512x512 .f32 := Host.negf main_v90
  fn_part5 (F := F) main_v2 main_v5 main_v8 main_v11 main_v73 main_v76 main_v79 main_v81 main_v84 main_v86 main_v89 main_v91

def fn_part3 {F : FTy → Type} [FloatOps F] (main_arg0 : FVec F S16x1x512x512 .f32) (main_arg1 : FVec F S16x1x512x512 .f32) (main_arg2 : FVec F S16x1x512x512 .f32) (main_arg3 : FVec F S16x1x512x512 .f32) (main_v2 : IVec S16x1x512x512 1) (main_v5 : IVec S16x1x512x512 1) (main_v8 : IVec S16x1x512x512 1) (main_v11 : IVec S16x1x512x512 1) (main_v16 : IVec S_ 32) (main_v18 : IVec S_ 32) (main_v52 : FVec F S_ .f32) (main_v55 : IVec S254 32) : IVec S16x1x512x512 1 × IVec S16x1x512x512 1 × IVec S16x1x512x512 1 × IVec S16x1x512x512 1 × IVec S_ 1 × IVec S_ 1 :=
  let main_c_14 : IVec S_ 32 := constantI S_ 32 23#32
  let main_v56 : IVec S254 32 := broadcastInDim S254 ![] bcast_S_S254 main_c_14
  let main_v57 : IVec S254 32 := Host.shli main_v55 main_v56
  let main_v58 : FVec F S254 .f32 := bitcastToFloat .f32 main_v57
  let main_v59 : FVec F S254 .f32 := broadcastInDim S254 ![] bcast_S_S254 main_v52
  let main_v60 : FVec F S254 .f32 := Host.divf main_v59 main_v58
  let main_cst_15 : FVec F S_ .f32 := constant S_ .f32 0x4B000000#32
  let main_v61 : FVec F S254 .f32 := broadcastInDim S254 ![] bcast_S_S254 main_cst_15
  let main_v62 : FVec F S254 .f32 := mulf main_v60 main_v61
  let main_v63 : FVec F S254 .f32 := Host.absf main_v62
  let main_cst_16 : FVec F S_ .f32 := constant S_ .f32 0x4B800000#32
  let main_v64 : FVec F S254 .f32 := broadcastInDim S254 ![] bcast_S_S254 main_cst_16
  let main_v65 : IVec S254 1 := cmpf .olt main_v63 main_v64
  let main_v66 : FVec F S254 .f32 := Host.floor main_v62
  let main_v67 : IVec S254 1 := cmpf .oeq main_v66 main_v62
  let main_v68 : IVec S254 1 := andi main_v65 main_v67
  let main_c_17 : IVec S_ 1 := constantI S_ 1 0#1
  let main_v69 : IVec S_ 1 := (fun x v => Host.reduce IntOp.ori x v reducesTo_S254_S_d0 h_S_) main_v68 main_c_17
  let main_v70 : IVec S_ 1 := cmpi .eq main_v18 main_v16
  let main_v71 : IVec S_ 1 := ori main_v69 main_v70
  let main_c_18 : IVec S_ 32 := constantI S_ 32 0#32
  let main_v72 : IVec S_ 1 := cmpi .eq main_v18 main_c_18
  let main_v73 : IVec S_ 1 := ori main_v71 main_v72
  let main_v74 : FVec F S16x1x512x512 .f32 := subf main_arg0 main_arg1
  fn_part4 (F := F) main_arg2 main_arg3 main_v2 main_v5 main_v8 main_v11 main_v73 main_v74

def fn_part2 {F : FTy → Type} [FloatOps F] (main_arg0 : FVec F S16x1x512x512 .f32) (main_arg1 : FVec F S16x1x512x512 .f32) (main_arg2 : FVec F S16x1x512x512 .f32) (main_arg3 : FVec F S16x1x512x512 .f32) (main_v2 : IVec S16x1x512x512 1) (main_v5 : IVec S16x1x512x512 1) (main_v8 : IVec S16x1x512x512 1) (main_v11 : IVec S16x1x512x512 1) (main_v13 : IVec S16x1x512x512 1) (main_v16 : IVec S_ 32) (main_v18 : IVec S_ 32) (main_v27 : FVec F S16x1x512x512 .f32) (main_v29 : FVec F S16x1x512x512 .f32) (main_v36 : FVec F S16x1x512x512 .f32) : IVec S16x1x512x512 1 × IVec S16x1x512x512 1 × IVec S16x1x512x512 1 × IVec S16x1x512x512 1 × IVec S_ 1 × IVec S_ 1 :=
  let main_v37 : FVec F S16x1x512x512 .f32 := mulf main_v29 main_v36
  let main_v38 : FVec F S16x1x512x512 .f32 := addf main_v27 main_v37
  let main_cst_9 : FVec F S_ .f32 := constant S_ .f32 0xFF800000#32
  let main_v39 : FVec F S16x1x512x512 .f32 := broadcastInDim S16x1x512x512 ![] bcast_S_S16x1x512x512 main_cst_9
  let main_v40 : FVec F S16x1x512x512 .f32 := select main_v13 main_v39 main_v38
  let main_v41 : FVec F S4194304 .f32 := shapeCast S4194304 main_v40 shapeCasts_S16x1x512x512_S4194304
  let main_v42 : FVec F S4194304 .f32 := Host.negf main_v41
  let main_v43 : FVec F S4194304 .f32 := (fun x => Host.sort S4194304 0 comparator_f32_d0 x) main_v42
  let main_v44 : FVec F S4194304 .f32 := Host.negf main_v43
  let main_v45 : IVec S4194304 32 := iotaInDim S4194304 32 0
  let main_c_10 : IVec S_ 32 := constantI S_ 32 1#32
  let main_v46 : IVec S4194304 32 := broadcastInDim S4194304 ![] bcast_S_S4194304 main_c_10
  let main_v47 : IVec S4194304 32 := addi main_v45 main_v46
  let main_v48 : IVec S4194304 32 := broadcastInDim S4194304 ![] bcast_S_S4194304 main_v18
  let main_v49 : IVec S4194304 1 := cmpi .eq main_v47 main_v48
  let main_cst_11 : FVec F S_ .f32 := constant S_ .f32 0x00000000#32
  let main_v50 : FVec F S4194304 .f32 := broadcastInDim S4194304 ![] bcast_S_S4194304 main_cst_11
  let main_v51 : FVec F S4194304 .f32 := select main_v49 main_v44 main_v50
  let main_cst_12 : FVec F S_ .f32 := constant S_ .f32 0x00000000#32
  let main_v52 : FVec F S_ .f32 := (fun x v => Host.reduceAdd x v reducesTo_S4194304_S_d0 h_S_) main_v51 main_cst_12
  let main_v53 : IVec S254 32 := iotaInDim S254 32 0
  let main_c_13 : IVec S_ 32 := constantI S_ 32 1#32
  let main_v54 : IVec S254 32 := broadcastInDim S254 ![] bcast_S_S254 main_c_13
  let main_v55 : IVec S254 32 := addi main_v53 main_v54
  fn_part3 (F := F) main_arg0 main_arg1 main_arg2 main_arg3 main_v2 main_v5 main_v8 main_v11 main_v16 main_v18 main_v52 main_v55

def fn_part1 {F : FTy → Type} [FloatOps F] (main_arg0 : FVec F S16x1x512x512 .f32) (main_arg1 : FVec F S16x1x512x512 .f32) (main_arg2 : FVec F S16x1x512x512 .f32) (main_arg3 : FVec F S16x1x512x512 .f32) (main_v2 : IVec S16x1x512x512 1) (main_v5 : IVec S16x1x512x512 1) (main_v8 : IVec S16x1x512x512 1) (main_v11 : IVec S16x1x512x512 1) (main_v13 : IVec S16x1x512x512 1) (main_v15 : IVec S_ 32) (main_v16 : IVec S_ 32) : IVec S16x1x512x512 1 × IVec S16x1x512x512 1 × IVec S16x1x512x512 1 × IVec S16x1x512x512 1 × IVec S_ 1 × IVec S_ 1 :=
  let main_c_5 : IVec S_ 32 := constantI S_ 32 3#32
  let main_v17 : IVec S_ 32 := muli main_c_5 main_v15
  let main_v18 : IVec S_ 32 := minsi main_v16 main_v17
  let main_v19 : FVec F S16x1x512x512 .f32 := Host.negf main_arg0
  let main_cst_6 : FVec F S_ .f32 := constant S_ .f32 0x00000000#32
  let main_v20 : FVec F S16x1x512x512 .f32 := broadcastInDim S16x1x512x512 ![] bcast_S_S16x1x512x512 main_cst_6
  let main_v21 : FVec F S16x1x512x512 .f32 := maximumf main_v19 main_v20
  let main_v22 : FVec F S16x1x512x512 .f32 := Host.absf main_v19
  let main_v23 : FVec F S16x1x512x512 .f32 := Host.negf main_v22
  let main_v24 : FVec F S16x1x512x512 .f32 := Host.exp main_v23
  let main_v25 : FVec F S16x1x512x512 .f32 := Host.log1p main_v24
  let main_v26 : FVec F S16x1x512x512 .f32 := addf main_v21 main_v25
  let main_v27 : FVec F S16x1x512x512 .f32 := mulf main_arg2 main_v26
  let main_cst_7 : FVec F S_ .f32 := constant S_ .f32 0x3F800000#32
  let main_v28 : FVec F S16x1x512x512 .f32 := broadcastInDim S16x1x512x512 ![] bcast_S_S16x1x512x512 main_cst_7
  let main_v29 : FVec F S16x1x512x512 .f32 := subf main_v28 main_arg2
  let main_cst_8 : FVec F S_ .f32 := constant S_ .f32 0x00000000#32
  let main_v30 : FVec F S16x1x512x512 .f32 := broadcastInDim S16x1x512x512 ![] bcast_S_S16x1x512x512 main_cst_8
  let main_v31 : FVec F S16x1x512x512 .f32 := maximumf main_arg0 main_v30
  let main_v32 : FVec F S16x1x512x512 .f32 := Host.absf main_arg0
  let main_v33 : FVec F S16x1x512x512 .f32 := Host.negf main_v32
  let main_v34 : FVec F S16x1x512x512 .f32 := Host.exp main_v33
  let main_v35 : FVec F S16x1x512x512 .f32 := Host.log1p main_v34
  let main_v36 : FVec F S16x1x512x512 .f32 := addf main_v31 main_v35
  fn_part2 (F := F) main_arg0 main_arg1 main_arg2 main_arg3 main_v2 main_v5 main_v8 main_v11 main_v13 main_v16 main_v18 main_v27 main_v29 main_v36

def fn {F : FTy → Type} [FloatOps F] (main_arg0 : FVec F S16x1x512x512 .f32) (main_arg1 : FVec F S16x1x512x512 .f32) (main_arg2 : FVec F S16x1x512x512 .f32) (main_arg3 : FVec F S16x1x512x512 .f32) : IVec S16x1x512x512 1 × IVec S16x1x512x512 1 × IVec S16x1x512x512 1 × IVec S16x1x512x512 1 × IVec S_ 1 × IVec S_ 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  let main_v3 : FVec F S16x1x512x512 .f32 := Host.absf main_arg1
  let main_cst_0 : FVec F S_ .f32 := constant S_ .f32 0x7F800000#32
  let main_v4 : FVec F S16x1x512x512 .f32 := broadcastInDim S16x1x512x512 ![] bcast_S_S16x1x512x512 main_cst_0
  let main_v5 : IVec S16x1x512x512 1 := cmpf .olt main_v3 main_v4
  let main_v6 : FVec F S16x1x512x512 .f32 := Host.absf main_arg2
  let main_cst_1 : FVec F S_ .f32 := constant S_ .f32 0x7F800000#32
  let main_v7 : FVec F S16x1x512x512 .f32 := broadcastInDim S16x1x512x512 ![] bcast_S_S16x1x512x512 main_cst_1
  let main_v8 : IVec S16x1x512x512 1 := cmpf .olt main_v6 main_v7
  let main_v9 : FVec F S16x1x512x512 .f32 := Host.absf main_arg3
  let main_cst_2 : FVec F S_ .f32 := constant S_ .f32 0x7F800000#32
  let main_v10 : FVec F S16x1x512x512 .f32 := broadcastInDim S16x1x512x512 ![] bcast_S_S16x1x512x512 main_cst_2
  let main_v11 : IVec S16x1x512x512 1 := cmpf .olt main_v9 main_v10
  let main_cst_3 : FVec F S_ .f32 := constant S_ .f32 0x3F000000#32
  let main_v12 : FVec F S16x1x512x512 .f32 := broadcastInDim S16x1x512x512 ![] bcast_S_S16x1x512x512 main_cst_3
  let main_v13 : IVec S16x1x512x512 1 := cmpf .ogt main_arg2 main_v12
  let main_v14 : IVec S16x1x512x512 32 := (extui 32 · natLt_1_32) main_v13
  let main_c : IVec S_ 32 := constantI S_ 32 0#32
  let main_v15 : IVec S_ 32 := (fun x v => Host.reduce IntOp.addi x v reducesTo_S16x1x512x512_S_d0_1_2_3 h_S_) main_v14 main_c
  let main_c_4 : IVec S_ 32 := constantI S_ 32 4194304#32
  let main_v16 : IVec S_ 32 := subi main_c_4 main_v15
  fn_part1 (F := F) main_arg0 main_arg1 main_arg2 main_arg3 main_v2 main_v5 main_v8 main_v11 main_v13 main_v15 main_v16
-- ==== Pre_kept_in_range.lean ====
abbrev S16x1x512x512 : Shape := ⟨4, ![16, 1, 512, 512]⟩
abbrev S_ : Shape := ⟨0, ![]⟩
abbrev S4194304 : Shape := ⟨1, ![4194304]⟩

class Facts : Prop where
  bcast_S_S16x1x512x512 : S_.BroadcastsInDim S16x1x512x512 (![] : Fin 0 → Fin S16x1x512x512.rank)
  natLt_1_32 : 1 < 32
  reducesTo_S16x1x512x512_S_d0_1_2_3 : S16x1x512x512.ReducesTo [0, 1, 2, 3] S_
  h_S_ : 0 < S_.numel
  shapeCasts_S16x1x512x512_S4194304 : S16x1x512x512.ShapeCasts S4194304
  bcast_S_S4194304 : S_.BroadcastsInDim S4194304 (![] : Fin 0 → Fin S4194304.rank)
  reducesTo_S4194304_S_d0 : S4194304.ReducesTo [0] S_

variable [Facts]

variable {F : FTy → Type} [FloatOps F]
def comparator_f32_d0 : F .f32 → F .f32 → BitVec 1 :=
  fun l r =>
    let cst_28 := FloatOps.ofBits .f32 0x00000000#32
    let v104 := FloatOps.cmpf .oeq l cst_28
    let cst_29 := FloatOps.ofBits .f32 0x00000000#32
    let v105 := Scalar.select v104 cst_29 l
    let v106 := FloatOps.cmpf .une l l
    let cst_30 := FloatOps.ofBits .f32 0x7FC00000#32
    let v107 := Scalar.select v106 cst_30 v105
    let cst_31 := FloatOps.ofBits .f32 0x00000000#32
    let v108 := FloatOps.cmpf .oeq r cst_31
    let cst_32 := FloatOps.ofBits .f32 0x00000000#32
    let v109 := Scalar.select v108 cst_32 r
    let v110 := FloatOps.cmpf .une r r
    let cst_33 := FloatOps.ofBits .f32 0x7FC00000#32
    let v111 := Scalar.select v110 cst_33 v109
    let v112 := FloatOps.cmpfTotal .lt v107 v111
    v112

def fn_part5 {F : FTy → Type} [FloatOps F] (main_v2 : IVec S16x1x512x512 1) (main_v5 : IVec S16x1x512x512 1) (main_v8 : IVec S16x1x512x512 1) (main_v11 : IVec S16x1x512x512 1) (main_v54 : IVec S_ 1) (main_v67 : IVec S_ 32) (main_v93 : FVec F S4194304 .f32) : IVec S16x1x512x512 1 × IVec S16x1x512x512 1 × IVec S16x1x512x512 1 × IVec S16x1x512x512 1 × IVec S_ 1 × IVec S_ 1 :=
  let main_v94 : IVec S4194304 32 := iotaInDim S4194304 32 0
  let main_c_24 : IVec S_ 32 := constantI S_ 32 1#32
  let main_v95 : IVec S4194304 32 := broadcastInDim S4194304 ![] bcast_S_S4194304 main_c_24
  let main_v96 : IVec S4194304 32 := addi main_v94 main_v95
  let main_v97 : IVec S4194304 32 := broadcastInDim S4194304 ![] bcast_S_S4194304 main_v67
  let main_v98 : IVec S4194304 1 := cmpi .eq main_v96 main_v97
  let main_cst_25 : FVec F S_ .f32 := constant S_ .f32 0x00000000#32
  let main_v99 : FVec F S4194304 .f32 := broadcastInDim S4194304 ![] bcast_S_S4194304 main_cst_25
  let main_v100 : FVec F S4194304 .f32 := select main_v98 main_v93 main_v99
  let main_cst_26 : FVec F S_ .f32 := constant S_ .f32 0x00000000#32
  let main_v101 : FVec F S_ .f32 := (fun x v => Host.reduceAdd x v reducesTo_S4194304_S_d0 h_S_) main_v100 main_cst_26
  let main_v102 : FVec F S_ .f32 := Host.absf main_v101
  let main_cst_27 : FVec F S_ .f32 := constant S_ .f32 0x7F7FFFFF#32
  let main_v103 : IVec S_ 1 := cmpf .ole main_v102 main_cst_27
  (main_v2, main_v5, main_v8, main_v11, main_v54, main_v103)

def fn_part4 {F : FTy → Type} [FloatOps F] (main_v2 : IVec S16x1x512x512 1) (main_v5 : IVec S16x1x512x512 1) (main_v8 : IVec S16x1x512x512 1) (main_v11 : IVec S16x1x512x512 1) (main_v54 : IVec S_ 1) (main_v57 : FVec F S16x1x512x512 .f32) (main_v60 : FVec F S16x1x512x512 .f32) (main_v62 : IVec S16x1x512x512 1) (main_v67 : IVec S_ 32) (main_v70 : FVec F S16x1x512x512 .f32) (main_v72 : FVec F S16x1x512x512 .f32) : IVec S16x1x512x512 1 × IVec S16x1x512x512 1 × IVec S16x1x512x512 1 × IVec S16x1x512x512 1 × IVec S_ 1 × IVec S_ 1 :=
  let main_v73 : FVec F S16x1x512x512 .f32 := Host.exp main_v72
  let main_v74 : FVec F S16x1x512x512 .f32 := Host.log1p main_v73
  let main_v75 : FVec F S16x1x512x512 .f32 := addf main_v70 main_v74
  let main_v76 : FVec F S16x1x512x512 .f32 := mulf main_v60 main_v75
  let main_cst_21 : FVec F S_ .f32 := constant S_ .f32 0x3F800000#32
  let main_v77 : FVec F S16x1x512x512 .f32 := broadcastInDim S16x1x512x512 ![] bcast_S_S16x1x512x512 main_cst_21
  let main_v78 : FVec F S16x1x512x512 .f32 := subf main_v77 main_v60
  let main_cst_22 : FVec F S_ .f32 := constant S_ .f32 0x00000000#32
  let main_v79 : FVec F S16x1x512x512 .f32 := broadcastInDim S16x1x512x512 ![] bcast_S_S16x1x512x512 main_cst_22
  let main_v80 : FVec F S16x1x512x512 .f32 := maximumf main_v57 main_v79
  let main_v81 : FVec F S16x1x512x512 .f32 := Host.absf main_v57
  let main_v82 : FVec F S16x1x512x512 .f32 := Host.negf main_v81
  let main_v83 : FVec F S16x1x512x512 .f32 := Host.exp main_v82
  let main_v84 : FVec F S16x1x512x512 .f32 := Host.log1p main_v83
  let main_v85 : FVec F S16x1x512x512 .f32 := addf main_v80 main_v84
  let main_v86 : FVec F S16x1x512x512 .f32 := mulf main_v78 main_v85
  let main_v87 : FVec F S16x1x512x512 .f32 := addf main_v76 main_v86
  let main_cst_23 : FVec F S_ .f32 := constant S_ .f32 0xFF800000#32
  let main_v88 : FVec F S16x1x512x512 .f32 := broadcastInDim S16x1x512x512 ![] bcast_S_S16x1x512x512 main_cst_23
  let main_v89 : FVec F S16x1x512x512 .f32 := select main_v62 main_v88 main_v87
  let main_v90 : FVec F S4194304 .f32 := shapeCast S4194304 main_v89 shapeCasts_S16x1x512x512_S4194304
  let main_v91 : FVec F S4194304 .f32 := Host.negf main_v90
  let main_v92 : FVec F S4194304 .f32 := (fun x => Host.sort S4194304 0 comparator_f32_d0 x) main_v91
  let main_v93 : FVec F S4194304 .f32 := Host.negf main_v92
  fn_part5 (F := F) main_v2 main_v5 main_v8 main_v11 main_v54 main_v67 main_v93

def fn_part3 {F : FTy → Type} [FloatOps F] (main_arg2 : FVec F S16x1x512x512 .f32) (main_arg3 : FVec F S16x1x512x512 .f32) (main_v2 : IVec S16x1x512x512 1) (main_v5 : IVec S16x1x512x512 1) (main_v8 : IVec S16x1x512x512 1) (main_v11 : IVec S16x1x512x512 1) (main_v54 : IVec S_ 1) (main_v55 : FVec F S16x1x512x512 .f32) : IVec S16x1x512x512 1 × IVec S16x1x512x512 1 × IVec S16x1x512x512 1 × IVec S16x1x512x512 1 × IVec S_ 1 × IVec S_ 1 :=
  let main_cst_14 : FVec F S_ .f32 := constant S_ .f32 0x42480000#32
  let main_v56 : FVec F S16x1x512x512 .f32 := broadcastInDim S16x1x512x512 ![] bcast_S_S16x1x512x512 main_cst_14
  let main_v57 : FVec F S16x1x512x512 .f32 := mulf main_v56 main_v55
  let main_v58 : FVec F S16x1x512x512 .f32 := subf main_arg2 main_arg3
  let main_cst_15 : FVec F S_ .f32 := constant S_ .f32 0x42480000#32
  let main_v59 : FVec F S16x1x512x512 .f32 := broadcastInDim S16x1x512x512 ![] bcast_S_S16x1x512x512 main_cst_15
  let main_v60 : FVec F S16x1x512x512 .f32 := mulf main_v59 main_v58
  let main_cst_16 : FVec F S_ .f32 := constant S_ .f32 0x3F000000#32
  let main_v61 : FVec F S16x1x512x512 .f32 := broadcastInDim S16x1x512x512 ![] bcast_S_S16x1x512x512 main_cst_16
  let main_v62 : IVec S16x1x512x512 1 := cmpf .ogt main_v60 main_v61
  let main_v63 : IVec S16x1x512x512 32 := (extui 32 · natLt_1_32) main_v62
  let main_c_17 : IVec S_ 32 := constantI S_ 32 0#32
  let main_v64 : IVec S_ 32 := (fun x v => Host.reduce IntOp.addi x v reducesTo_S16x1x512x512_S_d0_1_2_3 h_S_) main_v63 main_c_17
  let main_c_18 : IVec S_ 32 := constantI S_ 32 4194304#32
  let main_v65 : IVec S_ 32 := subi main_c_18 main_v64
  let main_c_19 : IVec S_ 32 := constantI S_ 32 3#32
  let main_v66 : IVec S_ 32 := muli main_c_19 main_v64
  let main_v67 : IVec S_ 32 := minsi main_v65 main_v66
  let main_v68 : FVec F S16x1x512x512 .f32 := Host.negf main_v57
  let main_cst_20 : FVec F S_ .f32 := constant S_ .f32 0x00000000#32
  let main_v69 : FVec F S16x1x512x512 .f32 := broadcastInDim S16x1x512x512 ![] bcast_S_S16x1x512x512 main_cst_20
  let main_v70 : FVec F S16x1x512x512 .f32 := maximumf main_v68 main_v69
  let main_v71 : FVec F S16x1x512x512 .f32 := Host.absf main_v68
  let main_v72 : FVec F S16x1x512x512 .f32 := Host.negf main_v71
  fn_part4 (F := F) main_v2 main_v5 main_v8 main_v11 main_v54 main_v57 main_v60 main_v62 main_v67 main_v70 main_v72

def fn_part2 {F : FTy → Type} [FloatOps F] (main_arg0 : FVec F S16x1x512x512 .f32) (main_arg1 : FVec F S16x1x512x512 .f32) (main_arg2 : FVec F S16x1x512x512 .f32) (main_arg3 : FVec F S16x1x512x512 .f32) (main_v2 : IVec S16x1x512x512 1) (main_v5 : IVec S16x1x512x512 1) (main_v8 : IVec S16x1x512x512 1) (main_v11 : IVec S16x1x512x512 1) (main_v13 : IVec S16x1x512x512 1) (main_v18 : IVec S_ 32) (main_v27 : FVec F S16x1x512x512 .f32) (main_v29 : FVec F S16x1x512x512 .f32) (main_v36 : FVec F S16x1x512x512 .f32) : IVec S16x1x512x512 1 × IVec S16x1x512x512 1 × IVec S16x1x512x512 1 × IVec S16x1x512x512 1 × IVec S_ 1 × IVec S_ 1 :=
  let main_v37 : FVec F S16x1x512x512 .f32 := mulf main_v29 main_v36
  let main_v38 : FVec F S16x1x512x512 .f32 := addf main_v27 main_v37
  let main_cst_9 : FVec F S_ .f32 := constant S_ .f32 0xFF800000#32
  let main_v39 : FVec F S16x1x512x512 .f32 := broadcastInDim S16x1x512x512 ![] bcast_S_S16x1x512x512 main_cst_9
  let main_v40 : FVec F S16x1x512x512 .f32 := select main_v13 main_v39 main_v38
  let main_v41 : FVec F S4194304 .f32 := shapeCast S4194304 main_v40 shapeCasts_S16x1x512x512_S4194304
  let main_v42 : FVec F S4194304 .f32 := Host.negf main_v41
  let main_v43 : FVec F S4194304 .f32 := (fun x => Host.sort S4194304 0 comparator_f32_d0 x) main_v42
  let main_v44 : FVec F S4194304 .f32 := Host.negf main_v43
  let main_v45 : IVec S4194304 32 := iotaInDim S4194304 32 0
  let main_c_10 : IVec S_ 32 := constantI S_ 32 1#32
  let main_v46 : IVec S4194304 32 := broadcastInDim S4194304 ![] bcast_S_S4194304 main_c_10
  let main_v47 : IVec S4194304 32 := addi main_v45 main_v46
  let main_v48 : IVec S4194304 32 := broadcastInDim S4194304 ![] bcast_S_S4194304 main_v18
  let main_v49 : IVec S4194304 1 := cmpi .eq main_v47 main_v48
  let main_cst_11 : FVec F S_ .f32 := constant S_ .f32 0x00000000#32
  let main_v50 : FVec F S4194304 .f32 := broadcastInDim S4194304 ![] bcast_S_S4194304 main_cst_11
  let main_v51 : FVec F S4194304 .f32 := select main_v49 main_v44 main_v50
  let main_cst_12 : FVec F S_ .f32 := constant S_ .f32 0x00000000#32
  let main_v52 : FVec F S_ .f32 := (fun x v => Host.reduceAdd x v reducesTo_S4194304_S_d0 h_S_) main_v51 main_cst_12
  let main_v53 : FVec F S_ .f32 := Host.absf main_v52
  let main_cst_13 : FVec F S_ .f32 := constant S_ .f32 0x7F7FFFFF#32
  let main_v54 : IVec S_ 1 := cmpf .ole main_v53 main_cst_13
  let main_v55 : FVec F S16x1x512x512 .f32 := subf main_arg0 main_arg1
  fn_part3 (F := F) main_arg2 main_arg3 main_v2 main_v5 main_v8 main_v11 main_v54 main_v55

def fn_part1 {F : FTy → Type} [FloatOps F] (main_arg0 : FVec F S16x1x512x512 .f32) (main_arg1 : FVec F S16x1x512x512 .f32) (main_arg2 : FVec F S16x1x512x512 .f32) (main_arg3 : FVec F S16x1x512x512 .f32) (main_v2 : IVec S16x1x512x512 1) (main_v5 : IVec S16x1x512x512 1) (main_v8 : IVec S16x1x512x512 1) (main_v11 : IVec S16x1x512x512 1) (main_v13 : IVec S16x1x512x512 1) (main_v15 : IVec S_ 32) (main_v16 : IVec S_ 32) : IVec S16x1x512x512 1 × IVec S16x1x512x512 1 × IVec S16x1x512x512 1 × IVec S16x1x512x512 1 × IVec S_ 1 × IVec S_ 1 :=
  let main_c_5 : IVec S_ 32 := constantI S_ 32 3#32
  let main_v17 : IVec S_ 32 := muli main_c_5 main_v15
  let main_v18 : IVec S_ 32 := minsi main_v16 main_v17
  let main_v19 : FVec F S16x1x512x512 .f32 := Host.negf main_arg0
  let main_cst_6 : FVec F S_ .f32 := constant S_ .f32 0x00000000#32
  let main_v20 : FVec F S16x1x512x512 .f32 := broadcastInDim S16x1x512x512 ![] bcast_S_S16x1x512x512 main_cst_6
  let main_v21 : FVec F S16x1x512x512 .f32 := maximumf main_v19 main_v20
  let main_v22 : FVec F S16x1x512x512 .f32 := Host.absf main_v19
  let main_v23 : FVec F S16x1x512x512 .f32 := Host.negf main_v22
  let main_v24 : FVec F S16x1x512x512 .f32 := Host.exp main_v23
  let main_v25 : FVec F S16x1x512x512 .f32 := Host.log1p main_v24
  let main_v26 : FVec F S16x1x512x512 .f32 := addf main_v21 main_v25
  let main_v27 : FVec F S16x1x512x512 .f32 := mulf main_arg2 main_v26
  let main_cst_7 : FVec F S_ .f32 := constant S_ .f32 0x3F800000#32
  let main_v28 : FVec F S16x1x512x512 .f32 := broadcastInDim S16x1x512x512 ![] bcast_S_S16x1x512x512 main_cst_7
  let main_v29 : FVec F S16x1x512x512 .f32 := subf main_v28 main_arg2
  let main_cst_8 : FVec F S_ .f32 := constant S_ .f32 0x00000000#32
  let main_v30 : FVec F S16x1x512x512 .f32 := broadcastInDim S16x1x512x512 ![] bcast_S_S16x1x512x512 main_cst_8
  let main_v31 : FVec F S16x1x512x512 .f32 := maximumf main_arg0 main_v30
  let main_v32 : FVec F S16x1x512x512 .f32 := Host.absf main_arg0
  let main_v33 : FVec F S16x1x512x512 .f32 := Host.negf main_v32
  let main_v34 : FVec F S16x1x512x512 .f32 := Host.exp main_v33
  let main_v35 : FVec F S16x1x512x512 .f32 := Host.log1p main_v34
  let main_v36 : FVec F S16x1x512x512 .f32 := addf main_v31 main_v35
  fn_part2 (F := F) main_arg0 main_arg1 main_arg2 main_arg3 main_v2 main_v5 main_v8 main_v11 main_v13 main_v18 main_v27 main_v29 main_v36

def fn {F : FTy → Type} [FloatOps F] (main_arg0 : FVec F S16x1x512x512 .f32) (main_arg1 : FVec F S16x1x512x512 .f32) (main_arg2 : FVec F S16x1x512x512 .f32) (main_arg3 : FVec F S16x1x512x512 .f32) : IVec S16x1x512x512 1 × IVec S16x1x512x512 1 × IVec S16x1x512x512 1 × IVec S16x1x512x512 1 × IVec S_ 1 × IVec S_ 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  let main_v3 : FVec F S16x1x512x512 .f32 := Host.absf main_arg1
  let main_cst_0 : FVec F S_ .f32 := constant S_ .f32 0x7F800000#32
  let main_v4 : FVec F S16x1x512x512 .f32 := broadcastInDim S16x1x512x512 ![] bcast_S_S16x1x512x512 main_cst_0
  let main_v5 : IVec S16x1x512x512 1 := cmpf .olt main_v3 main_v4
  let main_v6 : FVec F S16x1x512x512 .f32 := Host.absf main_arg2
  let main_cst_1 : FVec F S_ .f32 := constant S_ .f32 0x7F800000#32
  let main_v7 : FVec F S16x1x512x512 .f32 := broadcastInDim S16x1x512x512 ![] bcast_S_S16x1x512x512 main_cst_1
  let main_v8 : IVec S16x1x512x512 1 := cmpf .olt main_v6 main_v7
  let main_v9 : FVec F S16x1x512x512 .f32 := Host.absf main_arg3
  let main_cst_2 : FVec F S_ .f32 := constant S_ .f32 0x7F800000#32
  let main_v10 : FVec F S16x1x512x512 .f32 := broadcastInDim S16x1x512x512 ![] bcast_S_S16x1x512x512 main_cst_2
  let main_v11 : IVec S16x1x512x512 1 := cmpf .olt main_v9 main_v10
  let main_cst_3 : FVec F S_ .f32 := constant S_ .f32 0x3F000000#32
  let main_v12 : FVec F S16x1x512x512 .f32 := broadcastInDim S16x1x512x512 ![] bcast_S_S16x1x512x512 main_cst_3
  let main_v13 : IVec S16x1x512x512 1 := cmpf .ogt main_arg2 main_v12
  let main_v14 : IVec S16x1x512x512 32 := (extui 32 · natLt_1_32) main_v13
  let main_c : IVec S_ 32 := constantI S_ 32 0#32
  let main_v15 : IVec S_ 32 := (fun x v => Host.reduce IntOp.addi x v reducesTo_S16x1x512x512_S_d0_1_2_3 h_S_) main_v14 main_c
  let main_c_4 : IVec S_ 32 := constantI S_ 32 4194304#32
  let main_v16 : IVec S_ 32 := subi main_c_4 main_v15
  fn_part1 (F := F) main_arg0 main_arg1 main_arg2 main_arg3 main_v2 main_v5 main_v8 main_v11 main_v13 main_v15 main_v16
-- ==== Kernel.lean ====
abbrev S16x1x512x512 : Shape := ⟨4, ![16, 1, 512, 512]⟩
abbrev S8192x512 : Shape := ⟨2, ![8192, 512]⟩
abbrev S1x512 : Shape := ⟨2, ![1, 512]⟩
abbrev S256x512 : Shape := ⟨2, ![256, 512]⟩
abbrev S512 : Shape := ⟨1, ![512]⟩
abbrev S_ : Shape := ⟨0, ![]⟩
abbrev S1x1 : Shape := ⟨2, ![1, 1]⟩

abbrev nBuf : Space → Nat
  | .hbm => 185
  | .vmem => 47
  | .smem => 4
  | _ => 0

abbrev hbmTy0_0 (i : Nat) : BufTy := match i % 128 with
  | 0 => ⟨S16x1x512x512, .f32⟩
  | 1 => ⟨S16x1x512x512, .f32⟩
  | 2 => ⟨S16x1x512x512, .f32⟩
  | 3 => ⟨S16x1x512x512, .f32⟩
  | 4 => ⟨S8192x512, .f32⟩
  | 5 => ⟨S8192x512, .f32⟩
  | 6 => ⟨S8192x512, .f32⟩
  | 7 => ⟨S8192x512, .f32⟩
  | 8 => ⟨S1x512, .f32⟩
  | 9 => ⟨S1x512, .f32⟩
  | 10 => ⟨S1x512, .f32⟩
  | 11 => ⟨S1x512, .f32⟩
  | 12 => ⟨S1x512, .f32⟩
  | 13 => ⟨S1x512, .f32⟩
  | 14 => ⟨S1x512, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .i1⟩
  | 36 => ⟨S_, .i32⟩
  | 37 => ⟨S_, .f32⟩
  | 38 => ⟨S8192x512, .f32⟩
  | 39 => ⟨S_, .i32⟩
  | 40 => ⟨S_, .i32⟩
  | 41 => ⟨S_, .i32⟩
  | 42 => ⟨S_, .i32⟩
  | 43 => ⟨S8192x512, .f32⟩
  | 44 => ⟨S_, .f32⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .f32⟩
  | 68 => ⟨S1x1, .f32⟩
  | 69 => ⟨S1x512, .f32⟩
  | 70 => ⟨S1x512, .f32⟩
  | 71 => ⟨S_, .f32⟩
  | 72 => ⟨S_, .f32⟩
  | 73 => ⟨S_, .f32⟩
  | 74 => ⟨S_, .f32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S_, .f32⟩
  | 86 => ⟨S1x1, .f32⟩
  | 87 => ⟨S1x512, .f32⟩
  | 88 => ⟨S1x512, .f32⟩
  | 89 => ⟨S_, .f32⟩
  | 90 => ⟨S_, .f32⟩
  | 91 => ⟨S_, .f32⟩
  | 92 => ⟨S_, .f32⟩
  | 93 => ⟨S_, .i1⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .i1⟩
  | 110 => ⟨S_, .i32⟩
  | 111 => ⟨S_, .f32⟩
  | 112 => ⟨S8192x512, .f32⟩
  | 113 => ⟨S_, .i32⟩
  | 114 => ⟨S_, .i32⟩
  | 115 => ⟨S_, .i32⟩
  | 116 => ⟨S_, .i32⟩
  | 117 => ⟨S8192x512, .f32⟩
  | 118 => ⟨S_, .f32⟩
  | 119 => ⟨S_, .i32⟩
  | 120 => ⟨S_, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S16x1x512x512, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .f32⟩
  | 14 => ⟨S1x1, .f32⟩
  | 15 => ⟨S1x512, .f32⟩
  | 16 => ⟨S1x512, .f32⟩
  | 17 => ⟨S_, .f32⟩
  | 18 => ⟨S_, .f32⟩
  | 19 => ⟨S_, .f32⟩
  | 20 => ⟨S_, .f32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .f32⟩
  | 32 => ⟨S1x1, .f32⟩
  | 33 => ⟨S1x512, .f32⟩
  | 34 => ⟨S1x512, .f32⟩
  | 35 => ⟨S_, .f32⟩
  | 36 => ⟨S_, .f32⟩
  | 37 => ⟨S_, .f32⟩
  | 38 => ⟨S_, .f32⟩
  | 39 => ⟨S_, .i1⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | _ => ⟨S16x1x512x512, .f32⟩

abbrev hbmTy (i : Nat) : BufTy := match i / 128 with
  | 0 => hbmTy0_0 i
  | 1 => hbmTy0_1 i
  | _ => ⟨S16x1x512x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S1x512, .f32⟩
  | .local _ .vmem, ⟨24, _⟩ => ⟨S1x512, .f32⟩
  | .local _ .vmem, ⟨25, _⟩ => ⟨S256x512, .f32⟩
  | .local _ .vmem, ⟨26, _⟩ => ⟨S256x512, .f32⟩
  | .local _ .vmem, ⟨27, _⟩ => ⟨S1x512, .f32⟩
  | .local _ .vmem, ⟨28, _⟩ => ⟨S1x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | .local _ .vmem, ⟨39, _⟩ => ⟨S256x512, .f32⟩
  | .local _ .vmem, ⟨40, _⟩ => ⟨S256x512, .f32⟩
  | .local _ .vmem, ⟨41, _⟩ => ⟨S1x512, .f32⟩
  | .local _ .vmem, ⟨42, _⟩ => ⟨S1x512, .f32⟩
  | .local _ .vmem, ⟨43, _⟩ => ⟨S256x512, .f32⟩
  | .local _ .vmem, ⟨44, _⟩ => ⟨S256x512, .f32⟩
  | .local _ .vmem, ⟨45, _⟩ => ⟨S1x512, .f32⟩
  | .local _ .vmem, ⟨46, _⟩ => ⟨S1x512, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v4_6 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_cst_4 : Ref sig .tc := ⟨.hbm, 25, rfl⟩
abbrev main_v10 : Ref sig .tc := ⟨.hbm, 26, rfl⟩
abbrev main_cst_5 : Ref sig .tc := ⟨.hbm, 27, rfl⟩
abbrev main_v11 : Ref sig .tc := ⟨.hbm, 28, rfl⟩
abbrev main_v12 : Ref sig .tc := ⟨.hbm, 29, rfl⟩
abbrev main_cst_6 : Ref sig .tc := ⟨.hbm, 30, rfl⟩
abbrev main_v13 : Ref sig .tc := ⟨.hbm, 31, rfl⟩
abbrev main_cst_7 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_case0b1_v37 : Ref sig .tc := ⟨.hbm, 38, rfl⟩
abbrev main_case0b1_c : Ref sig .tc := ⟨.hbm, 39, rfl⟩
abbrev main_case0b1_c_13 : Ref sig .tc := ⟨.hbm, 40, rfl⟩
abbrev main_case0b1_c_14 : Ref sig .tc := ⟨.hbm, 41, rfl⟩
abbrev main_case0b1_c_15 : Ref sig .tc := ⟨.hbm, 42, rfl⟩
abbrev main_case0b1_v38_0 : Ref sig .tc := ⟨.hbm, 43, rfl⟩
abbrev main_case0b1_v38_1 : Ref sig .tc := ⟨.hbm, 44, rfl⟩
abbrev main_case0b1_v38_2 : Ref sig .tc := ⟨.hbm, 45, rfl⟩
abbrev main_case0b1_v38_3 : Ref sig .tc := ⟨.hbm, 46, rfl⟩
abbrev main_case0b1_v38_4 : Ref sig .tc := ⟨.hbm, 47, rfl⟩
abbrev main_case0b1_v38_5 : Ref sig .tc := ⟨.hbm, 48, rfl⟩
abbrev main_while0c_c_26 : Ref sig .tc := ⟨.hbm, 49, rfl⟩
abbrev main_while0c_v52 : Ref sig .tc := ⟨.hbm, 50, rfl⟩
abbrev main_while0b_c_26 : Ref sig .tc := ⟨.hbm, 51, rfl⟩
abbrev main_while0b_v52 : Ref sig .tc := ⟨.hbm, 52, rfl⟩
abbrev main_while0b_c_27 : Ref sig .tc := ⟨.hbm, 53, rfl⟩
abbrev main_while0b_v53 : Ref sig .tc := ⟨.hbm, 54, rfl⟩
abbrev main_while0b_c_28 : Ref sig .tc := ⟨.hbm, 55, rfl⟩
abbrev main_while0b_v54 : Ref sig .tc := ⟨.hbm, 56, rfl⟩
abbrev main_while0b_v55 : Ref sig .tc := ⟨.hbm, 57, rfl⟩
abbrev main_while0b_v56 : Ref sig .tc := ⟨.hbm, 58, rfl⟩
abbrev main_while0b_c_29 : Ref sig .tc := ⟨.hbm, 59, rfl⟩
abbrev main_while0b_v57 : Ref sig .tc := ⟨.hbm, 60, rfl⟩
abbrev main_while0b_v58 : Ref sig .tc := ⟨.hbm, 61, rfl⟩
abbrev main_while0b_c_30 : Ref sig .tc := ⟨.hbm, 62, rfl⟩
abbrev main_while0b_v59 : Ref sig .tc := ⟨.hbm, 63, rfl⟩
abbrev main_while0b_c_31 : Ref sig .tc := ⟨.hbm, 64, rfl⟩
abbrev main_while0b_v60 : Ref sig .tc := ⟨.hbm, 65, rfl⟩
abbrev main_while0b_v61 : Ref sig .tc := ⟨.hbm, 66, rfl⟩
abbrev main_while0b_v62 : Ref sig .tc := ⟨.hbm, 67, rfl⟩
abbrev main_while0b_v63 : Ref sig .tc := ⟨.hbm, 68, rfl⟩
abbrev main_while0b_v64_0 : Ref sig .tc := ⟨.hbm, 69, rfl⟩
abbrev main_while0b_v64_1 : Ref sig .tc := ⟨.hbm, 70, rfl⟩
abbrev main_while0b_cst_32 : Ref sig .tc := ⟨.hbm, 71, rfl⟩
abbrev main_while0b_v65 : Ref sig .tc := ⟨.hbm, 72, rfl⟩
abbrev main_while0b_cst_33 : Ref sig .tc := ⟨.hbm, 73, rfl⟩
abbrev main_while0b_v66 : Ref sig .tc := ⟨.hbm, 74, rfl⟩
abbrev main_while0b_v67 : Ref sig .tc := ⟨.hbm, 75, rfl⟩
abbrev main_while0b_v68 : Ref sig .tc := ⟨.hbm, 76, rfl⟩
abbrev main_while0b_v69 : Ref sig .tc := ⟨.hbm, 77, rfl⟩
abbrev main_while0b_c_34 : Ref sig .tc := ⟨.hbm, 78, rfl⟩
abbrev main_while0b_v70 : Ref sig .tc := ⟨.hbm, 79, rfl⟩
abbrev main_case0b1_c_16 : Ref sig .tc := ⟨.hbm, 80, rfl⟩
abbrev main_case0b1_v39 : Ref sig .tc := ⟨.hbm, 81, rfl⟩
abbrev main_case0b1_c_17 : Ref sig .tc := ⟨.hbm, 82, rfl⟩
abbrev main_case0b1_v40 : Ref sig .tc := ⟨.hbm, 83, rfl⟩
abbrev main_case0b1_v41 : Ref sig .tc := ⟨.hbm, 84, rfl⟩
abbrev main_case0b1_v42 : Ref sig .tc := ⟨.hbm, 85, rfl⟩
abbrev main_case0b1_v43 : Ref sig .tc := ⟨.hbm, 86, rfl⟩
abbrev main_case0b1_v44_0 : Ref sig .tc := ⟨.hbm, 87, rfl⟩
abbrev main_case0b1_v44_1 : Ref sig .tc := ⟨.hbm, 88, rfl⟩
abbrev main_case0b1_cst_18 : Ref sig .tc := ⟨.hbm, 89, rfl⟩
abbrev main_case0b1_v45 : Ref sig .tc := ⟨.hbm, 90, rfl⟩
abbrev main_case0b1_cst_19 : Ref sig .tc := ⟨.hbm, 91, rfl⟩
abbrev main_case0b1_v46 : Ref sig .tc := ⟨.hbm, 92, rfl⟩
abbrev main_case0b1_v47 : Ref sig .tc := ⟨.hbm, 93, rfl⟩
abbrev main_case0b1_v48 : Ref sig .tc := ⟨.hbm, 94, rfl⟩
abbrev main_case0b1_v49 : Ref sig .tc := ⟨.hbm, 95, rfl⟩
abbrev main_case0b1_cst_20 : Ref sig .tc := ⟨.hbm, 96, rfl⟩
abbrev main_case0b1_call4_v0 : Ref sig .tc := ⟨.hbm, 97, rfl⟩
abbrev main_case0b1_v50 : Ref sig .tc := ⟨.hbm, 98, rfl⟩
abbrev main_case0b1_v51 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst_8 : Ref sig .tc := ⟨.hbm, 104, rfl⟩
abbrev main_v23 : Ref sig .tc := ⟨.hbm, 105, rfl⟩
abbrev main_cst_9 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_case1b1_v37 : Ref sig .tc := ⟨.hbm, 112, rfl⟩
abbrev main_case1b1_c : Ref sig .tc := ⟨.hbm, 113, rfl⟩
abbrev main_case1b1_c_13 : Ref sig .tc := ⟨.hbm, 114, rfl⟩
abbrev main_case1b1_c_14 : Ref sig .tc := ⟨.hbm, 115, rfl⟩
abbrev main_case1b1_c_15 : Ref sig .tc := ⟨.hbm, 116, rfl⟩
abbrev main_case1b1_v38_0 : Ref sig .tc := ⟨.hbm, 117, rfl⟩
abbrev main_case1b1_v38_1 : Ref sig .tc := ⟨.hbm, 118, rfl⟩
abbrev main_case1b1_v38_2 : Ref sig .tc := ⟨.hbm, 119, rfl⟩
abbrev main_case1b1_v38_3 : Ref sig .tc := ⟨.hbm, 120, rfl⟩
abbrev main_case1b1_v38_4 : Ref sig .tc := ⟨.hbm, 121, rfl⟩
abbrev main_case1b1_v38_5 : Ref sig .tc := ⟨.hbm, 122, rfl⟩
abbrev main_while1c_c_26 : Ref sig .tc := ⟨.hbm, 123, rfl⟩
abbrev main_while1c_v52 : Ref sig .tc := ⟨.hbm, 124, rfl⟩
abbrev main_while1b_c_26 : Ref sig .tc := ⟨.hbm, 125, rfl⟩
abbrev main_while1b_v52 : Ref sig .tc := ⟨.hbm, 126, rfl⟩
abbrev main_while1b_c_27 : Ref sig .tc := ⟨.hbm, 127, rfl⟩
abbrev main_while1b_v53 : Ref sig .tc := ⟨.hbm, 128, rfl⟩
abbrev main_while1b_c_28 : Ref sig .tc := ⟨.hbm, 129, rfl⟩
abbrev main_while1b_v54 : Ref sig .tc := ⟨.hbm, 130, rfl⟩
abbrev main_while1b_v55 : Ref sig .tc := ⟨.hbm, 131, rfl⟩
abbrev main_while1b_v56 : Ref sig .tc := ⟨.hbm, 132, rfl⟩
abbrev main_while1b_c_29 : Ref sig .tc := ⟨.hbm, 133, rfl⟩
abbrev main_while1b_v57 : Ref sig .tc := ⟨.hbm, 134, rfl⟩
abbrev main_while1b_v58 : Ref sig .tc := ⟨.hbm, 135, rfl⟩
abbrev main_while1b_c_30 : Ref sig .tc := ⟨.hbm, 136, rfl⟩
abbrev main_while1b_v59 : Ref sig .tc := ⟨.hbm, 137, rfl⟩
abbrev main_while1b_c_31 : Ref sig .tc := ⟨.hbm, 138, rfl⟩
abbrev main_while1b_v60 : Ref sig .tc := ⟨.hbm, 139, rfl⟩
abbrev main_while1b_v61 : Ref sig .tc := ⟨.hbm, 140, rfl⟩
abbrev main_while1b_v62 : Ref sig .tc := ⟨.hbm, 141, rfl⟩
abbrev main_while1b_v63 : Ref sig .tc := ⟨.hbm, 142, rfl⟩
abbrev main_while1b_v64_0 : Ref sig .tc := ⟨.hbm, 143, rfl⟩
abbrev main_while1b_v64_1 : Ref sig .tc := ⟨.hbm, 144, rfl⟩
abbrev main_while1b_cst_32 : Ref sig .tc := ⟨.hbm, 145, rfl⟩
abbrev main_while1b_v65 : Ref sig .tc := ⟨.hbm, 146, rfl⟩
abbrev main_while1b_cst_33 : Ref sig .tc := ⟨.hbm, 147, rfl⟩
abbrev main_while1b_v66 : Ref sig .tc := ⟨.hbm, 148, rfl⟩
abbrev main_while1b_v67 : Ref sig .tc := ⟨.hbm, 149, rfl⟩
abbrev main_while1b_v68 : Ref sig .tc := ⟨.hbm, 150, rfl⟩
abbrev main_while1b_v69 : Ref sig .tc := ⟨.hbm, 151, rfl⟩
abbrev main_while1b_c_34 : Ref sig .tc := ⟨.hbm, 152, rfl⟩
abbrev main_while1b_v70 : Ref sig .tc := ⟨.hbm, 153, rfl⟩
abbrev main_case1b1_c_16 : Ref sig .tc := ⟨.hbm, 154, rfl⟩
abbrev main_case1b1_v39 : Ref sig .tc := ⟨.hbm, 155, rfl⟩
abbrev main_case1b1_c_17 : Ref sig .tc := ⟨.hbm, 156, rfl⟩
abbrev main_case1b1_v40 : Ref sig .tc := ⟨.hbm, 157, rfl⟩
abbrev main_case1b1_v41 : Ref sig .tc := ⟨.hbm, 158, rfl⟩
abbrev main_case1b1_v42 : Ref sig .tc := ⟨.hbm, 159, rfl⟩
abbrev main_case1b1_v43 : Ref sig .tc := ⟨.hbm, 160, rfl⟩
abbrev main_case1b1_v44_0 : Ref sig .tc := ⟨.hbm, 161, rfl⟩
abbrev main_case1b1_v44_1 : Ref sig .tc := ⟨.hbm, 162, rfl⟩
abbrev main_case1b1_cst_18 : Ref sig .tc := ⟨.hbm, 163, rfl⟩
abbrev main_case1b1_v45 : Ref sig .tc := ⟨.hbm, 164, rfl⟩
abbrev main_case1b1_cst_19 : Ref sig .tc := ⟨.hbm, 165, rfl⟩
abbrev main_case1b1_v46 : Ref sig .tc := ⟨.hbm, 166, rfl⟩
abbrev main_case1b1_v47 : Ref sig .tc := ⟨.hbm, 167, rfl⟩
abbrev main_case1b1_v48 : Ref sig .tc := ⟨.hbm, 168, rfl⟩
abbrev main_case1b1_v49 : Ref sig .tc := ⟨.hbm, 169, rfl⟩
abbrev main_case1b1_cst_20 : Ref sig .tc := ⟨.hbm, 170, rfl⟩
abbrev main_case1b1_call9_v0 : Ref sig .tc := ⟨.hbm, 171, rfl⟩
abbrev main_case1b1_v50 : Ref sig .tc := ⟨.hbm, 172, rfl⟩
abbrev main_case1b1_v51 : Ref sig .tc := ⟨.hbm, 173, rfl⟩
abbrev main_v29 : Ref sig .tc := ⟨.hbm, 174, rfl⟩
abbrev main_v30 : Ref sig .tc := ⟨.hbm, 175, rfl⟩
abbrev main_v31 : Ref sig .tc := ⟨.hbm, 176, rfl⟩
abbrev main_cst_10 : Ref sig .tc := ⟨.hbm, 177, rfl⟩
abbrev main_v32 : Ref sig .tc := ⟨.hbm, 178, rfl⟩
abbrev main_cst_11 : Ref sig .tc := ⟨.hbm, 179, rfl⟩
abbrev main_v33 : Ref sig .tc := ⟨.hbm, 180, rfl⟩
abbrev main_v34 : Ref sig .tc := ⟨.hbm, 181, rfl⟩
abbrev main_cst_12 : Ref sig .tc := ⟨.hbm, 182, rfl⟩
abbrev main_v35 : Ref sig .tc := ⟨.hbm, 183, rfl⟩
abbrev main_v36 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg3_0 : Ref sig .tc := ⟨.vmem, 46, rfl⟩
abbrev cc2_stg0_0 : Ref sig .tc := ⟨.smem, 0, rfl⟩
abbrev cc3_stg0_0 : Ref sig .tc := ⟨.smem, 1, rfl⟩
abbrev cc5_stg0_0 : Ref sig .tc := ⟨.smem, 2, rfl⟩
abbrev cc6_stg0_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc2_sem0_0 : DmaSem sig := 21
abbrev cc2_sem1_0 : DmaSem sig := 22
abbrev cc2_sem1_1 : DmaSem sig := 23
abbrev cc2_sem2_0 : DmaSem sig := 24
abbrev cc2_sem3_0 : DmaSem sig := 25
abbrev cc3_sem0_0 : DmaSem sig := 26
abbrev cc3_sem1_0 : DmaSem sig := 27
abbrev cc3_sem1_1 : DmaSem sig := 28
abbrev cc3_sem2_0 : DmaSem sig := 29
abbrev cc3_sem3_0 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem3_1 : DmaSem sig := 38
abbrev cc4_sem4_0 : DmaSem sig := 39
abbrev cc4_sem4_1 : DmaSem sig := 40
abbrev cc5_sem0_0 : DmaSem sig := 41
abbrev cc5_sem1_0 : DmaSem sig := 42
abbrev cc5_sem1_1 : DmaSem sig := 43
abbrev cc5_sem2_0 : DmaSem sig := 44
abbrev cc5_sem3_0 : DmaSem sig := 45
abbrev cc6_sem0_0 : DmaSem sig := 46
abbrev cc6_sem1_0 : DmaSem sig := 47
abbrev cc6_sem1_1 : DmaSem sig := 48
abbrev cc6_sem2_0 : DmaSem sig := 49
abbrev cc6_sem3_0 : DmaSem sig := 50

abbrev nD : Nat := 1
abbrev τ : Topo := Topo.v7x

variable {F : FTy → Type} [FloatOps F]

abbrev main_while0_count : Scf.Loop 32 := ⟨0#32, 33#32, 1#32⟩

abbrev main_while1_count : Scf.Loop 32 := ⟨0#32, 33#32, 1#32⟩

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .smem S1x1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .smem S1x1 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S256x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .smem S1x1 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S256x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]
-- ==== ReferenceIdeal.lean ====
abbrev S16x1x512x512 : Shape := ⟨4, ![16, 1, 512, 512]⟩
abbrev S_ : Shape := ⟨0, ![]⟩
abbrev S4194304 : Shape := ⟨1, ![4194304]⟩

abbrev nBuf : Space → Nat
  | .hbm => 186
  | .vmem => 0
  | .smem => 0
  | _ => 0

abbrev hbmTy0_0 (i : Nat) : BufTy := match i % 128 with
  | 0 => ⟨S16x1x512x512, .f32⟩
  | 1 => ⟨S16x1x512x512, .f32⟩
  | 2 => ⟨S16x1x512x512, .f32⟩
  | 3 => ⟨S16x1x512x512, .f32⟩
  | 4 => ⟨S16x1x512x512, .f32⟩
  | 5 => ⟨S_, .f32⟩
  | 6 => ⟨S16x1x512x512, .f32⟩
  | 7 => ⟨S16x1x512x512, .f32⟩
  | 8 => ⟨S16x1x512x512, .f32⟩
  | 9 => ⟨S_, .f32⟩
  | 10 => ⟨S16x1x512x512, .f32⟩
  | 11 => ⟨S16x1x512x512, .f32⟩
  | 12 => ⟨S_, .f32⟩
  | 13 => ⟨S16x1x512x512, .f32⟩
  | 14 => ⟨S16x1x512x512, .i1⟩
  | 15 => ⟨S_, .i1⟩
  | 16 => ⟨S16x1x512x512, .i1⟩
  | 17 => ⟨S16x1x512x512, .i1⟩
  | 18 => ⟨S16x1x512x512, .i32⟩
  | 19 => ⟨S_, .i32⟩
  | 20 => ⟨S_, .i32⟩
  | 21 => ⟨S16x1x512x512, .i1⟩
  | 22 => ⟨S_, .i1⟩
  | 23 => ⟨S16x1x512x512, .i1⟩
  | 24 => ⟨S16x1x512x512, .i1⟩
  | 25 => ⟨S16x1x512x512, .i32⟩
  | 26 => ⟨S_, .i32⟩
  | 27 => ⟨S_, .i32⟩
  | 28 => ⟨S_, .i32⟩
  | 29 => ⟨S_, .i32⟩
  | 30 => ⟨S_, .i32⟩
  | 31 => ⟨S16x1x512x512, .f32⟩
  | 32 => ⟨S_, .f32⟩
  | 33 => ⟨S16x1x512x512, .f32⟩
  | 34 => ⟨S16x1x512x512, .f32⟩
  | 35 => ⟨S16x1x512x512, .f32⟩
  | 36 => ⟨S16x1x512x512, .f32⟩
  | 37 => ⟨S16x1x512x512, .i1⟩
  | 38 => ⟨S16x1x512x512, .f32⟩
  | 39 => ⟨S16x1x512x512, .f32⟩
  | 40 => ⟨S16x1x512x512, .f32⟩
  | 41 => ⟨S16x1x512x512, .f32⟩
  | 42 => ⟨S16x1x512x512, .f32⟩
  | 43 => ⟨S16x1x512x512, .f32⟩
  | 44 => ⟨S16x1x512x512, .f32⟩
  | 45 => ⟨S16x1x512x512, .f32⟩
  | 46 => ⟨S16x1x512x512, .f32⟩
  | 47 => ⟨S_, .f32⟩
  | 48 => ⟨S16x1x512x512, .f32⟩
  | 49 => ⟨S16x1x512x512, .f32⟩
  | 50 => ⟨S_, .f32⟩
  | 51 => ⟨S16x1x512x512, .f32⟩
  | 52 => ⟨S16x1x512x512, .f32⟩
  | 53 => ⟨S16x1x512x512, .f32⟩
  | 54 => ⟨S16x1x512x512, .f32⟩
  | 55 => ⟨S16x1x512x512, .i1⟩
  | 56 => ⟨S16x1x512x512, .f32⟩
  | 57 => ⟨S16x1x512x512, .f32⟩
  | 58 => ⟨S16x1x512x512, .f32⟩
  | 59 => ⟨S16x1x512x512, .f32⟩
  | 60 => ⟨S16x1x512x512, .f32⟩
  | 61 => ⟨S16x1x512x512, .f32⟩
  | 62 => ⟨S16x1x512x512, .f32⟩
  | 63 => ⟨S16x1x512x512, .f32⟩
  | 64 => ⟨S16x1x512x512, .f32⟩
  | 65 => ⟨S16x1x512x512, .f32⟩
  | 66 => ⟨S_, .f32⟩
  | 67 => ⟨S_, .f32⟩
  | 68 => ⟨S16x1x512x512, .f32⟩
  | 69 => ⟨S16x1x512x512, .f32⟩
  | 70 => ⟨S_, .f32⟩
  | 71 => ⟨S_, .f32⟩
  | 72 => ⟨S_, .f32⟩
  | 73 => ⟨S_, .f32⟩
  | 74 => ⟨S16x1x512x512, .f32⟩
  | 75 => ⟨S16x1x512x512, .f32⟩
  | 76 => ⟨S4194304, .f32⟩
  | 77 => ⟨S4194304, .f32⟩
  | 78 => ⟨S4194304, .f32⟩
  | 79 => ⟨S4194304, .f32⟩
  | 80 => ⟨S4194304, .i32⟩
  | 81 => ⟨S4194304, .i32⟩
  | 82 => ⟨S4194304, .i1⟩
  | 83 => ⟨S_, .f32⟩
  | 84 => ⟨S_, .f32⟩
  | 85 => ⟨S4194304, .f32⟩
  | 86 => ⟨S4194304, .f32⟩
  | 87 => ⟨S_, .f32⟩
  | 88 => ⟨S_, .f32⟩
  | 89 => ⟨S_, .i32⟩
  | 90 => ⟨S_, .f32⟩
  | 91 => ⟨S_, .f32⟩
  | 92 => ⟨S_, .f32⟩
  | 93 => ⟨S_, .f32⟩
  | 94 => ⟨S16x1x512x512, .f32⟩
  | 95 => ⟨S16x1x512x512, .i1⟩
  | 96 => ⟨S_, .i1⟩
  | 97 => ⟨S16x1x512x512, .i1⟩
  | 98 => ⟨S16x1x512x512, .i1⟩
  | 99 => ⟨S16x1x512x512, .i32⟩
  | 100 => ⟨S_, .i32⟩
  | 101 => ⟨S_, .i32⟩
  | 102 => ⟨S16x1x512x512, .i1⟩
  | 103 => ⟨S_, .i1⟩
  | 104 => ⟨S16x1x512x512, .i1⟩
  | 105 => ⟨S16x1x512x512, .i1⟩
  | 106 => ⟨S16x1x512x512, .i32⟩
  | 107 => ⟨S_, .i32⟩
  | 108 => ⟨S_, .i32⟩
  | 109 => ⟨S_, .i32⟩
  | 110 => ⟨S_, .i32⟩
  | 111 => ⟨S_, .i32⟩
  | 112 => ⟨S16x1x512x512, .f32⟩
  | 113 => ⟨S_, .f32⟩
  | 114 => ⟨S16x1x512x512, .f32⟩
  | 115 => ⟨S16x1x512x512, .f32⟩
  | 116 => ⟨S16x1x512x512, .f32⟩
  | 117 => ⟨S16x1x512x512, .f32⟩
  | 118 => ⟨S16x1x512x512, .i1⟩
  | 119 => ⟨S16x1x512x512, .f32⟩
  | 120 => ⟨S16x1x512x512, .f32⟩
  | 121 => ⟨S16x1x512x512, .f32⟩
  | 122 => ⟨S16x1x512x512, .f32⟩
  | 123 => ⟨S16x1x512x512, .f32⟩
  | 124 => ⟨S16x1x512x512, .f32⟩
  | 125 => ⟨S16x1x512x512, .f32⟩
  | 126 => ⟨S16x1x512x512, .f32⟩
  | 127 => ⟨S16x1x512x512, .f32⟩
  | _ => ⟨S16x1x512x512, .f32⟩

abbrev hbmTy0_1 (i : Nat) : BufTy := match i % 128 with
  | 0 => ⟨S_, .f32⟩
  | 1 => ⟨S16x1x512x512, .f32⟩
  | 2 => ⟨S16x1x512x512, .f32⟩
  | 3 => ⟨S_, .f32⟩
  | 4 => ⟨S16x1x512x512, .f32⟩
  | 5 => ⟨S16x1x512x512, .f32⟩
  | 6 => ⟨S16x1x512x512, .f32⟩
  | 7 => ⟨S16x1x512x512, .f32⟩
  | 8 => ⟨S16x1x512x512, .i1⟩
  | 9 => ⟨S16x1x512x512, .f32⟩
  | 10 => ⟨S16x1x512x512, .f32⟩
  | 11 => ⟨S16x1x512x512, .f32⟩
  | 12 => ⟨S16x1x512x512, .f32⟩
  | 13 => ⟨S16x1x512x512, .f32⟩
  | 14 => ⟨S16x1x512x512, .f32⟩
  | 15 => ⟨S16x1x512x512, .f32⟩
  | 16 => ⟨S16x1x512x512, .f32⟩
  | 17 => ⟨S16x1x512x512, .f32⟩
  | 18 => ⟨S16x1x512x512, .f32⟩
  | 19 => ⟨S_, .f32⟩
  | 20 => ⟨S_, .f32⟩
  | 21 => ⟨S16x1x512x512, .f32⟩
  | 22 => ⟨S16x1x512x512, .f32⟩
  | 23 => ⟨S_, .f32⟩
  | 24 => ⟨S_, .f32⟩
  | 25 => ⟨S_, .f32⟩
  | 26 => ⟨S_, .f32⟩
  | 27 => ⟨S16x1x512x512, .f32⟩
  | 28 => ⟨S16x1x512x512, .f32⟩
  | 29 => ⟨S4194304, .f32⟩
  | 30 => ⟨S4194304, .f32⟩
  | 31 => ⟨S4194304, .f32⟩
  | 32 => ⟨S4194304, .f32⟩
  | 33 => ⟨S4194304, .i32⟩
  | 34 => ⟨S4194304, .i32⟩
  | 35 => ⟨S4194304, .i1⟩
  | 36 => ⟨S_, .f32⟩
  | 37 => ⟨S_, .f32⟩
  | 38 => ⟨S4194304, .f32⟩
  | 39 => ⟨S4194304, .f32⟩
  | 40 => ⟨S_, .f32⟩
  | 41 => ⟨S_, .f32⟩
  | 42 => ⟨S_, .i32⟩
  | 43 => ⟨S_, .f32⟩
  | 44 => ⟨S_, .f32⟩
  | 45 => ⟨S_, .f32⟩
  | 46 => ⟨S16x1x512x512, .f32⟩
  | 47 => ⟨S16x1x512x512, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | _ => ⟨S16x1x512x512, .f32⟩

abbrev hbmTy (i : Nat) : BufTy := match i / 128 with
  | 0 => hbmTy0_0 i
  | 1 => hbmTy0_1 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_c_0 : Ref sig .tc := ⟨.hbm, 19, rfl⟩
abbrev main_v8 : Ref sig .tc := ⟨.hbm, 20, rfl⟩
abbrev main_v9 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_c_0 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call2_cst : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_v14 : Ref sig .tc := ⟨.hbm, 45, rfl⟩
abbrev main_v15 : Ref sig .tc := ⟨.hbm, 46, rfl⟩
abbrev main_cst_2 : Ref sig .tc := ⟨.hbm, 47, rfl⟩
abbrev main_v16 : Ref sig .tc := ⟨.hbm, 48, rfl⟩
abbrev main_v17 : Ref sig .tc := ⟨.hbm, 49, rfl⟩
abbrev main_call3_cst : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_3 : Ref sig .tc := ⟨.hbm, 66, rfl⟩
abbrev main_call4_v0 : Ref sig .tc := ⟨.hbm, 67, rfl⟩
abbrev main_call4_v1 : Ref sig .tc := ⟨.hbm, 68, rfl⟩
abbrev main_v21 : Ref sig .tc := ⟨.hbm, 69, rfl⟩
abbrev main_cst_4 : Ref sig .tc := ⟨.hbm, 70, rfl⟩
abbrev main_v22 : Ref sig .tc := ⟨.hbm, 71, rfl⟩
abbrev main_cst_5 : Ref sig .tc := ⟨.hbm, 72, rfl⟩
abbrev main_call5_v0 : Ref sig .tc := ⟨.hbm, 73, rfl⟩
abbrev main_call5_v1 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_6 : Ref sig .tc := ⟨.hbm, 83, rfl⟩
abbrev main_call7_v0 : Ref sig .tc := ⟨.hbm, 84, rfl⟩
abbrev main_call7_v1 : Ref sig .tc := ⟨.hbm, 85, rfl⟩
abbrev main_v31 : Ref sig .tc := ⟨.hbm, 86, rfl⟩
abbrev main_cst_7 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_cst_8 : Ref sig .tc := ⟨.hbm, 93, rfl⟩
abbrev main_v37 : Ref sig .tc := ⟨.hbm, 94, rfl⟩
abbrev main_v38 : Ref sig .tc := ⟨.hbm, 95, rfl⟩
abbrev main_call8_c : Ref sig .tc := ⟨.hbm, 96, rfl⟩
abbrev main_call8_v0 : Ref sig .tc := ⟨.hbm, 97, rfl⟩
abbrev main_call8_v1 : Ref sig .tc := ⟨.hbm, 98, rfl⟩
abbrev main_call8_v2 : Ref sig .tc := ⟨.hbm, 99, rfl⟩
abbrev main_call8_c_0 : Ref sig .tc := ⟨.hbm, 100, rfl⟩
abbrev main_v39 : Ref sig .tc := ⟨.hbm, 101, rfl⟩
abbrev main_v40 : Ref sig .tc := ⟨.hbm, 102, rfl⟩
abbrev main_call9_c : Ref sig .tc := ⟨.hbm, 103, rfl⟩
abbrev main_call9_v0 : Ref sig .tc := ⟨.hbm, 104, rfl⟩
abbrev main_call9_v1 : Ref sig .tc := ⟨.hbm, 105, rfl⟩
abbrev main_call9_v2 : Ref sig .tc := ⟨.hbm, 106, rfl⟩
abbrev main_call9_c_0 : Ref sig .tc := ⟨.hbm, 107, rfl⟩
abbrev main_v41 : Ref sig .tc := ⟨.hbm, 108, rfl⟩
abbrev main_c_9 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_call10_cst : Ref sig .tc := ⟨.hbm, 113, rfl⟩
abbrev main_call10_v0 : Ref sig .tc := ⟨.hbm, 114, rfl⟩
abbrev main_call10_v1 : Ref sig .tc := ⟨.hbm, 115, rfl⟩
abbrev main_call10_v2 : Ref sig .tc := ⟨.hbm, 116, rfl⟩
abbrev main_call10_v3 : Ref sig .tc := ⟨.hbm, 117, rfl⟩
abbrev main_call10_v4 : Ref sig .tc := ⟨.hbm, 118, rfl⟩
abbrev main_call10_v5 : Ref sig .tc := ⟨.hbm, 119, rfl⟩
abbrev main_call10_v6 : Ref sig .tc := ⟨.hbm, 120, rfl⟩
abbrev main_call10_v7 : Ref sig .tc := ⟨.hbm, 121, rfl⟩
abbrev main_call10_v8 : Ref sig .tc := ⟨.hbm, 122, rfl⟩
abbrev main_call10_v9 : Ref sig .tc := ⟨.hbm, 123, rfl⟩
abbrev main_call10_v10 : Ref sig .tc := ⟨.hbm, 124, rfl⟩
abbrev main_call10_v11 : Ref sig .tc := ⟨.hbm, 125, rfl⟩
abbrev main_v45 : Ref sig .tc := ⟨.hbm, 126, rfl⟩
abbrev main_v46 : Ref sig .tc := ⟨.hbm, 127, rfl⟩
abbrev main_cst_10 : Ref sig .tc := ⟨.hbm, 128, rfl⟩
abbrev main_v47 : Ref sig .tc := ⟨.hbm, 129, rfl⟩
abbrev main_v48 : Ref sig .tc := ⟨.hbm, 130, rfl⟩
abbrev main_call11_cst : Ref sig .tc := ⟨.hbm, 131, rfl⟩
abbrev main_call11_v0 : Ref sig .tc := ⟨.hbm, 132, rfl⟩
abbrev main_call11_v1 : Ref sig .tc := ⟨.hbm, 133, rfl⟩
abbrev main_call11_v2 : Ref sig .tc := ⟨.hbm, 134, rfl⟩
abbrev main_call11_v3 : Ref sig .tc := ⟨.hbm, 135, rfl⟩
abbrev main_call11_v4 : Ref sig .tc := ⟨.hbm, 136, rfl⟩
abbrev main_call11_v5 : Ref sig .tc := ⟨.hbm, 137, rfl⟩
abbrev main_call11_v6 : Ref sig .tc := ⟨.hbm, 138, rfl⟩
abbrev main_call11_v7 : Ref sig .tc := ⟨.hbm, 139, rfl⟩
abbrev main_call11_v8 : Ref sig .tc := ⟨.hbm, 140, rfl⟩
abbrev main_call11_v9 : Ref sig .tc := ⟨.hbm, 141, rfl⟩
abbrev main_call11_v10 : Ref sig .tc := ⟨.hbm, 142, rfl⟩
abbrev main_call11_v11 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_cst_11 : Ref sig .tc := ⟨.hbm, 147, rfl⟩
abbrev main_call12_v0 : Ref sig .tc := ⟨.hbm, 148, rfl⟩
abbrev main_call12_v1 : Ref sig .tc := ⟨.hbm, 149, rfl⟩
abbrev main_v52 : Ref sig .tc := ⟨.hbm, 150, rfl⟩
abbrev main_cst_12 : Ref sig .tc := ⟨.hbm, 151, rfl⟩
abbrev main_v53 : Ref sig .tc := ⟨.hbm, 152, rfl⟩
abbrev main_cst_13 : Ref sig .tc := ⟨.hbm, 153, rfl⟩
abbrev main_call13_v0 : Ref sig .tc := ⟨.hbm, 154, rfl⟩
abbrev main_call13_v1 : Ref sig .tc := ⟨.hbm, 155, rfl⟩
abbrev main_v54 : Ref sig .tc := ⟨.hbm, 156, rfl⟩
abbrev main_v55 : Ref sig .tc := ⟨.hbm, 157, rfl⟩
abbrev main_v56 : Ref sig .tc := ⟨.hbm, 158, rfl⟩
abbrev main_v57 : Ref sig .tc := ⟨.hbm, 159, rfl⟩
abbrev main_v58 : Ref sig .tc := ⟨.hbm, 160, rfl⟩
abbrev main_v59 : Ref sig .tc := ⟨.hbm, 161, rfl⟩
abbrev main_v60 : Ref sig .tc := ⟨.hbm, 162, rfl⟩
abbrev main_v61 : Ref sig .tc := ⟨.hbm, 163, rfl⟩
abbrev main_cst_14 : Ref sig .tc := ⟨.hbm, 164, rfl⟩
abbrev main_call15_v0 : Ref sig .tc := ⟨.hbm, 165, rfl⟩
abbrev main_call15_v1 : Ref sig .tc := ⟨.hbm, 166, rfl⟩
abbrev main_v62 : Ref sig .tc := ⟨.hbm, 167, rfl⟩
abbrev main_cst_15 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_cst_16 : Ref sig .tc := ⟨.hbm, 176, rfl⟩
abbrev main_v70 : Ref sig .tc := ⟨.hbm, 177, rfl⟩
abbrev main_cst_17 : Ref sig .tc := ⟨.hbm, 178, rfl⟩
abbrev main_v71 : Ref sig .tc := ⟨.hbm, 179, rfl⟩
abbrev main_cst_18 : Ref sig .tc := ⟨.hbm, 180, rfl⟩
abbrev main_v72 : Ref sig .tc := ⟨.hbm, 181, rfl⟩
abbrev main_v73 : Ref sig .tc := ⟨.hbm, 182, rfl⟩
abbrev main_cst_19 : Ref sig .tc := ⟨.hbm, 183, rfl⟩
abbrev main_v74 : Ref sig .tc := ⟨.hbm, 184, rfl⟩
abbrev main_v75 : Ref sig .tc := ⟨.hbm, 185, rfl⟩

abbrev nD : Nat := 1
abbrev τ : Topo := Topo.v7x

variable {F : FTy → Type} [FloatOps F]
-- ==== Proof.CountBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Tactic
public import Idealize.ShloMosaic.Lib.WordCmp
public import Idealize.ShloMosaic.Lib.VecWindow

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [Idealize.SL.RA.URA U]

/-- The condition under which a body resets its accumulators, as the body computes it from the grid point. -/
abbrev atStart {n : ℕ} (i : Fin n) : Prop :=
  (Scalar.cmpi .ne (Scalar.extui (Scalar.cmpi .eq (BitVec.ofNat 32 i.val) 0#32) : BitVec 32) 0#32) = 1#1

/-- The one index of a one-by-one block. -/
abbrev only : S1x1.Idx := fun a => ⟨0, by revert a; decide⟩

theorem eq_only (y : S1x1.Idx) : y = only := by
  funext a; apply Fin.ext
  have h : (y a).val < 1 := lt_of_lt_of_eq (y a).isLt ((by decide : ∀ a, S1x1.size a = 1) a)
  show (y a).val = 0
  omega

/-- `a` held whole on core `c` with contents `x`. -/
abbrev has (c : Dev nD) {sp : Space} {S : Shape} {e : EltTy} (a : Memref sig .tc sp S e) (x : S.Idx → Elt F e) :
    sProp (MT nD τ sig Unit (Elt F) ℕ U ℕ) := owns (c : Thread nD τ) a fullShare x

set_option maxHeartbeats 1000000 in
/-- At the first point the counting body leaves one step over zeros. -/
theorem count_first (c : Dev nD) (i : grid2.Coords) (hc0 : atStart (i 0))
    (a1 : Memref sig .tc .smem S1x1 .f32) (h1 : a1.IsWhole) (a2 : Memref sig .tc .vmem S256x512 .f32) (h2 : a2.IsWhole)
    (a3 : Memref sig .tc .vmem S1x512 .f32) (h3 : a3.IsWhole) (a4 : Memref sig .tc .vmem S1x512 .f32) (h4 : a4.IsWhole)
    (x0 : Vec F S1x1 .f32) (x1 : Vec F S256x512 .f32) (E : Set ℕ)
    (K : PUnit → sProp (MT nD τ sig Unit (Elt F) ℕ U ℕ)) :
    iprop(has c a1 x0 ∗ has c a2 x1 ∗ (∃ d, has c a3 d) ∗ (∃ d, has c a4 d)
        ∗ (iprop(has c a1 x0 ∗ has c a2 x1
            ∗ has c a3 (k2_pay5 x1 (x0 only) (k2_pay1 (F := F))) ∗ has c a4 (k2_pay6 x1 (x0 only) (k2_pay2 (F := F)))) -∗ K ⟨⟩))
      ⊢ wp frame (wpE (defs₀ (F := F)) Variants.none c none) E (cc2__countsum_body i a1 h1 a2 h2 a3 h3 a4 h4) K := by
  simp only [cc2__countsum_body_eq_skeleton]; unfold cc2__countsum_body_skel
  unfold has owns
  iintro ⟨⟨%f0, %hf0, H0⟩, ⟨%f1, %hf1, H1⟩, ⟨%d2, %f2, -, H2⟩, ⟨%d3, %f3, -, H3⟩, Hk⟩
  obtain rfl := h1.eq_unread hf0; obtain rfl := h2.eq_unread hf1
  sl_exec (disch := first | sl_exact hc0)
  sl_step
  iapply Hk
  isplitl [H0]
  · iexists _; isplitr; swap; · iexact H0
    ipureintro
    exact h1.read_unread _
  isplitl [H1]
  · iexists _; isplitr; swap; · iexact H1
    ipureintro
    exact h2.read_unread _
  isplitl [H2]
  · iexists _; isplitr; swap; · iexact H2
    ipureintro
    exact (View.read_writes_full a3.view _ _ _ _).trans (congr (congr (congrArg k2_pay5 ((View.readAt_full a2.view _ _).trans hf1)) (((congrFun (View.readAt_full a1.view _ _) _).trans (congrFun hf0 _)).trans (congrArg x0 (eq_only _)))) (View.readCov_full a3.view _ _ _ _))
  iexists _; isplitr; swap; · iexact H3
  ipureintro
  exact (View.read_writes_full a4.view _ _ _ _).trans (congr (congr (congrArg k2_pay6 ((View.readAt_full a2.view _ _).trans hf1)) (((congrFun (View.readAt_full a1.view _ _) _).trans (congrFun hf0 _)).trans (congrArg x0 (eq_only _)))) (View.readCov_full a4.view _ _ _ _))

set_option maxHeartbeats 1000000 in
/-- At a later point the counting body leaves one step over what the point before left. -/
theorem count_next (c : Dev nD) (i : grid2.Coords) (hc0 : ¬ atStart (i 0))
    (a1 : Memref sig .tc .smem S1x1 .f32) (h1 : a1.IsWhole) (a2 : Memref sig .tc .vmem S256x512 .f32) (h2 : a2.IsWhole)
    (a3 : Memref sig .tc .vmem S1x512 .f32) (h3 : a3.IsWhole) (a4 : Memref sig .tc .vmem S1x512 .f32) (h4 : a4.IsWhole)
    (x0 : Vec F S1x1 .f32) (x1 : Vec F S256x512 .f32) (y0 y1 : Vec F S1x512 .f32) (E : Set ℕ)
    (K : PUnit → sProp (MT nD τ sig Unit (Elt F) ℕ U ℕ)) :
    iprop(has c a1 x0 ∗ has c a2 x1 ∗ has c a3 y0 ∗ has c a4 y1
        ∗ (iprop(has c a1 x0 ∗ has c a2 x1
            ∗ has c a3 (k2_pay5 x1 (x0 only) y0) ∗ has c a4 (k2_pay6 x1 (x0 only) y1)) -∗ K ⟨⟩))
      ⊢ wp frame (wpE (defs₀ (F := F)) Variants.none c none) E (cc2__countsum_body i a1 h1 a2 h2 a3 h3 a4 h4) K := by
  simp only [cc2__countsum_body_eq_skeleton]; unfold cc2__countsum_body_skel
  unfold has owns
  iintro ⟨⟨%f0, %hf0, H0⟩, ⟨%f1, %hf1, H1⟩, ⟨%f2, %hf2, H2⟩, ⟨%f3, %hf3, H3⟩, Hk⟩
  obtain rfl := h1.eq_unread hf0; obtain rfl := h2.eq_unread hf1; obtain rfl := h3.eq_unread hf2; obtain rfl := h4.eq_unread hf3
  sl_exec (disch := first | sl_exact hc0)
  sl_step
  iapply Hk
  isplitl [H0]
  · iexists _; isplitr; swap; · iexact H0
    ipureintro
    exact h1.read_unread _
  isplitl [H1]
  · iexists _; isplitr; swap; · iexact H1
    ipureintro
    exact h2.read_unread _
  isplitl [H2]
  · iexists _; isplitr; swap; · iexact H2
    ipureintro
    exact (View.read_writes_full a3.view _ _ _ _).trans (congr (congr (congrArg k2_pay5 ((View.readAt_full a2.view _ _).trans hf1)) (((congrFun (View.readAt_full a1.view _ _) _).trans (congrFun hf0 _)).trans (congrArg x0 (eq_only _)))) ((View.readAt_full a3.view _ _).trans hf2))
  iexists _; isplitr; swap; · iexact H3
  ipureintro
  exact (View.read_writes_full a4.view _ _ _ _).trans (congr (congr (congrArg k2_pay6 ((View.readAt_full a2.view _ _).trans hf1)) (((congrFun (View.readAt_full a1.view _ _) _).trans (congrFun hf0 _)).trans (congrArg x0 (eq_only _)))) ((View.readAt_full a4.view _ _).trans hf3))

/-- The four printings of the counting kernel are one program. -/
theorem count3_eq : cc3__countsum_body (F := F) = cc2__countsum_body (F := F) := by sl_kernel_rfl
theorem count5_eq : cc5__countsum_body (F := F) = cc2__countsum_body (F := F) := by sl_kernel_rfl
theorem count6_eq : cc6__countsum_body (F := F) = cc2__countsum_body (F := F) := by sl_kernel_rfl

end Cert.Balanced

end
-- ==== Proof.LossBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Tactic
public import Idealize.ShloMosaic.Lib.WordCmp
public import Idealize.ShloMosaic.Lib.VecWindow
public import proofs.«01_k».proof.Proof.CountBody

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [Idealize.SL.RA.URA U]

set_option maxHeartbeats 1000000 in
/-- The first loss kernel writes its block of losses. -/
theorem loss_s (c : Dev nD) (i : grid1.Coords) (a1 : Memref sig .tc .vmem S256x512 .f32) (h1 : a1.IsWhole) (a2 : Memref sig .tc .vmem S256x512 .f32) (h2 : a2.IsWhole) (a3 : Memref sig .tc .vmem S256x512 .f32) (h3 : a3.IsWhole)
    (x1 x2 : Vec F S256x512 .f32) (E : Set ℕ) (K : PUnit → sProp (MT nD τ sig Unit (Elt F) ℕ U ℕ)) :
    iprop(has c a1 x1 ∗ has c a2 x2 ∗ (∃ d, has c a3 d)
        ∗ (iprop(has c a1 x1 ∗ has c a2 x2 ∗ has c a3 (k1_pay1 x1 x2)) -∗ K ⟨⟩))
      ⊢ wp frame (wpE (defs₀ (F := F)) Variants.none c none) E (cc1__negloss_s_body i a1 h1 a2 h2 a3 h3) K := by
  simp only [cc1__negloss_s_body_eq_skeleton]; unfold cc1__negloss_s_body_skel
  unfold has owns
  iintro ⟨⟨%f1, %hf1, H1⟩, ⟨%f2, %hf2, H2⟩, ⟨%d3, %f3, -, H3⟩, Hk⟩
  obtain rfl := h1.eq_unread hf1; obtain rfl := h2.eq_unread hf2
  sl_exec
  sl_step
  iapply Hk
  isplitl [H1]
  · iexists _; isplitr; swap; · iexact H1
    ipureintro
    exact h1.read_unread _
  isplitl [H2]
  · iexists _; isplitr; swap; · iexact H2
    ipureintro
    exact h2.read_unread _
  iexists _; isplitr; swap; · iexact H3
  ipureintro
  exact (View.read_writes_full a3.view _ _ _ _).trans (congr (congrArg k1_pay1 ((View.readAt_full a1.view _ _).trans hf1)) ((View.readAt_full a2.view _ _).trans hf2))

set_option maxHeartbeats 1000000 in
/-- The second loss kernel writes its block of losses. -/
theorem loss_b (c : Dev nD) (i : grid4.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole)
    (x1 x2 x3 x4 : Vec F S256x512 .f32) (E : Set ℕ) (K : PUnit → sProp (MT nD τ sig Unit (Elt F) ℕ U ℕ)) :
    iprop(has c a1 x1 ∗ has c a2 x2 ∗ has c a3 x3 ∗ has c a4 x4 ∗ (∃ d, has c a5 d)
        ∗ (iprop(has c a1 x1 ∗ has c a2 x2 ∗ has c a3 x3 ∗ has c a4 x4 ∗ has c a5 (k4_pay1 x1 x2 x3 x4)) -∗ K ⟨⟩))
      ⊢ wp frame (wpE (defs₀ (F := F)) Variants.none c none) E (cc4__negloss_b_body i a1 h1 a2 h2 a3 h3 a4 h4 a5 h5) K := by
  simp only [cc4__negloss_b_body_eq_skeleton]; unfold cc4__negloss_b_body_skel
  unfold has owns
  iintro ⟨⟨%f1, %hf1, H1⟩, ⟨%f2, %hf2, H2⟩, ⟨%f3, %hf3, H3⟩, ⟨%f4, %hf4, H4⟩, ⟨%d5, %f5, -, H5⟩, Hk⟩
  obtain rfl := h1.eq_unread hf1; obtain rfl := h2.eq_unread hf2; obtain rfl := h3.eq_unread hf3; obtain rfl := h4.eq_unread hf4
  sl_exec
  sl_step
  iapply Hk
  isplitl [H1]
  · iexists _; isplitr; swap; · iexact H1
    ipureintro
    exact h1.read_unread _
  isplitl [H2]
  · iexists _; isplitr; swap; · iexact H2
    ipureintro
    exact h2.read_unread _
  isplitl [H3]
  · iexists _; isplitr; swap; · iexact H3
    ipureintro
    exact h3.read_unread _
  isplitl [H4]
  · iexists _; isplitr; swap; · iexact H4
    ipureintro
    exact h4.read_unread _
  iexists _; isplitr; swap; · iexact H5
  ipureintro
  exact (View.read_writes_full a5.view _ _ _ _).trans (congr (congr (congr (congrArg k4_pay1 ((View.readAt_full a1.view _ _).trans hf1)) ((View.readAt_full a2.view _ _).trans hf2)) ((View.readAt_full a3.view _ _).trans hf3)) ((View.readAt_full a4.view _ _).trans hf4))

end Cert.Balanced

end
-- ==== Proof.StatsBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Tactic
public import Idealize.ShloMosaic.Lib.WordCmp
public import Idealize.ShloMosaic.Lib.VecWindow
public import proofs.«01_k».proof.Proof.CountBody

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [Idealize.SL.RA.URA U]

/-- One step of the seven running sums of the first kernel over a block of the two maps and the two targets, sum by sum. -/
def statStep (w : Fin 7) (x1 x2 x3 x4 : Vec F S256x512 .f32) (y : Vec F S1x512 .f32) : Vec F S1x512 .f32 :=
  match w with
  | 0 => k0_pay23 (k0_pay16 x3) y
  | 1 => k0_pay24 (k0_pay15 x1 x3) (k0_pay16 x3) y
  | 2 => k0_pay25 (k0_pay15 x1 x3) y
  | 3 => k0_pay26 (k0_pay17 x3 x4) k0_pay19 y
  | 4 => k0_pay1 (k0_pay18 x1 x2 x3 x4) (k0_pay20 (k0_pay17 x3 x4) k0_pay19) k0_pay22 (k0_pay27 y)
  | 5 => k0_pay2 (k0_pay18 x1 x2 x3 x4) y
  | 6 => k0_pay3 (k0_pay12 x2) (k0_pay14 x4) y

/-- What the seven running sums are reset to. -/
def statZero (w : Fin 7) : Vec F S1x512 .f32 :=
  match w with
  | 0 => k0_pay4
  | 1 => k0_pay5
  | 2 => k0_pay6
  | 3 => k0_pay7
  | 4 => k0_pay8
  | 5 => k0_pay9
  | 6 => k0_pay10

set_option maxHeartbeats 1000000 in
/-- At the first point the seven sums are one step over zeros. -/
theorem stats_first (c : Dev nD) (i : grid0.Coords) (hc0 : atStart (i 0))
    (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole)
    (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S1x512 .f32) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole)
    (x1 x2 x3 x4 : Vec F S256x512 .f32) (E : Set ℕ) (K : PUnit → sProp (MT nD τ sig Unit (Elt F) ℕ U ℕ)) :
    iprop(has c a1 x1 ∗ has c a2 x2 ∗ has c a3 x3 ∗ has c a4 x4 ∗ (∃ d, has c a5 d) ∗ (∃ d, has c a6 d) ∗ (∃ d, has c a7 d) ∗ (∃ d, has c a8 d) ∗ (∃ d, has c a9 d) ∗ (∃ d, has c a10 d) ∗ (∃ d, has c a11 d)
        ∗ (iprop(has c a1 x1 ∗ has c a2 x2 ∗ has c a3 x3 ∗ has c a4 x4 ∗ has c a5 (statStep 0 x1 x2 x3 x4 (statZero 0)) ∗ has c a6 (statStep 1 x1 x2 x3 x4 (statZero 1)) ∗ has c a7 (statStep 2 x1 x2 x3 x4 (statZero 2)) ∗ has c a8 (statStep 3 x1 x2 x3 x4 (statZero 3)) ∗ has c a9 (statStep 4 x1 x2 x3 x4 (statZero 4)) ∗ has c a10 (statStep 5 x1 x2 x3 x4 (statZero 5)) ∗ has c a11 (statStep 6 x1 x2 x3 x4 (statZero 6))) -∗ K ⟨⟩))
      ⊢ wp frame (wpE (defs₀ (F := F)) Variants.none c none) E (cc0__stats_body i a1 h1 a2 h2 a3 h3 a4 h4 a5 h5 a6 h6 a7 h7 a8 h8 a9 h9 a10 h10 a11 h11) K := by
  simp only [cc0__stats_body_eq_skeleton]; unfold cc0__stats_body_skel
  simp only [k0_part1_eq_skeleton, k0_part2_eq_skeleton]; unfold k0_part1_skel k0_part2_skel
  unfold has owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := h1.eq_unread hf1; obtain rfl := h2.eq_unread hf2; obtain rfl := h3.eq_unread hf3; obtain rfl := h4.eq_unread hf4
  have e1 := (View.readAt_full a1.view (h1.unread x1) inb_S256x512_S256x512_0_0).trans hf1
  have e2 := (View.readAt_full a2.view (h2.unread x2) inb_S256x512_S256x512_0_0).trans hf2
  have e3 := (View.readAt_full a3.view (h3.unread x3) inb_S256x512_S256x512_0_0).trans hf3
  have e4 := (View.readAt_full a4.view (h4.unread x4) inb_S256x512_S256x512_0_0).trans hf4
  sl_exec (disch := first | sl_exact hc0)
  sl_step
  iapply Hk
  isplitl [H1]
  · iexists _; isplitr; swap; · iexact H1
    ipureintro
    exact h1.read_unread _
  isplitl [H2]
  · iexists _; isplitr; swap; · iexact H2
    ipureintro
    exact h2.read_unread _
  isplitl [H3]
  · iexists _; isplitr; swap; · iexact H3
    ipureintro
    exact h3.read_unread _
  isplitl [H4]
  · iexists _; isplitr; swap; · iexact H4
    ipureintro
    exact h4.read_unread _
  isplitl [H5]
  · iexists _; isplitr; swap; · iexact H5
    ipureintro
    refine (View.read_writes_full a5.view _ _ _ _).trans ?_
    dsimp only [statStep, statZero]
    exact congrArg (k0_pay23 _) (View.readCov_full a5.view _ _ _ _)
  isplitl [H6]
  · iexists _; isplitr; swap; · iexact H6
    ipureintro
    refine (View.read_writes_full a6.view _ _ _ _).trans ?_
    dsimp only [statStep, statZero]
    exact congrArg (k0_pay24 _ _) (View.readCov_full a6.view _ _ _ _)
  isplitl [H7]
  · iexists _; isplitr; swap; · iexact H7
    ipureintro
    refine (View.read_writes_full a7.view _ _ _ _).trans ?_
    dsimp only [statStep, statZero]
    exact congrArg (k0_pay25 _) (View.readCov_full a7.view _ _ _ _)
  isplitl [H8]
  · iexists _; isplitr; swap; · iexact H8
    ipureintro
    refine (View.read_writes_full a8.view _ _ _ _).trans ?_
    dsimp only [statStep, statZero]
    exact congrArg (k0_pay26 _ _) (View.readCov_full a8.view _ _ _ _)
  isplitl [H9]
  · iexists _; isplitr; swap; · iexact H9
    ipureintro
    refine (View.read_writes_full a9.view _ _ _ _).trans ?_
    dsimp only [statStep, statZero]
    exact congrArg (fun z => k0_pay1 _ _ _ (k0_pay27 z)) (View.readCov_full a9.view _ _ _ _)
  isplitl [H10]
  · iexists _; isplitr; swap; · iexact H10
    ipureintro
    refine (View.read_writes_full a10.view _ _ _ _).trans ?_
    dsimp only [statStep, statZero]
    exact congrArg (k0_pay2 _) (View.readCov_full a10.view _ _ _ _)
  iexists _; isplitr; swap; · iexact H11
  ipureintro
  refine (View.read_writes_full a11.view _ _ _ _).trans ?_
  dsimp only [statStep, statZero]
  exact congrArg (k0_pay3 _ _) (View.readCov_full a11.view _ _ _ _)

set_option maxHeartbeats 1000000 in
/-- At a later point they are one step over what the point before left. -/
theorem stats_next (c : Dev nD) (i : grid0.Coords) (hc0 : ¬ atStart (i 0))
    (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole)
    (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S1x512 .f32) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole)
    (x1 x2 x3 x4 : Vec F S256x512 .f32) (y : Fin 7 → Vec F S1x512 .f32) (E : Set ℕ) (K : PUnit → sProp (MT nD τ sig Unit (Elt F) ℕ U ℕ)) :
    iprop(has c a1 x1 ∗ has c a2 x2 ∗ has c a3 x3 ∗ has c a4 x4 ∗ has c a5 (y 0) ∗ has c a6 (y 1) ∗ has c a7 (y 2) ∗ has c a8 (y 3) ∗ has c a9 (y 4) ∗ has c a10 (y 5) ∗ has c a11 (y 6)
        ∗ (iprop(has c a1 x1 ∗ has c a2 x2 ∗ has c a3 x3 ∗ has c a4 x4 ∗ has c a5 (statStep 0 x1 x2 x3 x4 (y 0)) ∗ has c a6 (statStep 1 x1 x2 x3 x4 (y 1)) ∗ has c a7 (statStep 2 x1 x2 x3 x4 (y 2)) ∗ has c a8 (statStep 3 x1 x2 x3 x4 (y 3)) ∗ has c a9 (statStep 4 x1 x2 x3 x4 (y 4)) ∗ has c a10 (statStep 5 x1 x2 x3 x4 (y 5)) ∗ has c a11 (statStep 6 x1 x2 x3 x4 (y 6))) -∗ K ⟨⟩))
      ⊢ wp frame (wpE (defs₀ (F := F)) Variants.none c none) E (cc0__stats_body i a1 h1 a2 h2 a3 h3 a4 h4 a5 h5 a6 h6 a7 h7 a8 h8 a9 h9 a10 h10 a11 h11) K := by
  simp only [cc0__stats_body_eq_skeleton]; unfold cc0__stats_body_skel
  simp only [k0_part1_eq_skeleton, k0_part2_eq_skeleton]; unfold k0_part1_skel k0_part2_skel
  unfold has owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11
  have e1 := (View.readAt_full a1.view (h1.unread x1) inb_S256x512_S256x512_0_0).trans hf1
  have e2 := (View.readAt_full a2.view (h2.unread x2) inb_S256x512_S256x512_0_0).trans hf2
  have e3 := (View.readAt_full a3.view (h3.unread x3) inb_S256x512_S256x512_0_0).trans hf3
  have e4 := (View.readAt_full a4.view (h4.unread x4) inb_S256x512_S256x512_0_0).trans hf4
  have e5 := (View.readAt_full a5.view (h5.unread (y 0)) inb_S1x512_S1x512_0_0).trans hf5
  have e6 := (View.readAt_full a6.view (h6.unread (y 1)) inb_S1x512_S1x512_0_0).trans hf6
  have e7 := (View.readAt_full a7.view (h7.unread (y 2)) inb_S1x512_S1x512_0_0).trans hf7
  have e8 := (View.readAt_full a8.view (h8.unread (y 3)) inb_S1x512_S1x512_0_0).trans hf8
  have e9 := (View.readAt_full a9.view (h9.unread (y 4)) inb_S1x512_S1x512_0_0).trans hf9
  have e10 := (View.readAt_full a10.view (h10.unread (y 5)) inb_S1x512_S1x512_0_0).trans hf10
  have e11 := (View.readAt_full a11.view (h11.unread (y 6)) inb_S1x512_S1x512_0_0).trans hf11
  sl_exec (disch := first | sl_exact hc0)
  sl_step
  iapply Hk
  isplitl [H1]
  · iexists _; isplitr; swap; · iexact H1
    ipureintro
    exact h1.read_unread _
  isplitl [H2]
  · iexists _; isplitr; swap; · iexact H2
    ipureintro
    exact h2.read_unread _
  isplitl [H3]
  · iexists _; isplitr; swap; · iexact H3
    ipureintro
    exact h3.read_unread _
  isplitl [H4]
  · iexists _; isplitr; swap; · iexact H4
    ipureintro
    exact h4.read_unread _
  isplitl [H5]
  · iexists _; isplitr; swap; · iexact H5
    ipureintro
    refine (View.read_writes_full a5.view _ _ _ _).trans ?_
    dsimp only [statStep, statZero]
  isplitl [H6]
  · iexists _; isplitr; swap; · iexact H6
    ipureintro
    refine (View.read_writes_full a6.view _ _ _ _).trans ?_
    dsimp only [statStep, statZero]
  isplitl [H7]
  · iexists _; isplitr; swap; · iexact H7
    ipureintro
    refine (View.read_writes_full a7.view _ _ _ _).trans ?_
    dsimp only [statStep, statZero]
  isplitl [H8]
  · iexists _; isplitr; swap; · iexact H8
    ipureintro
    refine (View.read_writes_full a8.view _ _ _ _).trans ?_
    dsimp only [statStep, statZero]
  isplitl [H9]
  · iexists _; isplitr; swap; · iexact H9
    ipureintro
    refine (View.read_writes_full a9.view _ _ _ _).trans ?_
    dsimp only [statStep, statZero]
  isplitl [H10]
  · iexists _; isplitr; swap; · iexact H10
    ipureintro
    refine (View.read_writes_full a10.view _ _ _ _).trans ?_
    dsimp only [statStep, statZero]
  iexists _; isplitr; swap; · iexact H11
  ipureintro
  refine (View.read_writes_full a11.view _ _ _ _).trans ?_
  dsimp only [statStep, statZero]

end Cert.Balanced

end
-- ==== Proof.Point.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Tactic
public import Idealize.ShloMosaic.Lib.WordCmp
public import Idealize.ShloMosaic.Lib.VecWindow
public import proofs.«01_k».proof.Proof.CountBody
public import proofs.«01_k».proof.Proof.LossBody
public import proofs.«01_k».proof.Proof.StatsBody

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [Idealize.SL.RA.URA U]

/-- The index of the entry in row `r` and column `l`. -/
abbrev ofRC (r : ℕ) (hr : r < 8192) (l : ℕ) (hl : l < 512) : S8192x512.Idx :=
  fun a => match a with
    | ⟨0, _⟩ => ⟨r, hr⟩
    | ⟨1, _⟩ => ⟨l, hl⟩

/-- Block `n` of 256 rows of an array of 8192 rows. -/
def rows {α : Type} (x : S8192x512.Idx → α) (n : ℕ) : S256x512.Idx → α := fun y =>
  x (ofRC ((256 * n + (y 0).val) % 8192) (Nat.mod_lt _ (by decide)) (y 1).val (y 1).isLt)

/-- The running value of an accumulator: after point `n` the steps `0, …, n` have been taken, the first over `z`. -/
def runTo {α : Type} (step : ℕ → α → α) (z : α) : ℕ → α
  | 0 => step 0 z
  | n + 1 => step (n + 1) (runTo step z n)

theorem runTo_of_ne {α : Type} (step : ℕ → α → α) (z : α) {n : ℕ} (h : n ≠ 0) : runTo step z n = step n (runTo step z (n - 1)) := by
  obtain ⟨k, rfl⟩ := Nat.exists_eq_succ_of_ne_zero h
  rfl

/-- The running count of the entries above `t`, column by column. -/
def cntTo (t : Vec F S1x1 .f32) (x : Vec F S8192x512 .f32) : ℕ → Vec F S1x512 .f32 :=
  runTo (fun n y => k2_pay5 (rows x n) (t only) y) k2_pay1
/-- The running sum of the entries above `t`, column by column. -/
def sumTo (t : Vec F S1x1 .f32) (x : Vec F S8192x512 .f32) : ℕ → Vec F S1x512 .f32 :=
  runTo (fun n y => k2_pay6 (rows x n) (t only) y) k2_pay2
/-- The seven running sums of the first kernel, column by column. -/
def statTo (w : Fin 7) (x1 x2 x3 x4 : Vec F S8192x512 .f32) : ℕ → Vec F S1x512 .f32 :=
  runTo (fun n y => statStep w (rows x1 n) (rows x2 n) (rows x3 n) (rows x4 n) y) (statZero w)

set_option maxHeartbeats 1000000 in
/-- The counting body at grid point `n`: the two running values go from point `n - 1` to point `n`. -/
theorem count_point (c : Dev nD) (n : ℕ) (i : grid2.Coords) (hi : atStart (i 0) ↔ n = 0)
    (a1 : Memref sig .tc .smem S1x1 .f32) (h1 : a1.IsWhole) (a2 : Memref sig .tc .vmem S256x512 .f32) (h2 : a2.IsWhole)
    (a3 : Memref sig .tc .vmem S1x512 .f32) (h3 : a3.IsWhole) (a4 : Memref sig .tc .vmem S1x512 .f32) (h4 : a4.IsWhole)
    (t : Vec F S1x1 .f32) (x : Vec F S8192x512 .f32) (P Q : sProp (MT nD τ sig Unit (Elt F) ℕ U ℕ))
    (b1 : Vec F S1x1 .f32 → Vec F S1x1 .f32) (b2 : Vec F S256x512 .f32 → Vec F S256x512 .f32) (b3 b4 : Vec F S1x512 .f32 → Vec F S1x512 .f32)
    (e1 : ∀ d, b1 d = t) (e2 : ∀ d, b2 d = rows x n) (e3 : n ≠ 0 → ∀ d, b3 d = cntTo t x (n - 1)) (e4 : n ≠ 0 → ∀ d, b4 d = sumTo t x (n - 1)) :
    iprop(P ∗ Q ∗ (∃ d, has c a1 (b1 d)) ∗ (∃ d, has c a2 (b2 d)) ∗ (∃ d, has c a3 (b3 d)) ∗ (∃ d, has c a4 (b4 d)))
      ⊢ wp frame (wpE (defs₀ (F := F)) Variants.none c none) Set.univ (cc2__countsum_body i a1 h1 a2 h2 a3 h3 a4 h4)
        (fun _ => iprop(P ∗ Q ∗ has c a1 t ∗ has c a2 (rows x n) ∗ has c a3 (cntTo t x n) ∗ has c a4 (sumTo t x n))) := by
  simp only [e1, e2]
  by_cases h0 : n = 0
  · subst h0
    iintro ⟨HP, HQ, ⟨%d1, H1⟩, ⟨%d2, H2⟩, ⟨%d3, H3⟩, ⟨%d4, H4⟩⟩
    iapply (count_first c i (hi.mpr rfl) a1 h1 a2 h2 a3 h3 a4 h4 t (rows x 0) Set.univ _)
    isplitl [H1]; · iexact H1
    isplitl [H2]; · iexact H2
    isplitl [H3]; · iexists _; iexact H3
    isplitl [H4]; · iexists _; iexact H4
    iintro ⟨H1, H2, H3, H4⟩
    isplitl [HP]; · iexact HP
    isplitl [HQ]; · iexact HQ
    isplitl [H1]; · iexact H1
    isplitl [H2]; · iexact H2
    isplitl [H3]; · iexact H3
    iexact H4
  · simp only [e3 h0, e4 h0]
    rw [show cntTo t x n = k2_pay5 (rows x n) (t only) (cntTo t x (n - 1)) from runTo_of_ne _ _ h0,
      show sumTo t x n = k2_pay6 (rows x n) (t only) (sumTo t x (n - 1)) from runTo_of_ne _ _ h0]
    iintro ⟨HP, HQ, ⟨%d1, H1⟩, ⟨%d2, H2⟩, ⟨%d3, H3⟩, ⟨%d4, H4⟩⟩
    iapply (count_next c i (fun h => h0 (hi.mp h)) a1 h1 a2 h2 a3 h3 a4 h4 t (rows x n) _ _ Set.univ _)
    isplitl [H1]; · iexact H1
    isplitl [H2]; · iexact H2
    isplitl [H3]; · iexact H3
    isplitl [H4]; · iexact H4
    iintro ⟨H1, H2, H3, H4⟩
    isplitl [HP]; · iexact HP
    isplitl [HQ]; · iexact HQ
    isplitl [H1]; · iexact H1
    isplitl [H2]; · iexact H2
    isplitl [H3]; · iexact H3
    iexact H4

/-- Where a block of 256 rows starts, as the printed index map computes it. -/
theorem rows_index (i n y : ℕ) (hi : i = n) (hn : n < 32) (hy : y < 256) :
    (BitVec.ofNat 32 i).toNat * 256 + 1 * y = (256 * n + y) % 8192 := by
  subst hi
  rw [BitVec.toNat_ofNat]
  omega
theorem cols_index (y : ℕ) : (0#32).toNat * 512 + 1 * y = y := by
  simp

/-- Every region's grid is one axis of 32 points: a point's coordinate is its position. -/
theorem coords_eq (t : Fin grid2.N) : (grid2.coords t 0).val = t.val := by
  have ht : t.val < 32 := Nat.lt_of_lt_of_eq t.isLt N_2
  have e0 : (grid2.coords t 0).val = t.val / 1 % 32 := Pipeline.Grid.coords_val t 0 (by decide) rfl
  omega

theorem start_iff (t : Fin grid2.N) : atStart (grid2.coords t 0) ↔ t.val = 0 := by
  have ht : t.val < 32 := Nat.lt_of_lt_of_eq t.isLt N_2
  simp only [atStart, coords_eq]
  word_cmp

set_option maxHeartbeats 1000000 in
/-- The first kernel's body at grid point `n`: the seven running sums go from point `n - 1` to point `n`. -/
theorem stats_point (c : Dev nD) (n : ℕ) (i : grid0.Coords) (hi : atStart (i 0) ↔ n = 0)
    (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole)
    (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S1x512 .f32) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole)
    (x1 x2 x3 x4 : Vec F S8192x512 .f32) (P Q : sProp (MT nD τ sig Unit (Elt F) ℕ U ℕ))
    (b1 b2 b3 b4 : Vec F S256x512 .f32 → Vec F S256x512 .f32) (b : Fin 7 → Vec F S1x512 .f32 → Vec F S1x512 .f32)
    (e1 : ∀ d, b1 d = rows x1 n) (e2 : ∀ d, b2 d = rows x2 n) (e3 : ∀ d, b3 d = rows x3 n) (e4 : ∀ d, b4 d = rows x4 n)
    (e : n ≠ 0 → ∀ w d, b w d = statTo w x1 x2 x3 x4 (n - 1)) :
    iprop(P ∗ Q ∗ (∃ d, has c a1 (b1 d)) ∗ (∃ d, has c a2 (b2 d)) ∗ (∃ d, has c a3 (b3 d)) ∗ (∃ d, has c a4 (b4 d)) ∗ (∃ d, has c a5 (b 0 d)) ∗ (∃ d, has c a6 (b 1 d)) ∗ (∃ d, has c a7 (b 2 d)) ∗ (∃ d, has c a8 (b 3 d)) ∗ (∃ d, has c a9 (b 4 d)) ∗ (∃ d, has c a10 (b 5 d)) ∗ (∃ d, has c a11 (b 6 d)))
      ⊢ wp frame (wpE (defs₀ (F := F)) Variants.none c none) Set.univ (cc0__stats_body i a1 h1 a2 h2 a3 h3 a4 h4 a5 h5 a6 h6 a7 h7 a8 h8 a9 h9 a10 h10 a11 h11)
        (fun _ => iprop(P ∗ Q ∗ has c a1 (rows x1 n) ∗ has c a2 (rows x2 n) ∗ has c a3 (rows x3 n) ∗ has c a4 (rows x4 n) ∗ has c a5 (statTo 0 x1 x2 x3 x4 n) ∗ has c a6 (statTo 1 x1 x2 x3 x4 n) ∗ has c a7 (statTo 2 x1 x2 x3 x4 n) ∗ has c a8 (statTo 3 x1 x2 x3 x4 n) ∗ has c a9 (statTo 4 x1 x2 x3 x4 n) ∗ has c a10 (statTo 5 x1 x2 x3 x4 n) ∗ has c a11 (statTo 6 x1 x2 x3 x4 n))) := by
  simp only [e1, e2, e3, e4]
  by_cases h0 : n = 0
  · subst h0
    iintro ⟨HP, HQ, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (stats_first c i (hi.mpr rfl) a1 h1 a2 h2 a3 h3 a4 h4 a5 h5 a6 h6 a7 h7 a8 h8 a9 h9 a10 h10 a11 h11 (rows x1 0) (rows x2 0) (rows x3 0) (rows x4 0) Set.univ _)
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H1, H2, H3, H4, H5, H6, H7, H8, H9, H10, H11⟩
    isplitl [HP]; · iexact HP
    isplitl [HQ]; · iexact HQ
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · simp only [e h0]
    have hs : ∀ w, statTo w x1 x2 x3 x4 n = statStep w (rows x1 n) (rows x2 n) (rows x3 n) (rows x4 n) (statTo w x1 x2 x3 x4 (n - 1)) :=
      fun w => runTo_of_ne _ _ h0
    rw [hs 0, hs 1, hs 2, hs 3, hs 4, hs 5, hs 6]
    iintro ⟨HP, HQ, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (stats_next c i (fun h => h0 (hi.mp h)) a1 h1 a2 h2 a3 h3 a4 h4 a5 h5 a6 h6 a7 h7 a8 h8 a9 h9 a10 h10 a11 h11 (rows x1 n) (rows x2 n) (rows x3 n) (rows x4 n)
      (fun w => statTo w x1 x2 x3 x4 (n - 1)) Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H1, H2, H3, H4, H5, H6, H7, H8, H9, H10, H11⟩
    isplitl [HP]; · iexact HP
    isplitl [HQ]; · iexact HQ
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- A loss kernel's body at grid point `n`: block `n` of the losses from block `n` of the operands. -/
theorem loss_s_point (c : Dev nD) (i : grid1.Coords)
    (a1 : Memref sig .tc .vmem S256x512 .f32) (h1 : a1.IsWhole) (a2 : Memref sig .tc .vmem S256x512 .f32) (h2 : a2.IsWhole) (a3 : Memref sig .tc .vmem S256x512 .f32) (h3 : a3.IsWhole)
    (x1 x2 : Vec F S256x512 .f32) (P Q : sProp (MT nD τ sig Unit (Elt F) ℕ U ℕ))
    (b1 b2 b3 : Vec F S256x512 .f32 → Vec F S256x512 .f32)
    (e1 : ∀ d, b1 d = x1) (e2 : ∀ d, b2 d = x2) :
    iprop(P ∗ Q ∗ (∃ d, has c a1 (b1 d)) ∗ (∃ d, has c a2 (b2 d)) ∗ (∃ d, has c a3 (b3 d)))
      ⊢ wp frame (wpE (defs₀ (F := F)) Variants.none c none) Set.univ (cc1__negloss_s_body i a1 h1 a2 h2 a3 h3)
        (fun _ => iprop(P ∗ Q ∗ has c a1 x1 ∗ has c a2 x2 ∗ has c a3 (k1_pay1 x1 x2))) := by
  simp only [e1, e2]
  iintro ⟨HP, HQ, ⟨%d1, H1⟩, ⟨%d2, H2⟩, ⟨%d3, H3⟩⟩
  iapply (loss_s c i a1 h1 a2 h2 a3 h3 x1 x2 Set.univ _)
  isplitl [H1]; · iexact H1
  isplitl [H2]; · iexact H2
  isplitl [H3]; · iexists _; iexact H3
  iintro ⟨H1, H2, H3⟩
  isplitl [HP]; · iexact HP
  isplitl [HQ]; · iexact HQ
  isplitl [H1]; · iexact H1
  isplitl [H2]; · iexact H2
  iexact H3

/-- A loss kernel's body at grid point `n`: block `n` of the losses from block `n` of the operands. -/
theorem loss_b_point (c : Dev nD) (i : grid4.Coords)
    (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole)
    (x1 x2 x3 x4 : Vec F S256x512 .f32) (P Q : sProp (MT nD τ sig Unit (Elt F) ℕ U ℕ))
    (b1 b2 b3 b4 b5 : Vec F S256x512 .f32 → Vec F S256x512 .f32)
    (e1 : ∀ d, b1 d = x1) (e2 : ∀ d, b2 d = x2) (e3 : ∀ d, b3 d = x3) (e4 : ∀ d, b4 d = x4) :
    iprop(P ∗ Q ∗ (∃ d, has c a1 (b1 d)) ∗ (∃ d, has c a2 (b2 d)) ∗ (∃ d, has c a3 (b3 d)) ∗ (∃ d, has c a4 (b4 d)) ∗ (∃ d, has c a5 (b5 d)))
      ⊢ wp frame (wpE (defs₀ (F := F)) Variants.none c none) Set.univ (cc4__negloss_b_body i a1 h1 a2 h2 a3 h3 a4 h4 a5 h5)
        (fun _ => iprop(P ∗ Q ∗ has c a1 x1 ∗ has c a2 x2 ∗ has c a3 x3 ∗ has c a4 x4 ∗ has c a5 (k4_pay1 x1 x2 x3 x4))) := by
  simp only [e1, e2, e3, e4]
  iintro ⟨HP, HQ, ⟨%d1, H1⟩, ⟨%d2, H2⟩, ⟨%d3, H3⟩, ⟨%d4, H4⟩, ⟨%d5, H5⟩⟩
  iapply (loss_b c i a1 h1 a2 h2 a3 h3 a4 h4 a5 h5 x1 x2 x3 x4 Set.univ _)
  isplitl [H1]; · iexact H1
  isplitl [H2]; · iexact H2
  isplitl [H3]; · iexact H3
  isplitl [H4]; · iexact H4
  isplitl [H5]; · iexists _; iexact H5
  iintro ⟨H1, H2, H3, H4, H5⟩
  isplitl [HP]; · iexact HP
  isplitl [HQ]; · iexact HQ
  isplitl [H1]; · iexact H1
  isplitl [H2]; · iexact H2
  isplitl [H3]; · iexact H3
  isplitl [H4]; · iexact H4
  iexact H5

theorem row_index (y : ℕ) : (0#32).toNat * 1 + 1 * y = y := by
  simp

/-- Where an entry lies in its block of 256 rows. -/
def inBlock (i : S8192x512.Idx) : S256x512.Idx := fun a => match a with
  | ⟨0, _⟩ => ⟨(i 0).val % 256, Nat.mod_lt _ (by decide)⟩
  | ⟨1, _⟩ => i 1

theorem ofRC_inBlock (i : S8192x512.Idx) (n : ℕ) (h : n = (i 0).val / 256) :
    ofRC ((256 * n + (inBlock i 0).val) % 8192) (Nat.mod_lt _ (by decide)) (inBlock i 1).val (inBlock i 1).isLt = i := by
  have hi : (i 0).val < 8192 := (i 0).isLt
  refine funext fun a => Fin.ext ?_
  fin_cases a
  · show (256 * n + (i 0).val % 256) % 8192 = (i 0).val
    omega
  · rfl

/-- An array of 8192 rows put together from its 32 blocks of 256 rows. -/
def unrows {α : Type} (f : ℕ → S256x512.Idx → α) : S8192x512.Idx → α := fun i =>
  f ((i 0).val / 256) (inBlock i)

theorem rows_unrows {α : Type} (f : ℕ → S256x512.Idx → α) {n : ℕ} (hn : n < 32) : rows (unrows f) n = f n := by
  funext y
  have hy : (y 0).val < 256 := (y 0).isLt
  have h0 : (256 * n + (y 0).val) % 8192 / 256 = n := by omega
  have h1 : (256 * n + (y 0).val) % 8192 % 256 = (y 0).val := by omega
  show f ((256 * n + (y 0).val) % 8192 / 256) _ = f n y
  rw [h0]
  congr 1
  funext a
  fin_cases a
  · exact Fin.ext h1
  · rfl

end Cert.Balanced

end
-- ==== Proof.CountRegionsS.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Tactic
public import Idealize.ShloMosaic.Lib.Pipeline.Value
public import Idealize.ShloMosaic.Lib.WordCmp
public import Idealize.ShloMosaic.Lib.VecWindow
public import proofs.«01_k».proof.Proof.CountBody
public import proofs.«01_k».proof.Proof.LossBody
public import proofs.«01_k».proof.Proof.Point

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [Idealize.SL.RA.URA U]

open Idealize.ShloMosaic.Pipeline (Dat Cfg Window BodyObligation cellOf)

variable (V : (c : Dev nD) → (b : Ref sig .tc) → Buf (Elt F) ((c : Thread nD τ).loc b))

/-! ## Region 2: a count and a sum of the entries above a threshold -/

theorem blk2_0 (c : Dev nD) (t : Fin cfg2.N) : ((cfg2.win 0).blk t).view.read (Elt F) (V c main_while0b_v63) = V c main_while0b_v63 := by
  funext y
  exact congrArg (V c main_while0b_v63) ((eq_only _).trans (eq_only _).symm)
theorem blk2_1 (c : Dev nD) (t : Fin cfg2.N) : ((cfg2.win 1).blk t).view.read (Elt F) (V c main_case0b1_v38_0) = rows (V c main_case0b1_v38_0) t.val := by
  funext y
  refine congrArg (V c main_case0b1_v38_0) (funext fun a => Fin.ext ?_)
  fin_cases a
  · exact rows_index (grid2.coords t 0).val t.val (y 0).val (coords_eq t) (Nat.lt_of_lt_of_eq t.isLt N_2) (y 0).isLt
  · exact cols_index (y 1).val

/-- The region's proof data, entered at `V`: the operands stay, the two results run. -/
def dat2 (c : Dev nD) : Dat τ (Elt F) Unit ℕ U ℕ cfg2 c where
  A w := V c (Pipeline.arrRef spec2 w)
  after w t := match w with
    | ⟨0, _⟩ => V c main_while0b_v63
    | ⟨1, _⟩ => rows (V c main_case0b1_v38_0) t.val
    | ⟨2, _⟩ => cntTo (V c main_while0b_v63) (V c main_case0b1_v38_0) t.val
    | ⟨3, _⟩ => sumTo (V c main_while0b_v63) (V c main_case0b1_v38_0) t.val
  Φ _ := Pipeline.scopedRest spec2 c
  q _ := fullShare
  owed _ := 0

theorem before2_0 (c : Dev nD) (t : Fin cfg2.N) (d) : (dat2 (U := U) V c).before 0 t d = V c main_while0b_v63 :=
  ((dat2 (U := U) V c).before_in_eq_fetched 0 rfl (fun _ => rfl) (fun _ _ _ => rfl) (fun t => (blk2_0 V c t).symm) t d).trans (blk2_0 V c t)
theorem before2_1 (c : Dev nD) (t : Fin cfg2.N) (d) : (dat2 (U := U) V c).before 1 t d = rows (V c main_case0b1_v38_0) t.val :=
  ((dat2 (U := U) V c).before_in_eq_fetched 1 rfl (fun _ => rfl) (fun _ _ _ => rfl) (fun t => (blk2_1 V c t).symm) t d).trans (blk2_1 V c t)
theorem before2_2 (c : Dev nD) (t : Fin cfg2.N) (h : t.val ≠ 0) (d) :
    (dat2 (U := U) V c).before 2 t d = cntTo (V c main_while0b_v63) (V c main_case0b1_v38_0) (t.val - 1) := by
  have hN : t.val < 32 := lt_of_lt_of_eq t.isLt N_2
  exact Dat.before_out_kept _ 2 rfl t (by omega) (Bool.eq_false_iff.mpr fun h => by have := (flush2_2 _).mp h; dsimp only at this; omega)
    (fun _ => rfl) (fun _ _ => rfl) d
theorem before2_3 (c : Dev nD) (t : Fin cfg2.N) (h : t.val ≠ 0) (d) :
    (dat2 (U := U) V c).before 3 t d = sumTo (V c main_while0b_v63) (V c main_case0b1_v38_0) (t.val - 1) := by
  have hN : t.val < 32 := lt_of_lt_of_eq t.isLt N_2
  exact Dat.before_out_kept _ 3 rfl t (by omega) (Bool.eq_false_iff.mpr fun h => by have := (flush2_3 _).mp h; dsimp only at this; omega)
    (fun _ => rfl) (fun _ _ => rfl) d

theorem row2 (t : Fin cfg2.N) : defs₀ (F := F) .tc cfg2.body (cfg2.bodyArgs t (cfg2.slots t)) = bodyAt2 t := by
  unfold defs₀; rw [Defs.onTc_tc]

set_option maxHeartbeats 1000000 in
theorem body2 (c : Dev nD) : BodyObligation (dat2 (U := U) V c) (defs₀ (F := F)) Variants.none () Set.univ := fun t => by
  rw [bigSep_W2, bigSep_W2, row2]
  exact triple_restated (count_point c t.val (grid2.coords t) (start_iff t) _ _ _ _ _ _ _ _ (V c main_while0b_v63) (V c main_case0b1_v38_0) _ _ _ _ _ _
    (before2_0 V c t) (before2_1 V c t) (before2_2 V c t) (before2_3 V c t)) rfl .rfl fun _ => .rfl

theorem emb2_2 (t : Fin cfg2.N) (y : S1x512.Idx) : ((cfg2.win 2).blk t).view.emb y = y := by
  funext a
  refine Fin.ext ?_
  fin_cases a
  · exact row_index (y 0).val
  · exact cols_index (y 1).val
/-- After the region this result holds its running value at the last point. -/
theorem out2_2 (c : Dev nD) : (dat2 (U := U) V c).arrAt 2 cfg2.N = cntTo (V c main_while0b_v63) (V c main_case0b1_v38_0) 31 := by
  have hN : 31 < cfg2.N := lt_of_lt_of_eq (by decide) N_2.symm
  refine (dat2 (U := U) V c).arrAt_eq_of_cover 2 _ (fun t hf => ?_) fun i => ⟨⟨31, hN⟩, (flush2_2 _).mpr rfl, ?_⟩
  · have ht : t.val < 32 := lt_of_lt_of_eq t.isLt N_2
    have h31 : t.val = 31 := by have := (flush2_2 t).mp hf; omega
    funext y
    show cntTo (V c main_while0b_v63) (V c main_case0b1_v38_0) t.val y = cntTo (V c main_while0b_v63) (V c main_case0b1_v38_0) 31 (((cfg2.win 2).blk t).view.emb y)
    rw [emb2_2, h31]
  · have := View.emb_mem_set ((cfg2.win 2).blk ⟨31, hN⟩).view i
    rwa [emb2_2] at this
theorem emb2_3 (t : Fin cfg2.N) (y : S1x512.Idx) : ((cfg2.win 3).blk t).view.emb y = y := by
  funext a
  refine Fin.ext ?_
  fin_cases a
  · exact row_index (y 0).val
  · exact cols_index (y 1).val
/-- After the region this result holds its running value at the last point. -/
theorem out2_3 (c : Dev nD) : (dat2 (U := U) V c).arrAt 3 cfg2.N = sumTo (V c main_while0b_v63) (V c main_case0b1_v38_0) 31 := by
  have hN : 31 < cfg2.N := lt_of_lt_of_eq (by decide) N_2.symm
  refine (dat2 (U := U) V c).arrAt_eq_of_cover 3 _ (fun t hf => ?_) fun i => ⟨⟨31, hN⟩, (flush2_3 _).mpr rfl, ?_⟩
  · have ht : t.val < 32 := lt_of_lt_of_eq t.isLt N_2
    have h31 : t.val = 31 := by have := (flush2_3 t).mp hf; omega
    funext y
    show sumTo (V c main_while0b_v63) (V c main_case0b1_v38_0) t.val y = sumTo (V c main_while0b_v63) (V c main_case0b1_v38_0) 31 (((cfg2.win 3).blk t).view.emb y)
    rw [emb2_3, h31]
  · have := View.emb_mem_set ((cfg2.win 3).blk ⟨31, hN⟩).view i
    rwa [emb2_3] at this

/-! ## Region 3: a count and a sum of the entries above a threshold -/

theorem blk3_0 (c : Dev nD) (t : Fin cfg3.N) : ((cfg3.win 0).blk t).view.read (Elt F) (V c main_case0b1_v43) = V c main_case0b1_v43 := by
  funext y
  exact congrArg (V c main_case0b1_v43) ((eq_only _).trans (eq_only _).symm)
theorem blk3_1 (c : Dev nD) (t : Fin cfg3.N) : ((cfg3.win 1).blk t).view.read (Elt F) (V c main_case0b1_v37) = rows (V c main_case0b1_v37) t.val := by
  funext y
  refine congrArg (V c main_case0b1_v37) (funext fun a => Fin.ext ?_)
  fin_cases a
  · exact rows_index (grid3.coords t 0).val t.val (y 0).val (coords_eq t) (Nat.lt_of_lt_of_eq t.isLt N_3) (y 0).isLt
  · exact cols_index (y 1).val

/-- The region's proof data, entered at `V`: the operands stay, the two results run. -/
def dat3 (c : Dev nD) : Dat τ (Elt F) Unit ℕ U ℕ cfg3 c where
  A w := V c (Pipeline.arrRef spec3 w)
  after w t := match w with
    | ⟨0, _⟩ => V c main_case0b1_v43
    | ⟨1, _⟩ => rows (V c main_case0b1_v37) t.val
    | ⟨2, _⟩ => cntTo (V c main_case0b1_v43) (V c main_case0b1_v37) t.val
    | ⟨3, _⟩ => sumTo (V c main_case0b1_v43) (V c main_case0b1_v37) t.val
  Φ _ := Pipeline.scopedRest spec3 c
  q _ := fullShare
  owed _ := 0

theorem before3_0 (c : Dev nD) (t : Fin cfg3.N) (d) : (dat3 (U := U) V c).before 0 t d = V c main_case0b1_v43 :=
  ((dat3 (U := U) V c).before_in_eq_fetched 0 rfl (fun _ => rfl) (fun _ _ _ => rfl) (fun t => (blk3_0 V c t).symm) t d).trans (blk3_0 V c t)
theorem before3_1 (c : Dev nD) (t : Fin cfg3.N) (d) : (dat3 (U := U) V c).before 1 t d = rows (V c main_case0b1_v37) t.val :=
  ((dat3 (U := U) V c).before_in_eq_fetched 1 rfl (fun _ => rfl) (fun _ _ _ => rfl) (fun t => (blk3_1 V c t).symm) t d).trans (blk3_1 V c t)
theorem before3_2 (c : Dev nD) (t : Fin cfg3.N) (h : t.val ≠ 0) (d) :
    (dat3 (U := U) V c).before 2 t d = cntTo (V c main_case0b1_v43) (V c main_case0b1_v37) (t.val - 1) := by
  have hN : t.val < 32 := lt_of_lt_of_eq t.isLt N_3
  exact Dat.before_out_kept _ 2 rfl t (by omega) (Bool.eq_false_iff.mpr fun h => by have := (flush3_2 _).mp h; dsimp only at this; omega)
    (fun _ => rfl) (fun _ _ => rfl) d
theorem before3_3 (c : Dev nD) (t : Fin cfg3.N) (h : t.val ≠ 0) (d) :
    (dat3 (U := U) V c).before 3 t d = sumTo (V c main_case0b1_v43) (V c main_case0b1_v37) (t.val - 1) := by
  have hN : t.val < 32 := lt_of_lt_of_eq t.isLt N_3
  exact Dat.before_out_kept _ 3 rfl t (by omega) (Bool.eq_false_iff.mpr fun h => by have := (flush3_3 _).mp h; dsimp only at this; omega)
    (fun _ => rfl) (fun _ _ => rfl) d

theorem row3 (t : Fin cfg3.N) : defs₀ (F := F) .tc cfg3.body (cfg3.bodyArgs t (cfg3.slots t)) = bodyAt3 t := by
  unfold defs₀; rw [Defs.onTc_tc]

set_option maxHeartbeats 1000000 in
theorem body3 (c : Dev nD) : BodyObligation (dat3 (U := U) V c) (defs₀ (F := F)) Variants.none () Set.univ := fun t => by
  rw [bigSep_W3, bigSep_W3, row3]
  unfold bodyAt3
  rw [count3_eq]
  exact triple_restated (count_point c t.val (grid3.coords t) (start_iff t) _ _ _ _ _ _ _ _ (V c main_case0b1_v43) (V c main_case0b1_v37) _ _ _ _ _ _
    (before3_0 V c t) (before3_1 V c t) (before3_2 V c t) (before3_3 V c t)) rfl .rfl fun _ => .rfl

theorem emb3_2 (t : Fin cfg3.N) (y : S1x512.Idx) : ((cfg3.win 2).blk t).view.emb y = y := by
  funext a
  refine Fin.ext ?_
  fin_cases a
  · exact row_index (y 0).val
  · exact cols_index (y 1).val
/-- After the region this result holds its running value at the last point. -/
theorem out3_2 (c : Dev nD) : (dat3 (U := U) V c).arrAt 2 cfg3.N = cntTo (V c main_case0b1_v43) (V c main_case0b1_v37) 31 := by
  have hN : 31 < cfg3.N := lt_of_lt_of_eq (by decide) N_3.symm
  refine (dat3 (U := U) V c).arrAt_eq_of_cover 2 _ (fun t hf => ?_) fun i => ⟨⟨31, hN⟩, (flush3_2 _).mpr rfl, ?_⟩
  · have ht : t.val < 32 := lt_of_lt_of_eq t.isLt N_3
    have h31 : t.val = 31 := by have := (flush3_2 t).mp hf; omega
    funext y
    show cntTo (V c main_case0b1_v43) (V c main_case0b1_v37) t.val y = cntTo (V c main_case0b1_v43) (V c main_case0b1_v37) 31 (((cfg3.win 2).blk t).view.emb y)
    rw [emb3_2, h31]
  · have := View.emb_mem_set ((cfg3.win 2).blk ⟨31, hN⟩).view i
    rwa [emb3_2] at this
theorem emb3_3 (t : Fin cfg3.N) (y : S1x512.Idx) : ((cfg3.win 3).blk t).view.emb y = y := by
  funext a
  refine Fin.ext ?_
  fin_cases a
  · exact row_index (y 0).val
  · exact cols_index (y 1).val
/-- After the region this result holds its running value at the last point. -/
theorem out3_3 (c : Dev nD) : (dat3 (U := U) V c).arrAt 3 cfg3.N = sumTo (V c main_case0b1_v43) (V c main_case0b1_v37) 31 := by
  have hN : 31 < cfg3.N := lt_of_lt_of_eq (by decide) N_3.symm
  refine (dat3 (U := U) V c).arrAt_eq_of_cover 3 _ (fun t hf => ?_) fun i => ⟨⟨31, hN⟩, (flush3_3 _).mpr rfl, ?_⟩
  · have ht : t.val < 32 := lt_of_lt_of_eq t.isLt N_3
    have h31 : t.val = 31 := by have := (flush3_3 t).mp hf; omega
    funext y
    show sumTo (V c main_case0b1_v43) (V c main_case0b1_v37) t.val y = sumTo (V c main_case0b1_v43) (V c main_case0b1_v37) 31 (((cfg3.win 3).blk t).view.emb y)
    rw [emb3_3, h31]
  · have := View.emb_mem_set ((cfg3.win 3).blk ⟨31, hN⟩).view i
    rwa [emb3_3] at this

end Cert.Balanced

end
-- ==== Proof.CountRegionsB.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Tactic
public import Idealize.ShloMosaic.Lib.Pipeline.Value
public import Idealize.ShloMosaic.Lib.WordCmp
public import Idealize.ShloMosaic.Lib.VecWindow
public import proofs.«01_k».proof.Proof.CountBody
public import proofs.«01_k».proof.Proof.LossBody
public import proofs.«01_k».proof.Proof.Point

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [Idealize.SL.RA.URA U]

open Idealize.ShloMosaic.Pipeline (Dat Cfg Window BodyObligation cellOf)

variable (V : (c : Dev nD) → (b : Ref sig .tc) → Buf (Elt F) ((c : Thread nD τ).loc b))

/-! ## Region 5: a count and a sum of the entries above a threshold -/

theorem blk5_0 (c : Dev nD) (t : Fin cfg5.N) : ((cfg5.win 0).blk t).view.read (Elt F) (V c main_while1b_v63) = V c main_while1b_v63 := by
  funext y
  exact congrArg (V c main_while1b_v63) ((eq_only _).trans (eq_only _).symm)
theorem blk5_1 (c : Dev nD) (t : Fin cfg5.N) : ((cfg5.win 1).blk t).view.read (Elt F) (V c main_case1b1_v38_0) = rows (V c main_case1b1_v38_0) t.val := by
  funext y
  refine congrArg (V c main_case1b1_v38_0) (funext fun a => Fin.ext ?_)
  fin_cases a
  · exact rows_index (grid5.coords t 0).val t.val (y 0).val (coords_eq t) (Nat.lt_of_lt_of_eq t.isLt N_5) (y 0).isLt
  · exact cols_index (y 1).val

/-- The region's proof data, entered at `V`: the operands stay, the two results run. -/
def dat5 (c : Dev nD) : Dat τ (Elt F) Unit ℕ U ℕ cfg5 c where
  A w := V c (Pipeline.arrRef spec5 w)
  after w t := match w with
    | ⟨0, _⟩ => V c main_while1b_v63
    | ⟨1, _⟩ => rows (V c main_case1b1_v38_0) t.val
    | ⟨2, _⟩ => cntTo (V c main_while1b_v63) (V c main_case1b1_v38_0) t.val
    | ⟨3, _⟩ => sumTo (V c main_while1b_v63) (V c main_case1b1_v38_0) t.val
  Φ _ := Pipeline.scopedRest spec5 c
  q _ := fullShare
  owed _ := 0

theorem before5_0 (c : Dev nD) (t : Fin cfg5.N) (d) : (dat5 (U := U) V c).before 0 t d = V c main_while1b_v63 :=
  ((dat5 (U := U) V c).before_in_eq_fetched 0 rfl (fun _ => rfl) (fun _ _ _ => rfl) (fun t => (blk5_0 V c t).symm) t d).trans (blk5_0 V c t)
theorem before5_1 (c : Dev nD) (t : Fin cfg5.N) (d) : (dat5 (U := U) V c).before 1 t d = rows (V c main_case1b1_v38_0) t.val :=
  ((dat5 (U := U) V c).before_in_eq_fetched 1 rfl (fun _ => rfl) (fun _ _ _ => rfl) (fun t => (blk5_1 V c t).symm) t d).trans (blk5_1 V c t)
theorem before5_2 (c : Dev nD) (t : Fin cfg5.N) (h : t.val ≠ 0) (d) :
    (dat5 (U := U) V c).before 2 t d = cntTo (V c main_while1b_v63) (V c main_case1b1_v38_0) (t.val - 1) := by
  have hN : t.val < 32 := lt_of_lt_of_eq t.isLt N_5
  exact Dat.before_out_kept _ 2 rfl t (by omega) (Bool.eq_false_iff.mpr fun h => by have := (flush5_2 _).mp h; dsimp only at this; omega)
    (fun _ => rfl) (fun _ _ => rfl) d
theorem before5_3 (c : Dev nD) (t : Fin cfg5.N) (h : t.val ≠ 0) (d) :
    (dat5 (U := U) V c).before 3 t d = sumTo (V c main_while1b_v63) (V c main_case1b1_v38_0) (t.val - 1) := by
  have hN : t.val < 32 := lt_of_lt_of_eq t.isLt N_5
  exact Dat.before_out_kept _ 3 rfl t (by omega) (Bool.eq_false_iff.mpr fun h => by have := (flush5_3 _).mp h; dsimp only at this; omega)
    (fun _ => rfl) (fun _ _ => rfl) d

theorem row5 (t : Fin cfg5.N) : defs₀ (F := F) .tc cfg5.body (cfg5.bodyArgs t (cfg5.slots t)) = bodyAt5 t := by
  unfold defs₀; rw [Defs.onTc_tc]

set_option maxHeartbeats 1000000 in
theorem body5 (c : Dev nD) : BodyObligation (dat5 (U := U) V c) (defs₀ (F := F)) Variants.none () Set.univ := fun t => by
  rw [bigSep_W5, bigSep_W5, row5]
  unfold bodyAt5
  rw [count5_eq]
  exact triple_restated (count_point c t.val (grid5.coords t) (start_iff t) _ _ _ _ _ _ _ _ (V c main_while1b_v63) (V c main_case1b1_v38_0) _ _ _ _ _ _
    (before5_0 V c t) (before5_1 V c t) (before5_2 V c t) (before5_3 V c t)) rfl .rfl fun _ => .rfl

theorem emb5_2 (t : Fin cfg5.N) (y : S1x512.Idx) : ((cfg5.win 2).blk t).view.emb y = y := by
  funext a
  refine Fin.ext ?_
  fin_cases a
  · exact row_index (y 0).val
  · exact cols_index (y 1).val
/-- After the region this result holds its running value at the last point. -/
theorem out5_2 (c : Dev nD) : (dat5 (U := U) V c).arrAt 2 cfg5.N = cntTo (V c main_while1b_v63) (V c main_case1b1_v38_0) 31 := by
  have hN : 31 < cfg5.N := lt_of_lt_of_eq (by decide) N_5.symm
  refine (dat5 (U := U) V c).arrAt_eq_of_cover 2 _ (fun t hf => ?_) fun i => ⟨⟨31, hN⟩, (flush5_2 _).mpr rfl, ?_⟩
  · have ht : t.val < 32 := lt_of_lt_of_eq t.isLt N_5
    have h31 : t.val = 31 := by have := (flush5_2 t).mp hf; omega
    funext y
    show cntTo (V c main_while1b_v63) (V c main_case1b1_v38_0) t.val y = cntTo (V c main_while1b_v63) (V c main_case1b1_v38_0) 31 (((cfg5.win 2).blk t).view.emb y)
    rw [emb5_2, h31]
  · have := View.emb_mem_set ((cfg5.win 2).blk ⟨31, hN⟩).view i
    rwa [emb5_2] at this
theorem emb5_3 (t : Fin cfg5.N) (y : S1x512.Idx) : ((cfg5.win 3).blk t).view.emb y = y := by
  funext a
  refine Fin.ext ?_
  fin_cases a
  · exact row_index (y 0).val
  · exact cols_index (y 1).val
/-- After the region this result holds its running value at the last point. -/
theorem out5_3 (c : Dev nD) : (dat5 (U := U) V c).arrAt 3 cfg5.N = sumTo (V c main_while1b_v63) (V c main_case1b1_v38_0) 31 := by
  have hN : 31 < cfg5.N := lt_of_lt_of_eq (by decide) N_5.symm
  refine (dat5 (U := U) V c).arrAt_eq_of_cover 3 _ (fun t hf => ?_) fun i => ⟨⟨31, hN⟩, (flush5_3 _).mpr rfl, ?_⟩
  · have ht : t.val < 32 := lt_of_lt_of_eq t.isLt N_5
    have h31 : t.val = 31 := by have := (flush5_3 t).mp hf; omega
    funext y
    show sumTo (V c main_while1b_v63) (V c main_case1b1_v38_0) t.val y = sumTo (V c main_while1b_v63) (V c main_case1b1_v38_0) 31 (((cfg5.win 3).blk t).view.emb y)
    rw [emb5_3, h31]
  · have := View.emb_mem_set ((cfg5.win 3).blk ⟨31, hN⟩).view i
    rwa [emb5_3] at this

/-! ## Region 6: a count and a sum of the entries above a threshold -/

theorem blk6_0 (c : Dev nD) (t : Fin cfg6.N) : ((cfg6.win 0).blk t).view.read (Elt F) (V c main_case1b1_v43) = V c main_case1b1_v43 := by
  funext y
  exact congrArg (V c main_case1b1_v43) ((eq_only _).trans (eq_only _).symm)
theorem blk6_1 (c : Dev nD) (t : Fin cfg6.N) : ((cfg6.win 1).blk t).view.read (Elt F) (V c main_case1b1_v37) = rows (V c main_case1b1_v37) t.val := by
  funext y
  refine congrArg (V c main_case1b1_v37) (funext fun a => Fin.ext ?_)
  fin_cases a
  · exact rows_index (grid6.coords t 0).val t.val (y 0).val (coords_eq t) (Nat.lt_of_lt_of_eq t.isLt N_6) (y 0).isLt
  · exact cols_index (y 1).val

/-- The region's proof data, entered at `V`: the operands stay, the two results run. -/
def dat6 (c : Dev nD) : Dat τ (Elt F) Unit ℕ U ℕ cfg6 c where
  A w := V c (Pipeline.arrRef spec6 w)
  after w t := match w with
    | ⟨0, _⟩ => V c main_case1b1_v43
    | ⟨1, _⟩ => rows (V c main_case1b1_v37) t.val
    | ⟨2, _⟩ => cntTo (V c main_case1b1_v43) (V c main_case1b1_v37) t.val
    | ⟨3, _⟩ => sumTo (V c main_case1b1_v43) (V c main_case1b1_v37) t.val
  Φ _ := Pipeline.scopedRest spec6 c
  q _ := fullShare
  owed _ := 0

theorem before6_0 (c : Dev nD) (t : Fin cfg6.N) (d) : (dat6 (U := U) V c).before 0 t d = V c main_case1b1_v43 :=
  ((dat6 (U := U) V c).before_in_eq_fetched 0 rfl (fun _ => rfl) (fun _ _ _ => rfl) (fun t => (blk6_0 V c t).symm) t d).trans (blk6_0 V c t)
theorem before6_1 (c : Dev nD) (t : Fin cfg6.N) (d) : (dat6 (U := U) V c).before 1 t d = rows (V c main_case1b1_v37) t.val :=
  ((dat6 (U := U) V c).before_in_eq_fetched 1 rfl (fun _ => rfl) (fun _ _ _ => rfl) (fun t => (blk6_1 V c t).symm) t d).trans (blk6_1 V c t)
theorem before6_2 (c : Dev nD) (t : Fin cfg6.N) (h : t.val ≠ 0) (d) :
    (dat6 (U := U) V c).before 2 t d = cntTo (V c main_case1b1_v43) (V c main_case1b1_v37) (t.val - 1) := by
  have hN : t.val < 32 := lt_of_lt_of_eq t.isLt N_6
  exact Dat.before_out_kept _ 2 rfl t (by omega) (Bool.eq_false_iff.mpr fun h => by have := (flush6_2 _).mp h; dsimp only at this; omega)
    (fun _ => rfl) (fun _ _ => rfl) d
theorem before6_3 (c : Dev nD) (t : Fin cfg6.N) (h : t.val ≠ 0) (d) :
    (dat6 (U := U) V c).before 3 t d = sumTo (V c main_case1b1_v43) (V c main_case1b1_v37) (t.val - 1) := by
  have hN : t.val < 32 := lt_of_lt_of_eq t.isLt N_6
  exact Dat.before_out_kept _ 3 rfl t (by omega) (Bool.eq_false_iff.mpr fun h => by have := (flush6_3 _).mp h; dsimp only at this; omega)
    (fun _ => rfl) (fun _ _ => rfl) d

theorem row6 (t : Fin cfg6.N) : defs₀ (F := F) .tc cfg6.body (cfg6.bodyArgs t (cfg6.slots t)) = bodyAt6 t := by
  unfold defs₀; rw [Defs.onTc_tc]

set_option maxHeartbeats 1000000 in
theorem body6 (c : Dev nD) : BodyObligation (dat6 (U := U) V c) (defs₀ (F := F)) Variants.none () Set.univ := fun t => by
  rw [bigSep_W6, bigSep_W6, row6]
  unfold bodyAt6
  rw [count6_eq]
  exact triple_restated (count_point c t.val (grid6.coords t) (start_iff t) _ _ _ _ _ _ _ _ (V c main_case1b1_v43) (V c main_case1b1_v37) _ _ _ _ _ _
    (before6_0 V c t) (before6_1 V c t) (before6_2 V c t) (before6_3 V c t)) rfl .rfl fun _ => .rfl

theorem emb6_2 (t : Fin cfg6.N) (y : S1x512.Idx) : ((cfg6.win 2).blk t).view.emb y = y := by
  funext a
  refine Fin.ext ?_
  fin_cases a
  · exact row_index (y 0).val
  · exact cols_index (y 1).val
/-- After the region this result holds its running value at the last point. -/
theorem out6_2 (c : Dev nD) : (dat6 (U := U) V c).arrAt 2 cfg6.N = cntTo (V c main_case1b1_v43) (V c main_case1b1_v37) 31 := by
  have hN : 31 < cfg6.N := lt_of_lt_of_eq (by decide) N_6.symm
  refine (dat6 (U := U) V c).arrAt_eq_of_cover 2 _ (fun t hf => ?_) fun i => ⟨⟨31, hN⟩, (flush6_2 _).mpr rfl, ?_⟩
  · have ht : t.val < 32 := lt_of_lt_of_eq t.isLt N_6
    have h31 : t.val = 31 := by have := (flush6_2 t).mp hf; omega
    funext y
    show cntTo (V c main_case1b1_v43) (V c main_case1b1_v37) t.val y = cntTo (V c main_case1b1_v43) (V c main_case1b1_v37) 31 (((cfg6.win 2).blk t).view.emb y)
    rw [emb6_2, h31]
  · have := View.emb_mem_set ((cfg6.win 2).blk ⟨31, hN⟩).view i
    rwa [emb6_2] at this
theorem emb6_3 (t : Fin cfg6.N) (y : S1x512.Idx) : ((cfg6.win 3).blk t).view.emb y = y := by
  funext a
  refine Fin.ext ?_
  fin_cases a
  · exact row_index (y 0).val
  · exact cols_index (y 1).val
/-- After the region this result holds its running value at the last point. -/
theorem out6_3 (c : Dev nD) : (dat6 (U := U) V c).arrAt 3 cfg6.N = sumTo (V c main_case1b1_v43) (V c main_case1b1_v37) 31 := by
  have hN : 31 < cfg6.N := lt_of_lt_of_eq (by decide) N_6.symm
  refine (dat6 (U := U) V c).arrAt_eq_of_cover 3 _ (fun t hf => ?_) fun i => ⟨⟨31, hN⟩, (flush6_3 _).mpr rfl, ?_⟩
  · have ht : t.val < 32 := lt_of_lt_of_eq t.isLt N_6
    have h31 : t.val = 31 := by have := (flush6_3 t).mp hf; omega
    funext y
    show sumTo (V c main_case1b1_v43) (V c main_case1b1_v37) t.val y = sumTo (V c main_case1b1_v43) (V c main_case1b1_v37) 31 (((cfg6.win 3).blk t).view.emb y)
    rw [emb6_3, h31]
  · have := View.emb_mem_set ((cfg6.win 3).blk ⟨31, hN⟩).view i
    rwa [emb6_3] at this

end Cert.Balanced

end
-- ==== Proof.StatsRegion.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Tactic
public import Idealize.ShloMosaic.Lib.Pipeline.Value
public import Idealize.ShloMosaic.Lib.WordCmp
public import Idealize.ShloMosaic.Lib.VecWindow
public import proofs.«01_k».proof.Proof.CountBody
public import proofs.«01_k».proof.Proof.LossBody
public import proofs.«01_k».proof.Proof.Point

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [Idealize.SL.RA.URA U]

open Idealize.ShloMosaic.Pipeline (Dat Cfg Window BodyObligation cellOf)

variable (V : (c : Dev nD) → (b : Ref sig .tc) → Buf (Elt F) ((c : Thread nD τ).loc b))

/-! ## Region 0: the seven sums -/

theorem blk0_0 (c : Dev nD) (t : Fin cfg0.N) : ((cfg0.win 0).blk t).view.read (Elt F) (V c main_v0) = rows (V c main_v0) t.val := by
  funext y
  refine congrArg (V c main_v0) (funext fun a => Fin.ext ?_)
  fin_cases a
  · exact rows_index (grid0.coords t 0).val t.val (y 0).val (coords_eq t) (Nat.lt_of_lt_of_eq t.isLt N_0) (y 0).isLt
  · exact cols_index (y 1).val
theorem blk0_1 (c : Dev nD) (t : Fin cfg0.N) : ((cfg0.win 1).blk t).view.read (Elt F) (V c main_v1) = rows (V c main_v1) t.val := by
  funext y
  refine congrArg (V c main_v1) (funext fun a => Fin.ext ?_)
  fin_cases a
  · exact rows_index (grid0.coords t 0).val t.val (y 0).val (coords_eq t) (Nat.lt_of_lt_of_eq t.isLt N_0) (y 0).isLt
  · exact cols_index (y 1).val
theorem blk0_2 (c : Dev nD) (t : Fin cfg0.N) : ((cfg0.win 2).blk t).view.read (Elt F) (V c main_v2) = rows (V c main_v2) t.val := by
  funext y
  refine congrArg (V c main_v2) (funext fun a => Fin.ext ?_)
  fin_cases a
  · exact rows_index (grid0.coords t 0).val t.val (y 0).val (coords_eq t) (Nat.lt_of_lt_of_eq t.isLt N_0) (y 0).isLt
  · exact cols_index (y 1).val
theorem blk0_3 (c : Dev nD) (t : Fin cfg0.N) : ((cfg0.win 3).blk t).view.read (Elt F) (V c main_v3) = rows (V c main_v3) t.val := by
  funext y
  refine congrArg (V c main_v3) (funext fun a => Fin.ext ?_)
  fin_cases a
  · exact rows_index (grid0.coords t 0).val t.val (y 0).val (coords_eq t) (Nat.lt_of_lt_of_eq t.isLt N_0) (y 0).isLt
  · exact cols_index (y 1).val

/-- The region's proof data, entered at `V`: the operands stay, the seven results run. -/
def dat0 (c : Dev nD) : Dat τ (Elt F) Unit ℕ U ℕ cfg0 c where
  A w := V c (Pipeline.arrRef spec0 w)
  after w t := match w with
    | ⟨0, _⟩ => rows (V c main_v0) t.val
    | ⟨1, _⟩ => rows (V c main_v1) t.val
    | ⟨2, _⟩ => rows (V c main_v2) t.val
    | ⟨3, _⟩ => rows (V c main_v3) t.val
    | ⟨4, _⟩ => statTo 0 (V c main_v0) (V c main_v1) (V c main_v2) (V c main_v3) t.val
    | ⟨5, _⟩ => statTo 1 (V c main_v0) (V c main_v1) (V c main_v2) (V c main_v3) t.val
    | ⟨6, _⟩ => statTo 2 (V c main_v0) (V c main_v1) (V c main_v2) (V c main_v3) t.val
    | ⟨7, _⟩ => statTo 3 (V c main_v0) (V c main_v1) (V c main_v2) (V c main_v3) t.val
    | ⟨8, _⟩ => statTo 4 (V c main_v0) (V c main_v1) (V c main_v2) (V c main_v3) t.val
    | ⟨9, _⟩ => statTo 5 (V c main_v0) (V c main_v1) (V c main_v2) (V c main_v3) t.val
    | ⟨10, _⟩ => statTo 6 (V c main_v0) (V c main_v1) (V c main_v2) (V c main_v3) t.val
  Φ _ := Pipeline.scopedRest spec0 c
  q _ := fullShare
  owed _ := 0

theorem before0_0 (c : Dev nD) (t : Fin cfg0.N) (d) : (dat0 (U := U) V c).before 0 t d = rows (V c main_v0) t.val :=
  ((dat0 (U := U) V c).before_in_eq_fetched 0 rfl (fun _ => rfl) (fun _ _ _ => rfl) (fun t => (blk0_0 V c t).symm) t d).trans (blk0_0 V c t)
theorem before0_1 (c : Dev nD) (t : Fin cfg0.N) (d) : (dat0 (U := U) V c).before 1 t d = rows (V c main_v1) t.val :=
  ((dat0 (U := U) V c).before_in_eq_fetched 1 rfl (fun _ => rfl) (fun _ _ _ => rfl) (fun t => (blk0_1 V c t).symm) t d).trans (blk0_1 V c t)
theorem before0_2 (c : Dev nD) (t : Fin cfg0.N) (d) : (dat0 (U := U) V c).before 2 t d = rows (V c main_v2) t.val :=
  ((dat0 (U := U) V c).before_in_eq_fetched 2 rfl (fun _ => rfl) (fun _ _ _ => rfl) (fun t => (blk0_2 V c t).symm) t d).trans (blk0_2 V c t)
theorem before0_3 (c : Dev nD) (t : Fin cfg0.N) (d) : (dat0 (U := U) V c).before 3 t d = rows (V c main_v3) t.val :=
  ((dat0 (U := U) V c).before_in_eq_fetched 3 rfl (fun _ => rfl) (fun _ _ _ => rfl) (fun t => (blk0_3 V c t).symm) t d).trans (blk0_3 V c t)
theorem before0_4 (c : Dev nD) (t : Fin cfg0.N) (h : t.val ≠ 0) (d) :
    (dat0 (U := U) V c).before 4 t d = statTo 0 (V c main_v0) (V c main_v1) (V c main_v2) (V c main_v3) (t.val - 1) := by
  have hN : t.val < 32 := lt_of_lt_of_eq t.isLt N_0
  exact Dat.before_out_kept _ 4 rfl t (by omega) (Bool.eq_false_iff.mpr fun h => by have := (flush0_4 _).mp h; dsimp only at this; omega)
    (fun _ => rfl) (fun _ _ => rfl) d
theorem before0_5 (c : Dev nD) (t : Fin cfg0.N) (h : t.val ≠ 0) (d) :
    (dat0 (U := U) V c).before 5 t d = statTo 1 (V c main_v0) (V c main_v1) (V c main_v2) (V c main_v3) (t.val - 1) := by
  have hN : t.val < 32 := lt_of_lt_of_eq t.isLt N_0
  exact Dat.before_out_kept _ 5 rfl t (by omega) (Bool.eq_false_iff.mpr fun h => by have := (flush0_5 _).mp h; dsimp only at this; omega)
    (fun _ => rfl) (fun _ _ => rfl) d
theorem before0_6 (c : Dev nD) (t : Fin cfg0.N) (h : t.val ≠ 0) (d) :
    (dat0 (U := U) V c).before 6 t d = statTo 2 (V c main_v0) (V c main_v1) (V c main_v2) (V c main_v3) (t.val - 1) := by
  have hN : t.val < 32 := lt_of_lt_of_eq t.isLt N_0
  exact Dat.before_out_kept _ 6 rfl t (by omega) (Bool.eq_false_iff.mpr fun h => by have := (flush0_6 _).mp h; dsimp only at this; omega)
    (fun _ => rfl) (fun _ _ => rfl) d
theorem before0_7 (c : Dev nD) (t : Fin cfg0.N) (h : t.val ≠ 0) (d) :
    (dat0 (U := U) V c).before 7 t d = statTo 3 (V c main_v0) (V c main_v1) (V c main_v2) (V c main_v3) (t.val - 1) := by
  have hN : t.val < 32 := lt_of_lt_of_eq t.isLt N_0
  exact Dat.before_out_kept _ 7 rfl t (by omega) (Bool.eq_false_iff.mpr fun h => by have := (flush0_7 _).mp h; dsimp only at this; omega)
    (fun _ => rfl) (fun _ _ => rfl) d
theorem before0_8 (c : Dev nD) (t : Fin cfg0.N) (h : t.val ≠ 0) (d) :
    (dat0 (U := U) V c).before 8 t d = statTo 4 (V c main_v0) (V c main_v1) (V c main_v2) (V c main_v3) (t.val - 1) := by
  have hN : t.val < 32 := lt_of_lt_of_eq t.isLt N_0
  exact Dat.before_out_kept _ 8 rfl t (by omega) (Bool.eq_false_iff.mpr fun h => by have := (flush0_8 _).mp h; dsimp only at this; omega)
    (fun _ => rfl) (fun _ _ => rfl) d
theorem before0_9 (c : Dev nD) (t : Fin cfg0.N) (h : t.val ≠ 0) (d) :
    (dat0 (U := U) V c).before 9 t d = statTo 5 (V c main_v0) (V c main_v1) (V c main_v2) (V c main_v3) (t.val - 1) := by
  have hN : t.val < 32 := lt_of_lt_of_eq t.isLt N_0
  exact Dat.before_out_kept _ 9 rfl t (by omega) (Bool.eq_false_iff.mpr fun h => by have := (flush0_9 _).mp h; dsimp only at this; omega)
    (fun _ => rfl) (fun _ _ => rfl) d
theorem before0_10 (c : Dev nD) (t : Fin cfg0.N) (h : t.val ≠ 0) (d) :
    (dat0 (U := U) V c).before 10 t d = statTo 6 (V c main_v0) (V c main_v1) (V c main_v2) (V c main_v3) (t.val - 1) := by
  have hN : t.val < 32 := lt_of_lt_of_eq t.isLt N_0
  exact Dat.before_out_kept _ 10 rfl t (by omega) (Bool.eq_false_iff.mpr fun h => by have := (flush0_10 _).mp h; dsimp only at this; omega)
    (fun _ => rfl) (fun _ _ => rfl) d

theorem row0 (t : Fin cfg0.N) : defs₀ (F := F) .tc cfg0.body (cfg0.bodyArgs t (cfg0.slots t)) = bodyAt0 t := by
  unfold defs₀; rw [Defs.onTc_tc]

set_option maxHeartbeats 2000000 in
theorem body0 (c : Dev nD) : BodyObligation (dat0 (U := U) V c) (defs₀ (F := F)) Variants.none () Set.univ := fun t => by
  rw [bigSep_W0, bigSep_W0, row0]
  exact triple_restated (stats_point c t.val (grid0.coords t) (start_iff t) _ _ _ _ _ _ _ _ _ _ _ _ _ _ _ _ _ _ _ _ _ _ (V c main_v0) (V c main_v1) (V c main_v2) (V c main_v3) _ _ _ _ _ _
    (fun w d => match w with
      | 0 => (dat0 (U := U) V c).before 4 t d
      | 1 => (dat0 (U := U) V c).before 5 t d
      | 2 => (dat0 (U := U) V c).before 6 t d
      | 3 => (dat0 (U := U) V c).before 7 t d
      | 4 => (dat0 (U := U) V c).before 8 t d
      | 5 => (dat0 (U := U) V c).before 9 t d
      | 6 => (dat0 (U := U) V c).before 10 t d)
    (before0_0 V c t) (before0_1 V c t) (before0_2 V c t) (before0_3 V c t)
    (fun h w d => match w with
      | 0 => before0_4 V c t h d
      | 1 => before0_5 V c t h d
      | 2 => before0_6 V c t h d
      | 3 => before0_7 V c t h d
      | 4 => before0_8 V c t h d
      | 5 => before0_9 V c t h d
      | 6 => before0_10 V c t h d)) rfl .rfl fun _ => .rfl

theorem emb0_4 (t : Fin cfg0.N) (y : S1x512.Idx) : ((cfg0.win 4).blk t).view.emb y = y := by
  funext a
  refine Fin.ext ?_
  fin_cases a
  · exact row_index (y 0).val
  · exact cols_index (y 1).val
/-- After the region this result holds its running value at the last point. -/
theorem out0_4 (c : Dev nD) : (dat0 (U := U) V c).arrAt 4 cfg0.N = statTo 0 (V c main_v0) (V c main_v1) (V c main_v2) (V c main_v3) 31 := by
  have hN : 31 < cfg0.N := lt_of_lt_of_eq (by decide) N_0.symm
  refine (dat0 (U := U) V c).arrAt_eq_of_cover 4 _ (fun t hf => ?_) fun i => ⟨⟨31, hN⟩, (flush0_4 _).mpr rfl, ?_⟩
  · have ht : t.val < 32 := lt_of_lt_of_eq t.isLt N_0
    have h31 : t.val = 31 := by have := (flush0_4 t).mp hf; omega
    funext y
    show statTo 0 (V c main_v0) (V c main_v1) (V c main_v2) (V c main_v3) t.val y = statTo 0 (V c main_v0) (V c main_v1) (V c main_v2) (V c main_v3) 31 (((cfg0.win 4).blk t).view.emb y)
    rw [emb0_4, h31]
  · have := View.emb_mem_set ((cfg0.win 4).blk ⟨31, hN⟩).view i
    rwa [emb0_4] at this
theorem emb0_5 (t : Fin cfg0.N) (y : S1x512.Idx) : ((cfg0.win 5).blk t).view.emb y = y := by
  funext a
  refine Fin.ext ?_
  fin_cases a
  · exact row_index (y 0).val
  · exact cols_index (y 1).val
/-- After the region this result holds its running value at the last point. -/
theorem out0_5 (c : Dev nD) : (dat0 (U := U) V c).arrAt 5 cfg0.N = statTo 1 (V c main_v0) (V c main_v1) (V c main_v2) (V c main_v3) 31 := by
  have hN : 31 < cfg0.N := lt_of_lt_of_eq (by decide) N_0.symm
  refine (dat0 (U := U) V c).arrAt_eq_of_cover 5 _ (fun t hf => ?_) fun i => ⟨⟨31, hN⟩, (flush0_5 _).mpr rfl, ?_⟩
  · have ht : t.val < 32 := lt_of_lt_of_eq t.isLt N_0
    have h31 : t.val = 31 := by have := (flush0_5 t).mp hf; omega
    funext y
    show statTo 1 (V c main_v0) (V c main_v1) (V c main_v2) (V c main_v3) t.val y = statTo 1 (V c main_v0) (V c main_v1) (V c main_v2) (V c main_v3) 31 (((cfg0.win 5).blk t).view.emb y)
    rw [emb0_5, h31]
  · have := View.emb_mem_set ((cfg0.win 5).blk ⟨31, hN⟩).view i
    rwa [emb0_5] at this
theorem emb0_6 (t : Fin cfg0.N) (y : S1x512.Idx) : ((cfg0.win 6).blk t).view.emb y = y := by
  funext a
  refine Fin.ext ?_
  fin_cases a
  · exact row_index (y 0).val
  · exact cols_index (y 1).val
/-- After the region this result holds its running value at the last point. -/
theorem out0_6 (c : Dev nD) : (dat0 (U := U) V c).arrAt 6 cfg0.N = statTo 2 (V c main_v0) (V c main_v1) (V c main_v2) (V c main_v3) 31 := by
  have hN : 31 < cfg0.N := lt_of_lt_of_eq (by decide) N_0.symm
  refine (dat0 (U := U) V c).arrAt_eq_of_cover 6 _ (fun t hf => ?_) fun i => ⟨⟨31, hN⟩, (flush0_6 _).mpr rfl, ?_⟩
  · have ht : t.val < 32 := lt_of_lt_of_eq t.isLt N_0
    have h31 : t.val = 31 := by have := (flush0_6 t).mp hf; omega
    funext y
    show statTo 2 (V c main_v0) (V c main_v1) (V c main_v2) (V c main_v3) t.val y = statTo 2 (V c main_v0) (V c main_v1) (V c main_v2) (V c main_v3) 31 (((cfg0.win 6).blk t).view.emb y)
    rw [emb0_6, h31]
  · have := View.emb_mem_set ((cfg0.win 6).blk ⟨31, hN⟩).view i
    rwa [emb0_6] at this
theorem emb0_7 (t : Fin cfg0.N) (y : S1x512.Idx) : ((cfg0.win 7).blk t).view.emb y = y := by
  funext a
  refine Fin.ext ?_
  fin_cases a
  · exact row_index (y 0).val
  · exact cols_index (y 1).val
/-- After the region this result holds its running value at the last point. -/
theorem out0_7 (c : Dev nD) : (dat0 (U := U) V c).arrAt 7 cfg0.N = statTo 3 (V c main_v0) (V c main_v1) (V c main_v2) (V c main_v3) 31 := by
  have hN : 31 < cfg0.N := lt_of_lt_of_eq (by decide) N_0.symm
  refine (dat0 (U := U) V c).arrAt_eq_of_cover 7 _ (fun t hf => ?_) fun i => ⟨⟨31, hN⟩, (flush0_7 _).mpr rfl, ?_⟩
  · have ht : t.val < 32 := lt_of_lt_of_eq t.isLt N_0
    have h31 : t.val = 31 := by have := (flush0_7 t).mp hf; omega
    funext y
    show statTo 3 (V c main_v0) (V c main_v1) (V c main_v2) (V c main_v3) t.val y = statTo 3 (V c main_v0) (V c main_v1) (V c main_v2) (V c main_v3) 31 (((cfg0.win 7).blk t).view.emb y)
    rw [emb0_7, h31]
  · have := View.emb_mem_set ((cfg0.win 7).blk ⟨31, hN⟩).view i
    rwa [emb0_7] at this
theorem emb0_8 (t : Fin cfg0.N) (y : S1x512.Idx) : ((cfg0.win 8).blk t).view.emb y = y := by
  funext a
  refine Fin.ext ?_
  fin_cases a
  · exact row_index (y 0).val
  · exact cols_index (y 1).val
/-- After the region this result holds its running value at the last point. -/
theorem out0_8 (c : Dev nD) : (dat0 (U := U) V c).arrAt 8 cfg0.N = statTo 4 (V c main_v0) (V c main_v1) (V c main_v2) (V c main_v3) 31 := by
  have hN : 31 < cfg0.N := lt_of_lt_of_eq (by decide) N_0.symm
  refine (dat0 (U := U) V c).arrAt_eq_of_cover 8 _ (fun t hf => ?_) fun i => ⟨⟨31, hN⟩, (flush0_8 _).mpr rfl, ?_⟩
  · have ht : t.val < 32 := lt_of_lt_of_eq t.isLt N_0
    have h31 : t.val = 31 := by have := (flush0_8 t).mp hf; omega
    funext y
    show statTo 4 (V c main_v0) (V c main_v1) (V c main_v2) (V c main_v3) t.val y = statTo 4 (V c main_v0) (V c main_v1) (V c main_v2) (V c main_v3) 31 (((cfg0.win 8).blk t).view.emb y)
    rw [emb0_8, h31]
  · have := View.emb_mem_set ((cfg0.win 8).blk ⟨31, hN⟩).view i
    rwa [emb0_8] at this
theorem emb0_9 (t : Fin cfg0.N) (y : S1x512.Idx) : ((cfg0.win 9).blk t).view.emb y = y := by
  funext a
  refine Fin.ext ?_
  fin_cases a
  · exact row_index (y 0).val
  · exact cols_index (y 1).val
/-- After the region this result holds its running value at the last point. -/
theorem out0_9 (c : Dev nD) : (dat0 (U := U) V c).arrAt 9 cfg0.N = statTo 5 (V c main_v0) (V c main_v1) (V c main_v2) (V c main_v3) 31 := by
  have hN : 31 < cfg0.N := lt_of_lt_of_eq (by decide) N_0.symm
  refine (dat0 (U := U) V c).arrAt_eq_of_cover 9 _ (fun t hf => ?_) fun i => ⟨⟨31, hN⟩, (flush0_9 _).mpr rfl, ?_⟩
  · have ht : t.val < 32 := lt_of_lt_of_eq t.isLt N_0
    have h31 : t.val = 31 := by have := (flush0_9 t).mp hf; omega
    funext y
    show statTo 5 (V c main_v0) (V c main_v1) (V c main_v2) (V c main_v3) t.val y = statTo 5 (V c main_v0) (V c main_v1) (V c main_v2) (V c main_v3) 31 (((cfg0.win 9).blk t).view.emb y)
    rw [emb0_9, h31]
  · have := View.emb_mem_set ((cfg0.win 9).blk ⟨31, hN⟩).view i
    rwa [emb0_9] at this
theorem emb0_10 (t : Fin cfg0.N) (y : S1x512.Idx) : ((cfg0.win 10).blk t).view.emb y = y := by
  funext a
  refine Fin.ext ?_
  fin_cases a
  · exact row_index (y 0).val
  · exact cols_index (y 1).val
/-- After the region this result holds its running value at the last point. -/
theorem out0_10 (c : Dev nD) : (dat0 (U := U) V c).arrAt 10 cfg0.N = statTo 6 (V c main_v0) (V c main_v1) (V c main_v2) (V c main_v3) 31 := by
  have hN : 31 < cfg0.N := lt_of_lt_of_eq (by decide) N_0.symm
  refine (dat0 (U := U) V c).arrAt_eq_of_cover 10 _ (fun t hf => ?_) fun i => ⟨⟨31, hN⟩, (flush0_10 _).mpr rfl, ?_⟩
  · have ht : t.val < 32 := lt_of_lt_of_eq t.isLt N_0
    have h31 : t.val = 31 := by have := (flush0_10 t).mp hf; omega
    funext y
    show statTo 6 (V c main_v0) (V c main_v1) (V c main_v2) (V c main_v3) t.val y = statTo 6 (V c main_v0) (V c main_v1) (V c main_v2) (V c main_v3) 31 (((cfg0.win 10).blk t).view.emb y)
    rw [emb0_10, h31]
  · have := View.emb_mem_set ((cfg0.win 10).blk ⟨31, hN⟩).view i
    rwa [emb0_10] at this

end Cert.Balanced

end
-- ==== Proof.LossRegions.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Tactic
public import Idealize.ShloMosaic.Lib.Pipeline.Value
public import Idealize.ShloMosaic.Lib.WordCmp
public import Idealize.ShloMosaic.Lib.VecWindow
public import proofs.«01_k».proof.Proof.CountBody
public import proofs.«01_k».proof.Proof.LossBody
public import proofs.«01_k».proof.Proof.Point

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [Idealize.SL.RA.URA U]

open Idealize.ShloMosaic.Pipeline (Dat Cfg Window BodyObligation cellOf)

variable (V : (c : Dev nD) → (b : Ref sig .tc) → Buf (Elt F) ((c : Thread nD τ).loc b))

/-! ## Region 1: the losses of the first map -/

theorem blk1_0 (c : Dev nD) (t : Fin cfg1.N) : ((cfg1.win 0).blk t).view.read (Elt F) (V c main_v0) = rows (V c main_v0) t.val := by
  funext y
  refine congrArg (V c main_v0) (funext fun a => Fin.ext ?_)
  fin_cases a
  · exact rows_index (grid1.coords t 0).val t.val (y 0).val (coords_eq t) (Nat.lt_of_lt_of_eq t.isLt N_1) (y 0).isLt
  · exact cols_index (y 1).val
theorem blk1_1 (c : Dev nD) (t : Fin cfg1.N) : ((cfg1.win 1).blk t).view.read (Elt F) (V c main_v2) = rows (V c main_v2) t.val := by
  funext y
  refine congrArg (V c main_v2) (funext fun a => Fin.ext ?_)
  fin_cases a
  · exact rows_index (grid1.coords t 0).val t.val (y 0).val (coords_eq t) (Nat.lt_of_lt_of_eq t.isLt N_1) (y 0).isLt
  · exact cols_index (y 1).val

/-- The whole array of losses the region leaves. -/
def loss1 (c : Dev nD) : Vec F S8192x512 .f32 := unrows fun n => k1_pay1 (rows (V c main_v0) n) (rows (V c main_v2) n)

/-- The region's proof data, entered at `V`: the operands stay, a block of losses is written at each point. -/
def dat1 (c : Dev nD) : Dat τ (Elt F) Unit ℕ U ℕ cfg1 c where
  A w := V c (Pipeline.arrRef spec1 w)
  after w t := match w with
    | ⟨0, _⟩ => rows (V c main_v0) t.val
    | ⟨1, _⟩ => rows (V c main_v2) t.val
    | ⟨2, _⟩ => k1_pay1 (rows (V c main_v0) t.val) (rows (V c main_v2) t.val)
  Φ _ := Pipeline.scopedRest spec1 c
  q _ := fullShare
  owed _ := 0

theorem before1_0 (c : Dev nD) (t : Fin cfg1.N) (d) : (dat1 (U := U) V c).before 0 t d = rows (V c main_v0) t.val :=
  ((dat1 (U := U) V c).before_in_eq_fetched 0 rfl (fun _ => rfl) (fun _ _ _ => rfl) (fun t => (blk1_0 V c t).symm) t d).trans (blk1_0 V c t)
theorem before1_1 (c : Dev nD) (t : Fin cfg1.N) (d) : (dat1 (U := U) V c).before 1 t d = rows (V c main_v2) t.val :=
  ((dat1 (U := U) V c).before_in_eq_fetched 1 rfl (fun _ => rfl) (fun _ _ _ => rfl) (fun t => (blk1_1 V c t).symm) t d).trans (blk1_1 V c t)

theorem row1 (t : Fin cfg1.N) : defs₀ (F := F) .tc cfg1.body (cfg1.bodyArgs t (cfg1.slots t)) = bodyAt1 t := by
  unfold defs₀; rw [Defs.onTc_tc]

set_option maxHeartbeats 1000000 in
theorem body1 (c : Dev nD) : BodyObligation (dat1 (U := U) V c) (defs₀ (F := F)) Variants.none () Set.univ := fun t => by
  rw [bigSep_W1, bigSep_W1, row1]
  exact triple_restated (loss_s_point c (grid1.coords t) _ _ _ _ _ _ (rows (V c main_v0) t.val) (rows (V c main_v2) t.val) _ _ _ _ _
    (before1_0 V c t) (before1_1 V c t)) rfl .rfl fun _ => .rfl

theorem emb1_2 (t : Fin cfg1.N) (y : S256x512.Idx) :
    ((cfg1.win 2).blk t).view.emb y = ofRC ((256 * t.val + (y 0).val) % 8192) (Nat.mod_lt _ (by decide)) (y 1).val (y 1).isLt := by
  refine funext fun a => Fin.ext ?_
  fin_cases a
  · exact rows_index (grid1.coords t 0).val t.val (y 0).val (coords_eq t) (Nat.lt_of_lt_of_eq t.isLt N_1) (y 0).isLt
  · exact cols_index (y 1).val

/-- After the region the result holds the losses. -/
theorem out1_2 (c : Dev nD) : (dat1 (U := U) V c).arrAt 2 cfg1.N = loss1 V c := by
  refine (dat1 (U := U) V c).arrAt_eq_of_cover 2 _ (fun t _ => ?_) fun i => ?_
  · have ht : t.val < 32 := lt_of_lt_of_eq t.isLt N_1
    funext y
    show k1_pay1 (rows (V c main_v0) t.val) (rows (V c main_v2) t.val) y = loss1 V c (((cfg1.win 2).blk t).view.emb y)
    rw [emb1_2]
    exact (congrFun (rows_unrows (fun n => k1_pay1 (rows (V c main_v0) n) (rows (V c main_v2) n)) ht) y).symm
  · have hi : (i 0).val < 8192 := (i 0).isLt
    obtain ⟨t, ht⟩ : ∃ t : Fin cfg1.N, t.val = (i 0).val / 256 := ⟨⟨(i 0).val / 256, lt_of_lt_of_eq (by omega) N_1.symm⟩, rfl⟩
    have hm := View.emb_mem_set ((cfg1.win 2).blk t).view (inBlock i)
    rw [emb1_2, ofRC_inBlock i t.val ht] at hm
    exact ⟨t, flush1_2 _, hm⟩

/-! ## Region 4: the losses of the second map -/

theorem blk4_0 (c : Dev nD) (t : Fin cfg4.N) : ((cfg4.win 0).blk t).view.read (Elt F) (V c main_v0) = rows (V c main_v0) t.val := by
  funext y
  refine congrArg (V c main_v0) (funext fun a => Fin.ext ?_)
  fin_cases a
  · exact rows_index (grid4.coords t 0).val t.val (y 0).val (coords_eq t) (Nat.lt_of_lt_of_eq t.isLt N_4) (y 0).isLt
  · exact cols_index (y 1).val
theorem blk4_1 (c : Dev nD) (t : Fin cfg4.N) : ((cfg4.win 1).blk t).view.read (Elt F) (V c main_v1) = rows (V c main_v1) t.val := by
  funext y
  refine congrArg (V c main_v1) (funext fun a => Fin.ext ?_)
  fin_cases a
  · exact rows_index (grid4.coords t 0).val t.val (y 0).val (coords_eq t) (Nat.lt_of_lt_of_eq t.isLt N_4) (y 0).isLt
  · exact cols_index (y 1).val
theorem blk4_2 (c : Dev nD) (t : Fin cfg4.N) : ((cfg4.win 2).blk t).view.read (Elt F) (V c main_v2) = rows (V c main_v2) t.val := by
  funext y
  refine congrArg (V c main_v2) (funext fun a => Fin.ext ?_)
  fin_cases a
  · exact rows_index (grid4.coords t 0).val t.val (y 0).val (coords_eq t) (Nat.lt_of_lt_of_eq t.isLt N_4) (y 0).isLt
  · exact cols_index (y 1).val
theorem blk4_3 (c : Dev nD) (t : Fin cfg4.N) : ((cfg4.win 3).blk t).view.read (Elt F) (V c main_v3) = rows (V c main_v3) t.val := by
  funext y
  refine congrArg (V c main_v3) (funext fun a => Fin.ext ?_)
  fin_cases a
  · exact rows_index (grid4.coords t 0).val t.val (y 0).val (coords_eq t) (Nat.lt_of_lt_of_eq t.isLt N_4) (y 0).isLt
  · exact cols_index (y 1).val

/-- The whole array of losses the region leaves. -/
def loss4 (c : Dev nD) : Vec F S8192x512 .f32 := unrows fun n => k4_pay1 (rows (V c main_v0) n) (rows (V c main_v1) n) (rows (V c main_v2) n) (rows (V c main_v3) n)

/-- The region's proof data, entered at `V`: the operands stay, a block of losses is written at each point. -/
def dat4 (c : Dev nD) : Dat τ (Elt F) Unit ℕ U ℕ cfg4 c where
  A w := V c (Pipeline.arrRef spec4 w)
  after w t := match w with
    | ⟨0, _⟩ => rows (V c main_v0) t.val
    | ⟨1, _⟩ => rows (V c main_v1) t.val
    | ⟨2, _⟩ => rows (V c main_v2) t.val
    | ⟨3, _⟩ => rows (V c main_v3) t.val
    | ⟨4, _⟩ => k4_pay1 (rows (V c main_v0) t.val) (rows (V c main_v1) t.val) (rows (V c main_v2) t.val) (rows (V c main_v3) t.val)
  Φ _ := Pipeline.scopedRest spec4 c
  q _ := fullShare
  owed _ := 0

theorem before4_0 (c : Dev nD) (t : Fin cfg4.N) (d) : (dat4 (U := U) V c).before 0 t d = rows (V c main_v0) t.val :=
  ((dat4 (U := U) V c).before_in_eq_fetched 0 rfl (fun _ => rfl) (fun _ _ _ => rfl) (fun t => (blk4_0 V c t).symm) t d).trans (blk4_0 V c t)
theorem before4_1 (c : Dev nD) (t : Fin cfg4.N) (d) : (dat4 (U := U) V c).before 1 t d = rows (V c main_v1) t.val :=
  ((dat4 (U := U) V c).before_in_eq_fetched 1 rfl (fun _ => rfl) (fun _ _ _ => rfl) (fun t => (blk4_1 V c t).symm) t d).trans (blk4_1 V c t)
theorem before4_2 (c : Dev nD) (t : Fin cfg4.N) (d) : (dat4 (U := U) V c).before 2 t d = rows (V c main_v2) t.val :=
  ((dat4 (U := U) V c).before_in_eq_fetched 2 rfl (fun _ => rfl) (fun _ _ _ => rfl) (fun t => (blk4_2 V c t).symm) t d).trans (blk4_2 V c t)
theorem before4_3 (c : Dev nD) (t : Fin cfg4.N) (d) : (dat4 (U := U) V c).before 3 t d = rows (V c main_v3) t.val :=
  ((dat4 (U := U) V c).before_in_eq_fetched 3 rfl (fun _ => rfl) (fun _ _ _ => rfl) (fun t => (blk4_3 V c t).symm) t d).trans (blk4_3 V c t)

theorem row4 (t : Fin cfg4.N) : defs₀ (F := F) .tc cfg4.body (cfg4.bodyArgs t (cfg4.slots t)) = bodyAt4 t := by
  unfold defs₀; rw [Defs.onTc_tc]

set_option maxHeartbeats 1000000 in
theorem body4 (c : Dev nD) : BodyObligation (dat4 (U := U) V c) (defs₀ (F := F)) Variants.none () Set.univ := fun t => by
  rw [bigSep_W4, bigSep_W4, row4]
  exact triple_restated (loss_b_point c (grid4.coords t) _ _ _ _ _ _ _ _ _ _ (rows (V c main_v0) t.val) (rows (V c main_v1) t.val) (rows (V c main_v2) t.val) (rows (V c main_v3) t.val) _ _ _ _ _ _ _
    (before4_0 V c t) (before4_1 V c t) (before4_2 V c t) (before4_3 V c t)) rfl .rfl fun _ => .rfl

theorem emb4_4 (t : Fin cfg4.N) (y : S256x512.Idx) :
    ((cfg4.win 4).blk t).view.emb y = ofRC ((256 * t.val + (y 0).val) % 8192) (Nat.mod_lt _ (by decide)) (y 1).val (y 1).isLt := by
  refine funext fun a => Fin.ext ?_
  fin_cases a
  · exact rows_index (grid4.coords t 0).val t.val (y 0).val (coords_eq t) (Nat.lt_of_lt_of_eq t.isLt N_4) (y 0).isLt
  · exact cols_index (y 1).val

/-- After the region the result holds the losses. -/
theorem out4_4 (c : Dev nD) : (dat4 (U := U) V c).arrAt 4 cfg4.N = loss4 V c := by
  refine (dat4 (U := U) V c).arrAt_eq_of_cover 4 _ (fun t _ => ?_) fun i => ?_
  · have ht : t.val < 32 := lt_of_lt_of_eq t.isLt N_4
    funext y
    show k4_pay1 (rows (V c main_v0) t.val) (rows (V c main_v1) t.val) (rows (V c main_v2) t.val) (rows (V c main_v3) t.val) y = loss4 V c (((cfg4.win 4).blk t).view.emb y)
    rw [emb4_4]
    exact (congrFun (rows_unrows (fun n => k4_pay1 (rows (V c main_v0) n) (rows (V c main_v1) n) (rows (V c main_v2) n) (rows (V c main_v3) n)) ht) y).symm
  · have hi : (i 0).val < 8192 := (i 0).isLt
    obtain ⟨t, ht⟩ : ∃ t : Fin cfg4.N, t.val = (i 0).val / 256 := ⟨⟨(i 0).val / 256, lt_of_lt_of_eq (by omega) N_4.symm⟩, rfl⟩
    have hm := View.emb_mem_set ((cfg4.win 4).blk t).view (inBlock i)
    rw [emb4_4, ofRC_inBlock i t.val ht] at hm
    exact ⟨t, flush4_4 _, hm⟩

end Cert.Balanced

end
-- ==== Proof.Effects.lean ====
/-
  What each of the seven kernel calls leaves in the arrays, written as host operations: a call reads whole arrays
  and writes whole arrays, so its effect on the buffers' contents is that of one operation per result.
  `data W p` is the pipeline library's proof data of call `p` entered with the buffers at `W`, `data_body` its body
  obligation, and `data_out` says that the contents after the call are those `leaves p` computes.
-/
module

public import proofs.«01_k».proof.Proof.CountRegionsS
public import proofs.«01_k».proof.Proof.CountRegionsB
public import proofs.«01_k».proof.Proof.StatsRegion
public import proofs.«01_k».proof.Proof.LossRegions
public import Idealize.ShloMosaic.Lib.StableHlo.Run

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held quaternary binary)
open Idealize.ShloMosaic.Pipeline (Dat Cfg Window BodyObligation cellOf)

variable {F : FTy → Type} [FloatOps F] {U : Type} [Idealize.SL.RA.URA U]

/-- The first map's losses over the whole array. -/
def lossS (x t : Vec F S8192x512 .f32) : Vec F S8192x512 .f32 := unrows fun n => k1_pay1 (rows x n) (rows t n)

/-- The second map's losses over the whole array. -/
def lossB (p th tp tt : Vec F S8192x512 .f32) : Vec F S8192x512 .f32 :=
  unrows fun n => k4_pay1 (rows p n) (rows th n) (rows tp n) (rows tt n)

/-- What call `p` leaves, as operations on the whole arrays. -/
def leaves : Fin 7 → List (HloOp τ sig (Elt F))
  | 0 => [quaternary main_v0 main_v1 main_v2 main_v3 main_v4_0 (statTo 0 · · · · 31),
          quaternary main_v0 main_v1 main_v2 main_v3 main_v4_1 (statTo 1 · · · · 31),
          quaternary main_v0 main_v1 main_v2 main_v3 main_v4_2 (statTo 2 · · · · 31),
          quaternary main_v0 main_v1 main_v2 main_v3 main_v4_3 (statTo 3 · · · · 31),
          quaternary main_v0 main_v1 main_v2 main_v3 main_v4_4 (statTo 4 · · · · 31),
          quaternary main_v0 main_v1 main_v2 main_v3 main_v4_5 (statTo 5 · · · · 31),
          quaternary main_v0 main_v1 main_v2 main_v3 main_v4_6 (statTo 6 · · · · 31)]
  | 1 => [binary main_v0 main_v2 main_case0b1_v37 lossS]
  | 2 => [binary main_while0b_v63 main_case0b1_v38_0 main_while0b_v64_0 (cntTo · · 31),
          binary main_while0b_v63 main_case0b1_v38_0 main_while0b_v64_1 (sumTo · · 31)]
  | 3 => [binary main_case0b1_v43 main_case0b1_v37 main_case0b1_v44_0 (cntTo · · 31),
          binary main_case0b1_v43 main_case0b1_v37 main_case0b1_v44_1 (sumTo · · 31)]
  | 4 => [quaternary main_v0 main_v1 main_v2 main_v3 main_case1b1_v37 lossB]
  | 5 => [binary main_while1b_v63 main_case1b1_v38_0 main_while1b_v64_0 (cntTo · · 31),
          binary main_while1b_v63 main_case1b1_v38_0 main_while1b_v64_1 (sumTo · · 31)]
  | 6 => [binary main_case1b1_v43 main_case1b1_v37 main_case1b1_v44_0 (cntTo · · 31),
          binary main_case1b1_v43 main_case1b1_v37 main_case1b1_v44_1 (sumTo · · 31)]

/-- The arrays call `p` writes. -/
def written : Fin 7 → List (Ref sig .tc)
  | 0 => [main_v4_0, main_v4_1, main_v4_2, main_v4_3, main_v4_4, main_v4_5, main_v4_6]
  | 1 => [main_case0b1_v37]
  | 2 => [main_while0b_v64_0, main_while0b_v64_1]
  | 3 => [main_case0b1_v44_0, main_case0b1_v44_1]
  | 4 => [main_case1b1_v37]
  | 5 => [main_while1b_v64_0, main_while1b_v64_1]
  | 6 => [main_case1b1_v44_0, main_case1b1_v44_1]

theorem leaves_writes (p : Fin 7) : (leaves (F := F) p).map HloOp.writes = (written p).map fun r => {Proc.devRef (τ := τ) .tc r} := by
  fin_cases p <;> rfl

/-- What call `p` does not write it leaves as it was. -/
theorem leaves_ne (p : Fin 7) (W : Valuation τ sig (Elt F)) (b : Ref sig .tc) (h : b ∉ written p) :
    after (leaves p) W (Proc.devRef .tc b) = W (Proc.devRef .tc b) :=
  StableHlo.after_of_writes_sub _ _ (StableHlo.forall_writes_sub_of_map (leaves_writes p)) h

/-- A valuation of all the buffers read at the TensorCore's references. -/
abbrev at' (W : Dev nD → Valuation τ sig (Elt F)) (c : Dev nD) (b : Ref sig .tc) : Buf (Elt F) ((c : Thread nD τ).loc b) := W c b

/-- No table is prefetched. -/
abbrev adm : (p : Fin 7) → (pcfgs (F := F) p).Adm := fun p => (cfgs p).toPCfg_adm

/-- The proof data of call `p` entered at `W`. -/
def data (W : Dev nD → Valuation τ sig (Elt F)) : (p : Fin 7) → (c : Dev nD) → Dat τ (Elt F) Unit ℕ U ℕ (Pipeline.pin (pcfgs (F := F)) adm p) c
  | 0 => fun c => dat0 (at' W) c
  | 1 => fun c => dat1 (at' W) c
  | 2 => fun c => dat2 (at' W) c
  | 3 => fun c => dat3 (at' W) c
  | 4 => fun c => dat4 (at' W) c
  | 5 => fun c => dat5 (at' W) c
  | 6 => fun c => dat6 (at' W) c

variable (W : Dev nD → Valuation τ sig (Elt F))

theorem data_body (p : Fin 7) (c : Dev nD) : BodyObligation (data (U := U) W p c) (defs₀ (F := F)) Variants.none () Set.univ := by
  match p with
  | 0 => exact body0 (at' W) c
  | 1 => exact body1 (at' W) c
  | 2 => exact body2 (at' W) c
  | 3 => exact body3 (at' W) c
  | 4 => exact body4 (at' W) c
  | 5 => exact body5 (at' W) c
  | 6 => exact body6 (at' W) c

theorem data_in (p : Fin 7) (c : Dev nD) (w : Fin (cfgs p).W) : (data (U := U) W p c).A w = at' W c (Pipeline.arrRef (cfgs p).spec w) := by
  match p with
  | 0 => rfl
  | 1 => rfl
  | 2 => rfl
  | 3 => rfl
  | 4 => rfl
  | 5 => rfl
  | 6 => rfl

theorem data_inv (p : Fin 7) (c : Dev nD) (k) :
    (data (U := U) W p c).Φ k = Pipeline.scopedRest (Ix := Unit) (Name := ℕ) (U := U) (Lvl := ℕ) (Val := Elt F) (cfgs p).spec c := by
  match p with
  | 0 => rfl
  | 1 => rfl
  | 2 => rfl
  | 3 => rfl
  | 4 => rfl
  | 5 => rfl
  | 6 => rfl

theorem data_share (p : Fin 7) (c : Dev nD) (w) : (data (U := U) W p c).q w = fullShare := by
  match p with
  | 0 => rfl
  | 1 => rfl
  | 2 => rfl
  | 3 => rfl
  | 4 => rfl
  | 5 => rfl
  | 6 => rfl

theorem data_owed (p : Fin 7) (c : Dev nD) (k) : (data (U := U) W p c).owed k = 0 := by
  match p with
  | 0 => rfl
  | 1 => rfl
  | 2 => rfl
  | 3 => rfl
  | 4 => rfl
  | 5 => rfl
  | 6 => rfl

theorem data_recorded (p : Fin 7) (c : Dev nD) (k) (x) : x ∈ (data (U := U) W p c).recorded k := by
  match p with
  | 0 => trivial
  | 1 => trivial
  | 2 => trivial
  | 3 => trivial
  | 4 => trivial
  | 5 => trivial
  | 6 => trivial

/-! What each result holds after its call. -/

section Results

variable (V : Valuation τ sig (Elt F))

theorem after_stats0 : after (leaves 0) V (Proc.devRef .tc main_v4_0) = statTo 0 (V main_v0) (V main_v1) (V main_v2) (V main_v3) 31 := by
  dsimp only [leaves]; after_results
theorem after_stats1 : after (leaves 0) V (Proc.devRef .tc main_v4_1) = statTo 1 (V main_v0) (V main_v1) (V main_v2) (V main_v3) 31 := by
  dsimp only [leaves]; after_results
theorem after_stats2 : after (leaves 0) V (Proc.devRef .tc main_v4_2) = statTo 2 (V main_v0) (V main_v1) (V main_v2) (V main_v3) 31 := by
  dsimp only [leaves]; after_results
theorem after_stats3 : after (leaves 0) V (Proc.devRef .tc main_v4_3) = statTo 3 (V main_v0) (V main_v1) (V main_v2) (V main_v3) 31 := by
  dsimp only [leaves]; after_results
theorem after_stats4 : after (leaves 0) V (Proc.devRef .tc main_v4_4) = statTo 4 (V main_v0) (V main_v1) (V main_v2) (V main_v3) 31 := by
  dsimp only [leaves]; after_results
theorem after_stats5 : after (leaves 0) V (Proc.devRef .tc main_v4_5) = statTo 5 (V main_v0) (V main_v1) (V main_v2) (V main_v3) 31 := by
  dsimp only [leaves]; after_results
theorem after_stats6 : after (leaves 0) V (Proc.devRef .tc main_v4_6) = statTo 6 (V main_v0) (V main_v1) (V main_v2) (V main_v3) 31 := by
  dsimp only [leaves]; after_results
theorem after_lossS : after (leaves 1) V (Proc.devRef .tc main_case0b1_v37) = lossS (V main_v0) (V main_v2) := by
  dsimp only [leaves]; after_results
theorem after_trip0_count : after (leaves 2) V (Proc.devRef .tc main_while0b_v64_0) = cntTo (V main_while0b_v63) (V main_case0b1_v38_0) 31 := by
  dsimp only [leaves]; after_results
theorem after_trip0_sum : after (leaves 2) V (Proc.devRef .tc main_while0b_v64_1) = sumTo (V main_while0b_v63) (V main_case0b1_v38_0) 31 := by
  dsimp only [leaves]; after_results
theorem after_last0_count : after (leaves 3) V (Proc.devRef .tc main_case0b1_v44_0) = cntTo (V main_case0b1_v43) (V main_case0b1_v37) 31 := by
  dsimp only [leaves]; after_results
theorem after_last0_sum : after (leaves 3) V (Proc.devRef .tc main_case0b1_v44_1) = sumTo (V main_case0b1_v43) (V main_case0b1_v37) 31 := by
  dsimp only [leaves]; after_results
theorem after_trip1_count : after (leaves 5) V (Proc.devRef .tc main_while1b_v64_0) = cntTo (V main_while1b_v63) (V main_case1b1_v38_0) 31 := by
  dsimp only [leaves]; after_results
theorem after_trip1_sum : after (leaves 5) V (Proc.devRef .tc main_while1b_v64_1) = sumTo (V main_while1b_v63) (V main_case1b1_v38_0) 31 := by
  dsimp only [leaves]; after_results
theorem after_last1_count : after (leaves 6) V (Proc.devRef .tc main_case1b1_v44_0) = cntTo (V main_case1b1_v43) (V main_case1b1_v37) 31 := by
  dsimp only [leaves]; after_results
theorem after_last1_sum : after (leaves 6) V (Proc.devRef .tc main_case1b1_v44_1) = sumTo (V main_case1b1_v43) (V main_case1b1_v37) 31 := by
  dsimp only [leaves]; after_results
theorem after_lossB : after (leaves 4) V (Proc.devRef .tc main_case1b1_v37) = lossB (V main_v0) (V main_v1) (V main_v2) (V main_v3) := by
  dsimp only [leaves]; after_results

end Results

theorem out_0 (c : Dev nD) (w : Fin cfg0.W) :
    (dat0 (U := U) (at' W) c).arrAt w cfg0.N = after (leaves 0) (W c) (Proc.devRef .tc (Pipeline.arrRef spec0 w)) := by
  fin_cases w
  iterate 4 exact ((dat0 (U := U) (at' W) c).arrAt_in _ rfl _).trans (leaves_ne 0 _ _ (by decide)).symm
  · exact (out0_4 (at' W) c).trans (after_stats0 (W c)).symm
  · exact (out0_5 (at' W) c).trans (after_stats1 (W c)).symm
  · exact (out0_6 (at' W) c).trans (after_stats2 (W c)).symm
  · exact (out0_7 (at' W) c).trans (after_stats3 (W c)).symm
  · exact (out0_8 (at' W) c).trans (after_stats4 (W c)).symm
  · exact (out0_9 (at' W) c).trans (after_stats5 (W c)).symm
  · exact (out0_10 (at' W) c).trans (after_stats6 (W c)).symm

theorem out_1 (c : Dev nD) (w : Fin cfg1.W) :
    (dat1 (U := U) (at' W) c).arrAt w cfg1.N = after (leaves 1) (W c) (Proc.devRef .tc (Pipeline.arrRef spec1 w)) := by
  fin_cases w
  iterate 2 exact ((dat1 (U := U) (at' W) c).arrAt_in _ rfl _).trans (leaves_ne 1 _ _ (by decide)).symm
  · exact (out1_2 (at' W) c).trans (after_lossS (W c)).symm

theorem out_2 (c : Dev nD) (w : Fin cfg2.W) :
    (dat2 (U := U) (at' W) c).arrAt w cfg2.N = after (leaves 2) (W c) (Proc.devRef .tc (Pipeline.arrRef spec2 w)) := by
  fin_cases w
  iterate 2 exact ((dat2 (U := U) (at' W) c).arrAt_in _ rfl _).trans (leaves_ne 2 _ _ (by decide)).symm
  · exact (out2_2 (at' W) c).trans (after_trip0_count (W c)).symm
  · exact (out2_3 (at' W) c).trans (after_trip0_sum (W c)).symm

theorem out_3 (c : Dev nD) (w : Fin cfg3.W) :
    (dat3 (U := U) (at' W) c).arrAt w cfg3.N = after (leaves 3) (W c) (Proc.devRef .tc (Pipeline.arrRef spec3 w)) := by
  fin_cases w
  iterate 2 exact ((dat3 (U := U) (at' W) c).arrAt_in _ rfl _).trans (leaves_ne 3 _ _ (by decide)).symm
  · exact (out3_2 (at' W) c).trans (after_last0_count (W c)).symm
  · exact (out3_3 (at' W) c).trans (after_last0_sum (W c)).symm

theorem out_4 (c : Dev nD) (w : Fin cfg4.W) :
    (dat4 (U := U) (at' W) c).arrAt w cfg4.N = after (leaves 4) (W c) (Proc.devRef .tc (Pipeline.arrRef spec4 w)) := by
  fin_cases w
  iterate 4 exact ((dat4 (U := U) (at' W) c).arrAt_in _ rfl _).trans (leaves_ne 4 _ _ (by decide)).symm
  · exact (out4_4 (at' W) c).trans (after_lossB (W c)).symm

theorem out_5 (c : Dev nD) (w : Fin cfg5.W) :
    (dat5 (U := U) (at' W) c).arrAt w cfg5.N = after (leaves 5) (W c) (Proc.devRef .tc (Pipeline.arrRef spec5 w)) := by
  fin_cases w
  iterate 2 exact ((dat5 (U := U) (at' W) c).arrAt_in _ rfl _).trans (leaves_ne 5 _ _ (by decide)).symm
  · exact (out5_2 (at' W) c).trans (after_trip1_count (W c)).symm
  · exact (out5_3 (at' W) c).trans (after_trip1_sum (W c)).symm

theorem out_6 (c : Dev nD) (w : Fin cfg6.W) :
    (dat6 (U := U) (at' W) c).arrAt w cfg6.N = after (leaves 6) (W c) (Proc.devRef .tc (Pipeline.arrRef spec6 w)) := by
  fin_cases w
  iterate 2 exact ((dat6 (U := U) (at' W) c).arrAt_in _ rfl _).trans (leaves_ne 6 _ _ (by decide)).symm
  · exact (out6_2 (at' W) c).trans (after_last1_count (W c)).symm
  · exact (out6_3 (at' W) c).trans (after_last1_sum (W c)).symm

/-- Every array of call `p` holds after it what `leaves p` computes. -/
theorem data_out (p : Fin 7) (c : Dev nD) (w : Fin (cfgs p).W) :
    (data (U := U) W p c).arrAt w (cfgs p).N = after (leaves p) (W c) (Proc.devRef .tc (Pipeline.arrRef (cfgs p).spec w)) := by
  match p with
  | 0 => exact out_0 W c w
  | 1 => exact out_1 W c w
  | 2 => exact out_2 W c w
  | 3 => exact out_3 W c w
  | 4 => exact out_4 W c w
  | 5 => exact out_5 W c w
  | 6 => exact out_6 W c w

/-- What call `p` writes are arrays of its windows. -/
theorem written_sub (p : Fin 7) (b : Ref sig .tc) (h : b ∈ written p) : b ∈ Finset.univ.image (Pipeline.arrRef (cfgs p).spec) := by
  revert b
  fin_cases p <;> decide

end Cert.Balanced
-- ==== Proof.Calls.lean ====
/-
  A kernel call as one segment of the program: entered with every buffer at `W`, it leaves them at
  `after (leaves p) W`. A call inside a loop is entered once per trip, so there is one ticket per call and trip;
  a ticket names the contents its call is entered with (`ent`).
-/
module

public import proofs.«01_k».proof.Proof.Effects
public import Idealize.ShloMosaic.Lib.Pipeline.RegionsCase

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat Cfg Window BodyObligation cellOf CSeg LoopSeg CaseSeg Ticket)

variable {F : FTy → Type} [FloatOps F]

/-- One copy of the pipeline library's algebra per call and trip, beside the transfers' counters. -/
abbrev UU : Type := IProdConst (Fin 7 × Fin 33) (UR sig nD τ) × Counters

local notation "𝕄" => MT nD τ sig Unit (Elt F) ℕ UU ℕ

abbrev 𝒱₀ : Variants := Variants.none
abbrev L : GSem nD τ sig → Finset Unit := fun _ => ∅
abbrev lv : GSem nD τ sig → Unit → ℕ := fun _ _ => 0

/-- The layout of call `p`. -/
theorem launch (p : Fin 7) : Pipeline.LaunchFacts (nD := nD) (τ := τ) cfgs p := by
  match p with
  | 0 => exact launch0
  | 1 => exact launch1
  | 2 => exact launch2
  | 3 => exact launch3
  | 4 => exact launch4
  | 5 => exact launch5
  | 6 => exact launch6

/-- What rides beside the buffers: the core owes nothing. -/
abbrev Owes (c : Dev nD) : sProp 𝕄 := iprop(∃ w, owes (c : Thread nD τ) (0 : CellTallies nD τ sig Unit) w)

/-- Every unscoped buffer at `W`, nothing owed. -/
abbrev State (W : Dev nD → Valuation τ sig (Elt F)) (c : Dev nD) : sProp 𝕄 :=
  iprop(held (c : Thread nD τ) (Pipeline.ucRefs τ sig) (W c) ∗ Owes c)

-- a library lemma stated at any configuration unifies with the pinned one only when unification may unfold plain definitions
set_option backward.isDefEq.respectTransparency.types false in
/-- Call `p`, entered at `W`. -/
def call (W : Dev nD → Valuation τ sig (Elt F)) (p : Fin 7) :
    Pipeline.RegionSeg (pcfgs (F := F)) adm (data (U := UU) W) () defs₀ 𝒱₀ L lv p where
  win := (launch p).win.to₀
  block_pos := (launch p).block_pos
  stage_whole := (launch p).stage_whole
  K := PEmpty
  osem k := k.elim
  ho := Pipeline.OwnSemFacts.none _
  hbody c := (data_body W p c).loose
  hwaits := Pipeline.hwaits_of_owed_zero _ _ _ _ L lv p fun c k => data_owed W p c k
  pre := State W
  post := State fun c => after (leaves p) (W c)
  X _ := BI.emp
  Y _ := BI.emp
  Z c := Pipeline.unscopedRest (Ix := Unit) (Name := ℕ) (U := UU) (Lvl := ℕ) (cfgs p).spec c (at' W c)
  hentry c := by
    rw [Pipeline.ownSems0_none]
    have hsplit := Pipeline.arrays_of_unscopedBufs (p := p) (pcfgs (F := F)) adm (data (U := UU) W) (launch p).win (launch p).arr_whole c
      ((data (U := UU) W p c).share_full fun w => data_share W p c w) (at' W c) fun w => data_in W p c w
    rw [show State W c = iprop(unscopedBufs c (at' W c) ∗ Owes c) from by rw [Pipeline.unscopedBufs_held]]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [data_owed W p c]
      icases HO with ⟨%w, HO⟩; iexists w; isplitr; · ipureintro; exact fun _ _ => Or.inl (data_recorded W p c _ _)
      iexact HO
    isplitr; · iempintro
    iexact Hrest
  hin c := by
    rw [data_inv W p c]
    iintro ⟨-, -, Hr⟩; iexact Hr
  hout c := by
    rw [Pipeline.ownSems0_none, data_inv W p c]
    iintro Hr
    isplitr; · iempintro
    isplitr; · iempintro
    iexact Hr
  hexit c := by
    have hjoin := Pipeline.unscopedBufs_of_arrays (p := p) (pcfgs (F := F)) adm (Ix := Unit) (Name := ℕ) (U := UU) (Lvl := ℕ) (launch p).win (launch p).arr_whole c
      (data (U := UU) W) ((data (U := UU) W p c).share_full fun w => data_share W p c w) (at' W c) (at' (fun c => after (leaves p) (W c)) c)
      ((data (U := UU) W p c).arrAt · (cfgs p).N)
      (fun w => data_out W p c w)
      (fun b hb => leaves_ne p (W c) b fun h => hb (written_sub p b h))
    rw [show State (fun c => after (leaves p) (W c)) c = iprop(unscopedBufs c (at' (fun c => after (leaves p) (W c)) c) ∗ Owes c) from by rw [Pipeline.unscopedBufs_held]]
    iintro ⟨Ha, HO, -, Hrest⟩
    imodintro
    isplitl [Ha Hrest]
    · iapply hjoin; isplitl [Ha] <;> iassumption
    unfold Pipeline.Dat.owesAt Pipeline.owesWithin
    rw [data_owed W p c]
    icases HO with ⟨%w, -, HO⟩; iexists w; iexact HO

/-- The contents each call is entered with, trip by trip. -/
abbrev Entries (F : FTy → Type) : Type := Fin 7 × Fin 33 → Dev nD → Valuation τ sig (Elt F)

/-- The tickets. -/
def tk (ent : Entries F) (j : Fin 7 × Fin 33) : Ticket (Ix := Unit) (Name := ℕ) (U := UU) (Lvl := ℕ) (nD := nD) (τ := τ) (pcfgs (F := F)) adm :=
  { p := j.1, pdats := data (ent j), EP := embAt j }

variable (ent : Entries F)

/-- A segment of the program. -/
abbrev Sg : Type _ := CSeg (pcfgs (F := F)) adm defs₀ 𝒱₀ L lv loops (tk ent)

/-- A run of host operations entered at `W`. -/
abbrev opsSeg (W : Dev nD → Valuation τ sig (Elt F)) (ops : List (HloOp τ sig (Elt F)))
    (hs : ops.Forall fun op => op.bufs ⊆ StableHlo.tcRefs τ sig) (hf : ops.Forall fun op => op.fresh = ∅) : Sg ent :=
  CSeg.ofOps _ _ _ _ _ _ _ _ (Pipeline.ucRefs τ sig) ops
    (fun op h => Pipeline.sub_ucRefs op ((List.forall_iff_forall_mem.mp hs) op h)) (fun op h => (List.forall_iff_forall_mem.mp hf) op h) W Owes

/-- A call at its ticket. -/
abbrev callSeg (j : Fin 7 × Fin 33) : Sg ent :=
  CSeg.region _ _ () cellOf_inj _ _ _ _ _ _ j (call (ent j) j.1)

end Cert.Balanced
-- ==== Proof.Loops.lean ====
module

public import proofs.«01_k».proof.Proof.Calls
public import Idealize.ShloMosaic.Lib.Pipeline.RegionsCase

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat Cfg Window BodyObligation cellOf CSeg LoopSeg CaseSeg Ticket)

variable {F : FTy → Type} [FloatOps F]

local notation "𝕄" => MT nD τ sig Unit (Elt F) ℕ UU ℕ

/-- A program of the module. -/
abbrev Pr (F : FTy → Type) [FloatOps F] (α : Type) : Type 1 :=
  Prog (TpuEff nD τ sig (Elt F) (HostLoop.Sig (Pipeline.Sig Λ₀ (Fin 7) fun p => (pcfgs (F := F) p).Adm) 2) .tc) α

/-- A host operation touches buffers of the TensorCore, and allocates none. -/
abbrev Plain (ops : List (HloOp τ sig (Elt F))) : Prop :=
  (ops.Forall fun op => op.bufs ⊆ StableHlo.tcRefs τ sig) ∧ ops.Forall fun op => op.fresh = ∅

/-- A program fragment that runs the operations `ops` and returns `word` of the contents they are entered with. -/
abbrev Reads {α : Type} (pr : Pr F α) (ops : List (HloOp τ sig (Elt F))) (word : Valuation τ sig (Elt F) → α) : Prop :=
  ∀ (W : Dev nD → Valuation τ sig (Elt F)) (c : Dev nD) (bd : Option (Variants.lift 𝒱₀).V),
    (iprop(boundary (c : Thread nD τ) ∗ State W c) : sProp 𝕄)
      ⊢ wp frame (wpE (HostLoop.defs loops (Pipeline.defs (pcfgs (F := F)) defs₀)) (Variants.lift 𝒱₀) (c : Thread nD τ) bd) Set.univ pr
          (fun v => iprop(⌜v = word (W c)⌝ ∗ boundary (c : Thread nD τ) ∗ State (fun c => after ops (W c)) c))

/-- A counted loop of 33 trips, each running `pre`, call `p` and `post`. -/
structure Loop (F : FTy → Type) [FloatOps F] where
  l : Fin 2
  p : Fin 7
  cond : Pr F (Elt F .i1)
  body : Pr F PUnit
  is_loop : loops l = HostLoop.step l cond body
  condOps : List (HloOp τ sig (Elt F))
  pre : List (HloOp τ sig (Elt F))
  post : List (HloOp τ sig (Elt F))
  pre_plain : Plain pre
  post_plain : Plain post
  chain : body = Pipeline.chain [StableHlo.seq pre, Prog.lift (.customCall (HostLoop.inner (Pipeline.entry p)) ()), StableHlo.seq post]
  test : Valuation τ sig (Elt F) → Elt F .i1
  reads : Reads cond condOps test
  zero : Valuation τ sig (Elt F) → Prop

namespace Loop

variable (D : Loop F) (V : Valuation τ sig (Elt F))

/-- The contents a trip's call is entered with, from those before the condition. -/
abbrev enter : Valuation τ sig (Elt F) := after D.pre (after D.condOps V)
/-- One trip. -/
abbrev trip : Valuation τ sig (Elt F) := after D.post (after (leaves D.p) (D.enter V))
/-- The contents before the `k`-th run of the condition. -/
def before (k : ℕ) : Valuation τ sig (Elt F) := D.trip^[k] V
/-- The contents after the loop. -/
abbrev result : Valuation τ sig (Elt F) := after D.condOps (D.before V 33)

theorem before_succ (k : ℕ) : D.before V (k + 1) = D.trip (D.before V k) := Function.iterate_succ_apply' ..

/-- The condition reads `1` before each of the 33 trips and `0` after them. -/
def Counts : Prop := ∀ V, D.zero V → ∀ k ≤ 33, (D.test (D.before V k) = 1#1 ↔ k < 33)

end Loop

variable (ent : Entries F)

section TheLoop

variable (D : Loop F) (hD : D.Counts) (W : Dev nD → Valuation τ sig (Elt F))

/-- Trip `k`'s segments. -/
def tripSegs (k : ℕ) : List (Sg ent) :=
  if hk : k < 33 then
    [opsSeg ent (fun c => after D.condOps (D.before (W c) k)) D.pre D.pre_plain.1 D.pre_plain.2,
     callSeg ent (D.p, ⟨k, hk⟩),
     opsSeg ent (fun c => after (leaves D.p) (D.enter (D.before (W c) k))) D.post D.post_plain.1 D.post_plain.2]
  else []

variable (he : ∀ k : Fin 33, ent (D.p, k) = fun c => D.enter (D.before (W c) k))

include he in
theorem tripSegs_chain (k : ℕ) (hk : k < 33) :
    CSeg.Chains (State fun c => after D.condOps (D.before (W c) k)) (tripSegs ent D W k) (State fun c => D.before (W c) (k + 1)) := by
  unfold tripSegs; rw [dif_pos hk]
  refine ⟨fun _ => .rfl, fun c => Entails.of_eq ?_, fun c => Entails.of_eq ?_, fun c => Entails.of_eq ?_⟩
  · show State (fun c => D.enter (D.before (W c) k)) c = State (ent (D.p, ⟨k, hk⟩)) c
    rw [he]
  · show State (fun c => after (leaves D.p) (ent (D.p, ⟨k, hk⟩) c)) c = State (fun c => after (leaves D.p) (D.enter (D.before (W c) k))) c
    rw [he]
  · show State (fun c => D.trip (D.before (W c) k)) c = _
    simp only [D.before_succ]

theorem mem_three {α : Type _} {a b c x : α} (h : x ∈ [a, b, c]) : x = a ∨ x = b ∨ x = c := by
  simpa using h

/-- The loop as one segment: from `W` to `D.result`. -/
def loopSeg (h0 : ∀ c, D.zero (W c)) : Sg ent :=
  CSeg.loop _ _ _ _ _ _ _ _
  { l := D.l
    cond := D.cond
    body := D.body
    hloops := D.is_loop
    n := 33
    inv := fun k => State fun c => D.before (W c) k
    mid := fun k => State fun c => after D.condOps (D.before (W c) k)
    hcond := fun k hk c bd => by
      refine (D.reads (fun c => D.before (W c) k) c bd).trans (wp_mono _ _ _ fun v => ?_)
      iintro ⟨%hv, H⟩
      isplitr
      · ipureintro; rw [hv]; exact hD (W c) (h0 c) k hk
      iexact H
    segs := tripSegs ent D W
    hch := tripSegs_chain ent D W he
    hbody := fun k hk c bd Q => by
      unfold tripSegs; rw [dif_pos hk, D.chain]; exact .rfl
    B := (Pipeline.pin (pcfgs (F := F)) adm D.p).tripCount + 1
    hM := fun k hk s hs => by
      unfold tripSegs at hs; rw [dif_pos hk] at hs
      rcases mem_three hs with rfl | rfl | rfl
      exacts [Nat.zero_le _, le_rfl, Nat.zero_le _]
    Tk := fun k => if hk : k < 33 then {(D.p, ⟨k, hk⟩)} else ∅
    hT := fun k hk s hs => by
      unfold tripSegs at hs; rw [dif_pos hk] at hs ⊢
      rcases mem_three hs with rfl | rfl | rfl
      exacts [Finset.empty_subset _, subset_rfl, Finset.empty_subset _]
    hdisT := fun k hk => by
      unfold tripSegs; rw [dif_pos hk]
      refine List.pairwise_cons.mpr ⟨fun _ _ => Finset.disjoint_empty_left _, List.pairwise_cons.mpr ⟨fun s hs => ?_, List.pairwise_singleton ..⟩⟩
      obtain rfl := List.mem_singleton.mp hs
      exact Finset.disjoint_empty_right _
    hTk := fun k k' hlt hk' => by
      rw [dif_pos (Nat.lt_trans hlt hk'), dif_pos hk']
      exact Finset.disjoint_singleton.mpr fun h => absurd (congrArg (fun j => j.2.val) h) (by simp only []; omega) }

theorem loopSeg_T (h0 : ∀ c, D.zero (W c)) : ∀ j ∈ (loopSeg ent D hD W he h0).T, j.1 = D.p := by
  intro j hj
  obtain ⟨k, hk, hj⟩ := Finset.mem_biUnion.mp hj
  have hk := Finset.mem_range.mp hk
  replace hj : j ∈ (if hk : k < 33 then {(D.p, ⟨k, hk⟩)} else ∅ : Finset (Fin 7 × Fin 33)) := hj
  rw [dif_pos (show k < 33 from hk)] at hj
  rw [Finset.mem_singleton.mp hj]

end TheLoop

end Cert.Balanced
-- ==== Proof.Branches.lean ====
module

public import proofs.«01_k».proof.Proof.Loops
public import Idealize.ShloMosaic.Lib.Pipeline.RegionsCase

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat Cfg Window BodyObligation cellOf CSeg LoopSeg CaseSeg Ticket)

variable {F : FTy → Type} [FloatOps F]

local notation "𝕄" => MT nD τ sig Unit (Elt F) ℕ UU ℕ

/-- A branch on a word: arm 0 is host operations alone; arm 1 is a call, operations, a loop, operations, a call and
    operations. -/
structure Branch (F : FTy → Type) [FloatOps F] where
  rd : Pr F (BitVec 32)
  arms : Fin 2 → Pr F PUnit
  rdOps : List (HloOp τ sig (Elt F))
  word : Valuation τ sig (Elt F) → BitVec 32
  reads : Reads rd rdOps word
  loop : Loop F
  first : Fin 7
  last : Fin 7
  apart : first ≠ last ∧ first ≠ loop.p ∧ last ≠ loop.p
  arm0 : List (HloOp τ sig (Elt F))
  init : List (HloOp τ sig (Elt F))
  mid : List (HloOp τ sig (Elt F))
  fin : List (HloOp τ sig (Elt F))
  arm0_plain : Plain arm0
  init_plain : Plain init
  mid_plain : Plain mid
  fin_plain : Plain fin
  chain0 : arms 0 = Pipeline.chain [StableHlo.seq arm0]
  chain1 : arms 1 = Pipeline.chain [Prog.lift (.customCall (HostLoop.inner (Pipeline.entry first)) ()), StableHlo.seq init,
    HostLoop.enter loop.l, StableHlo.seq mid, Prog.lift (.customCall (HostLoop.inner (Pipeline.entry last)) ()), StableHlo.seq fin]
  counts : loop.Counts
  zero : ∀ V, loop.zero (after init (after (leaves first) V))

namespace Branch

variable (B : Branch F) (V : Valuation τ sig (Elt F))

/-- Arm 1's contents, from those after the read: at the loop's entry, -/
abbrev atLoop : Valuation τ sig (Elt F) := after B.init (after (leaves B.first) V)
/-- at the last call's entry, -/
abbrev atLast : Valuation τ sig (Elt F) := after B.mid (B.loop.result (B.atLoop V))
/-- and at the end. -/
abbrev slow : Valuation τ sig (Elt F) := after B.fin (after (leaves B.last) (B.atLast V))
/-- The arm that is taken. -/
abbrev arm : Fin 2 := HostLoop.branch (B.word V) 1
/-- The contents after the branch. -/
def result : Valuation τ sig (Elt F) := if B.arm V = 0 then after B.arm0 (after B.rdOps V) else B.slow (after B.rdOps V)

end Branch

variable (ent : Entries F) (B : Branch F) (W : Dev nD → Valuation τ sig (Elt F))

/-- The branch's calls are entered with these contents. -/
structure Enters : Prop where
  first : ent (B.first, 0) = fun c => after B.rdOps (W c)
  last : ent (B.last, 0) = fun c => B.atLast (after B.rdOps (W c))
  trips : ∀ k : Fin 33, ent (B.loop.p, k) = fun c => B.loop.enter (B.loop.before (B.atLoop (after B.rdOps (W c))) k)

variable (he : Enters ent B W)

/-- The loop within arm 1. -/
abbrev armLoop : Sg ent :=
  loopSeg ent B.loop B.counts (fun c => B.atLoop (after B.rdOps (W c))) he.trips fun _ => B.zero _

/-- The segments of the arms. -/
def armSegs (b : Fin 2) : List (Sg ent) :=
  if b = 0 then [opsSeg ent (fun c => after B.rdOps (W c)) B.arm0 B.arm0_plain.1 B.arm0_plain.2]
  else [callSeg ent (B.first, 0),
    opsSeg ent (fun c => after (leaves B.first) (after B.rdOps (W c))) B.init B.init_plain.1 B.init_plain.2,
    armLoop ent B W he,
    opsSeg ent (fun c => B.loop.result (B.atLoop (after B.rdOps (W c)))) B.mid B.mid_plain.1 B.mid_plain.2,
    callSeg ent (B.last, 0),
    opsSeg ent (fun c => after (leaves B.last) (B.atLast (after B.rdOps (W c)))) B.fin B.fin_plain.1 B.fin_plain.2]

theorem mem_six {α : Type _} {a b c d e f x : α} (h : x ∈ [a, b, c, d, e, f]) : x = a ∨ x = b ∨ x = c ∨ x = d ∨ x = e ∨ x = f := by
  simpa using h

/-- A segment's tickets are of one of the branch's three calls. -/
theorem armSegs_T (b : Fin 2) : ∀ s ∈ armSegs ent B W he b, ∀ j ∈ s.T, j.1 = B.first ∨ j.1 = B.last ∨ j.1 = B.loop.p := by
  intro s hs j hj
  unfold armSegs at hs
  split at hs
  · obtain rfl := List.mem_singleton.mp hs
    exact absurd hj (Finset.notMem_empty _)
  · rcases mem_six hs with rfl | rfl | rfl | rfl | rfl | rfl
    · rw [Finset.mem_singleton.mp hj]; exact Or.inl rfl
    · exact absurd hj (Finset.notMem_empty _)
    · exact Or.inr (Or.inr (loopSeg_T _ _ _ _ _ _ j hj))
    · exact absurd hj (Finset.notMem_empty _)
    · rw [Finset.mem_singleton.mp hj]; exact Or.inr (Or.inl rfl)
    · exact absurd hj (Finset.notMem_empty _)

theorem armSegs_disjoint (b : Fin 2) : (armSegs ent B W he b).Pairwise fun s s' => Disjoint s.T s'.T := by
  unfold armSegs
  split
  · exact List.pairwise_singleton ..
  · have hA : Disjoint (callSeg ent (B.first, 0)).T (armLoop ent B W he).T :=
      Finset.disjoint_singleton_left.mpr fun h => B.apart.2.1 (loopSeg_T _ _ _ _ _ _ _ h)
    have hB : Disjoint (armLoop ent B W he).T (callSeg ent (B.last, 0)).T :=
      Finset.disjoint_singleton_right.mpr fun h => B.apart.2.2 (loopSeg_T _ _ _ _ _ _ _ h)
    have hC : Disjoint (callSeg ent (B.first, 0)).T (callSeg ent (B.last, 0)).T :=
      Finset.disjoint_singleton.mpr fun h => B.apart.1 (congrArg Prod.fst h)
    have hl : ∀ s : Finset (Fin 7 × Fin 33), Disjoint ∅ s := Finset.disjoint_empty_left
    have hr : ∀ s : Finset (Fin 7 × Fin 33), Disjoint s ∅ := Finset.disjoint_empty_right
    refine List.pairwise_cons.mpr ⟨?_, List.pairwise_cons.mpr ⟨fun _ _ => hl _, List.pairwise_cons.mpr ⟨?_, List.pairwise_cons.mpr
      ⟨fun _ _ => hl _, List.pairwise_cons.mpr ⟨?_, List.pairwise_singleton ..⟩⟩⟩⟩⟩
    · intro s hs
      simp only [List.mem_cons, List.not_mem_nil, or_false] at hs
      rcases hs with rfl | rfl | rfl | rfl | rfl
      exacts [hr _, hA, hr _, hC, hr _]
    · intro s hs
      simp only [List.mem_cons, List.not_mem_nil, or_false] at hs
      rcases hs with rfl | rfl | rfl
      exacts [hr _, hB, hr _]
    · intro s hs
      obtain rfl := List.mem_singleton.mp hs
      exact hr _

theorem armSegs_chain (b : Fin 2) (c : Dev nD) (hb : b = B.arm (W c)) :
    CSeg.ChainsAt c (State fun c => after B.rdOps (W c)) (armSegs ent B W he b) (State fun c => B.result (W c)) := by
  unfold armSegs
  split
  · rename_i h
    refine ⟨.rfl, Entails.of_eq ?_⟩
    show State (fun c => after B.arm0 (after B.rdOps (W c))) c = _
    dsimp only [State, Branch.result]
    rw [if_pos (hb.symm.trans h)]
  · rename_i h
    refine ⟨Entails.of_eq ?_, Entails.of_eq ?_, Entails.of_eq ?_, .rfl, Entails.of_eq ?_, Entails.of_eq ?_, Entails.of_eq ?_⟩
    · show _ = State (ent (B.first, 0)) c
      rw [he.first]
    · show State (fun c => after (leaves B.first) (ent (B.first, 0) c)) c = State (fun c => after (leaves B.first) (after B.rdOps (W c))) c
      rw [he.first]
    · rfl
    · show State (fun c => B.atLast (after B.rdOps (W c))) c = State (ent (B.last, 0)) c
      rw [he.last]
    · show State (fun c => after (leaves B.last) (ent (B.last, 0) c)) c = State (fun c => after (leaves B.last) (B.atLast (after B.rdOps (W c)))) c
      rw [he.last]
    · show State (fun c => B.slow (after B.rdOps (W c))) c = _
      dsimp only [State, Branch.result]
      rw [if_neg fun h' => h (hb.trans h')]

/-- A bound on every count of a segment. -/
abbrev bound : ℕ :=
  ((Pipeline.pin (pcfgs (F := F)) adm B.first).tripCount + 1) + ((Pipeline.pin (pcfgs (F := F)) adm B.last).tripCount + 1)
    + ((Pipeline.pin (pcfgs (F := F)) adm B.loop.p).tripCount + 1 + 33 + 1)

theorem armSegs_M (b : Fin 2) : ∀ s ∈ armSegs ent B W he b, s.M ≤ bound B := by
  intro s hs
  unfold armSegs at hs
  split at hs
  · obtain rfl := List.mem_singleton.mp hs
    exact Nat.zero_le _
  · rcases mem_six hs with rfl | rfl | rfl | rfl | rfl | rfl
    · exact Nat.le_add_right_of_le (Nat.le_add_right _ _)
    · exact Nat.zero_le _
    · exact Nat.le_add_left _ _
    · exact Nat.zero_le _
    · exact Nat.le_add_right_of_le (Nat.le_add_left _ _)
    · exact Nat.zero_le _

/-- The branch's record. -/
def branchCase : CaseSeg (pcfgs (F := F)) adm defs₀ 𝒱₀ L lv loops (tk ent) :=
  { on := fun _ => True
    N := 1
    rd := B.rd
    br := B.arms
    pre := State W
    mid := fun _ => State fun c => after B.rdOps (W c)
    post := State fun c => B.result (W c)
    live := fun b => ∀ c, b = B.arm (W c)
    hrd := fun c _ bd => by
      refine (B.reads W c bd).trans (wp_mono _ _ _ fun v => ?_)
      iintro ⟨%hv, H⟩
      isplitr
      · ipureintro; intro c'; rw [hv, Subsingleton.elim c' c]
      iexact H
    segs := armSegs ent B W he
    hch := fun c _ v hv => armSegs_chain ent B W he _ c (hv c)
    hbr := fun b _ => by
      fin_cases b
      · exact B.chain0
      · exact B.chain1
    B := bound B
    hM := fun b _ => armSegs_M ent B W he b
    T := Finset.univ.filter fun j => j.1 = B.first ∨ j.1 = B.last ∨ j.1 = B.loop.p
    hT := fun b _ s hs j hj => Finset.mem_filter.mpr ⟨Finset.mem_univ _, armSegs_T ent B W he b s hs j hj⟩
    hdisT := fun b _ => armSegs_disjoint ent B W he b }

/-- The branch as one segment: from `W` to `B.result`. -/
def branchSeg : Sg ent := CSeg.case _ _ _ _ _ _ _ _ (branchCase ent B W he)

end Cert.Balanced
-- ==== Proof.Halves.lean ====
/-
  The two maps' loops and branches of the program: the printed host operations in order, and that the printed
  program is their chain.
-/
module

public import proofs.«01_k».proof.Proof.Branches
public import Idealize.ShloMosaic.Lib.Pipeline.RegionsCase

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat Cfg Window BodyObligation cellOf CSeg LoopSeg CaseSeg Ticket)

variable {F : FTy → Type} [FloatOps F]

local notation "𝕄" => MT nD τ sig Unit (Elt F) ℕ UU ℕ

/-- Operations on the TensorCore's buffers, one list after another. -/
theorem plain_append {a b : List (HloOp τ sig (Elt F))} (ha : a.Forall fun op => op.bufs ⊆ StableHlo.tcRefs τ sig)
    (hb : b.Forall fun op => op.bufs ⊆ StableHlo.tcRefs τ sig) : (a ++ b).Forall fun op => op.bufs ⊆ StableHlo.tcRefs τ sig :=
  List.forall_append.mpr ⟨ha, hb⟩

/-- For `k ≤ 33` the condition's comparison reads `1` exactly while `k < 33`. -/
theorem below_iff (k : ℕ) (h : k ≤ 33) : IntOp.cmpi .slt (BitVec.ofNat 32 k) 33#32 = 1#1 ↔ k < 33 :=
  (by decide : ∀ k : Fin 34, IntOp.cmpi .slt (BitVec.ofNat 32 k.val) 33#32 = 1#1 ↔ k.val < 33) ⟨k, by omega⟩

/-! ## Map 0 -/

/-- The loop's condition: the counter is less than 33. -/
abbrev condOps0 : List (HloOp τ sig (Elt F)) :=
  [ StableHlo.nullary main_while0c_c_26 (constantI S_ 32 33#32),
    StableHlo.binary main_case0b1_v38_2 main_while0c_c_26 main_while0c_v52 (cmpi .slt : (⟨S_, .i32⟩ : BufTy).Contents (Elt F) → (⟨S_, .i32⟩ : BufTy).Contents (Elt F) → (⟨S_, .i1⟩ : BufTy).Contents (Elt F)) ]

/-- The condition's word. -/
def test0 (V : Valuation τ sig (Elt F)) : BitVec 1 :=
  IntOp.cmpi .slt ((StableHlo.nullary main_while0c_c_26 (constantI S_ 32 33#32) : HloOp τ sig (Elt F)).result V main_case0b1_v38_2 HostLoop.idx0)
    ((StableHlo.nullary main_while0c_c_26 (constantI S_ 32 33#32) : HloOp τ sig (Elt F)).result V main_while0c_c_26 HostLoop.idx0)

set_option backward.isDefEq.respectTransparency.types false in
theorem cond0_reads : Reads (main_while0_cond (F := F)) condOps0 test0 := by
  intro W c bd
  unfold main_while0_cond
  rw [wp_bind]
  iintro ⟨Hb, Hh, HR⟩
  iapply (StableHlo.wp_hlo_within (Variants.lift 𝒱₀) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift 𝒱₀) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro; rfl
  isplitl [Hb]; · iexact Hb
  isplitl [Hh]; · beta_reduce; rw [StableHlo.after_cons, StableHlo.after_cons, StableHlo.after_nil]; iexact Hh
  iexact HR

/-- The loop of map 0: bisection over keys. -/
def loop0 : Loop F where
  l := 0
  p := 2
  cond := main_while0_cond
  body := main_while0_body
  is_loop := rfl
  condOps := condOps0
  pre := while0Ops0 ++ (while0Ops0_1 ++ while0Ops0_2)
  post := while0Ops1 ++ (while0Ops1_1 ++ (while0Ops1_2 ++ while0Ops1_3))
  pre_plain := ⟨plain_append while0Ops0_sub (plain_append while0Ops0_1_sub while0Ops0_2_sub), by repeat' constructor⟩
  post_plain := ⟨plain_append while0Ops1_sub (plain_append while0Ops1_1_sub (plain_append while0Ops1_2_sub while0Ops1_3_sub)), by repeat' constructor⟩
  chain := while0_body_chain.trans (by chain_rfl)
  test := test0
  reads := cond0_reads
  zero V := V main_case0b1_v38_2 = fun _ => (0#32 : BitVec 32)

theorem pre0_ctr (V : Valuation τ sig (Elt F)) : after (loop0 (F := F)).pre V main_case0b1_v38_2 = V main_case0b1_v38_2 := by
  dsimp only [loop0]
  rw [StableHlo.after_append, StableHlo.after_append]
  after_results

theorem post0_ctr (V : Valuation τ sig (Elt F)) : after (loop0 (F := F)).post V main_case0b1_v38_2 = addi (V main_case0b1_v38_2) (constantI S_ 32 1#32) := by
  dsimp only [loop0]
  rw [StableHlo.after_append, StableHlo.after_append, StableHlo.after_append]
  after_results
  rfl

/-- Before the `k`-th run of the condition the counter is `k`. -/
theorem loop0_ctr (V : Valuation τ sig (Elt F)) (h : loop0.zero V) :
    ∀ k, loop0.before V k main_case0b1_v38_2 = fun _ => (BitVec.ofNat 32 k : BitVec 32)
  | 0 => h
  | k + 1 => by
    rw [Loop.before_succ]
    unfold Loop.trip
    rw [post0_ctr]
    change addi (after (leaves 2) (after loop0.pre (after loop0.condOps (loop0.before V k))) main_case0b1_v38_2) _ = _
    rw [leaves_ne 2 _ _ (by decide), pre0_ctr]
    rw [show after (loop0 (F := F)).condOps (loop0.before V k) main_case0b1_v38_2 = loop0.before V k main_case0b1_v38_2 from by dsimp only [loop0]; after_results, loop0_ctr V h k]
    funext i
    show BitVec.ofNat 32 k + 1#32 = BitVec.ofNat 32 (k + 1)
    rw [BitVec.ofNat_add]

theorem loop0_counts : (loop0 (F := F)).Counts := by
  intro V h k hk
  show test0 (loop0.before V k) = 1#1 ↔ k < 33
  unfold test0
  rw [StableHlo.nullary_result_ne _ _ _ _ (by decide), StableHlo.nullary_result, loop0_ctr V h k]
  exact below_iff k hk

/-- The read of the branch's word. -/
abbrev rdOps0 : List (HloOp τ sig (Elt F)) :=
  [ StableHlo.unary main_v16 main_v17 ((extui 32 · natLt_1_32) : (⟨S_, .i1⟩ : BufTy).Contents (Elt F) → (⟨S_, .i32⟩ : BufTy).Contents (Elt F)) ]

def rd0 : Pr F (BitVec 32) :=
  hlo rfl (StableHlo.unary main_v16 main_v17 ((extui 32 · natLt_1_32) : (⟨S_, .i1⟩ : BufTy).Contents (Elt F) → (⟨S_, .i32⟩ : BufTy).Contents (Elt F))) (HostLoop.elt main_v17)
/-- The branch's word. -/
def word0 (V : Valuation τ sig (Elt F)) : BitVec 32 :=
  (extui 32 (V main_v16 : (⟨S_, .i1⟩ : BufTy).Contents (Elt F)) natLt_1_32 : (⟨S_, .i32⟩ : BufTy).Contents (Elt F)) HostLoop.idx0

set_option backward.isDefEq.respectTransparency.types false in
theorem word0_reads : Reads (rd0 (F := F)) rdOps0 word0 := by
  intro W c bd
  unfold rd0
  iintro ⟨Hb, Hh, HR⟩
  iapply (StableHlo.wp_hlo_within (Variants.lift 𝒱₀) (c : Thread nD τ) bd Set.univ (Pipeline.sub_ucRefs _ (StableHlo.unary_bufs_sub ..))) $$ [Hb Hh]
  · isplitl [Hb]; · iexact Hb
    iexact Hh
  iintro ⟨Hb, Hh⟩
  rw [HostLoop.elt_apply, wp_ret]; imodintro
  isplitr
  · ipureintro; rfl
  isplitl [Hb]; · iexact Hb
  isplitl [Hh]; · beta_reduce; rw [StableHlo.after_cons, StableHlo.after_nil]; iexact Hh
  iexact HR

/-- Arm 0: the sum over all the negatives. -/
abbrev allOps0 : List (HloOp τ sig (Elt F)) := [ StableHlo.unary main_v12 main_v18 id ]
/-- Arm 1 between the losses and the loop. -/
abbrev initOps0 : List (HloOp τ sig (Elt F)) :=
  [ StableHlo.nullary main_case0b1_c (constantI S_ 32 0#32),
    StableHlo.nullary main_case0b1_c_13 (constantI S_ 32 2155872255#32),
    StableHlo.nullary main_case0b1_c_14 (constantI S_ 32 2139095040#32),
    StableHlo.nullary main_case0b1_c_15 (constantI S_ 32 0#32),
    StableHlo.unary main_case0b1_v37 main_case0b1_v38_0 id,
    StableHlo.unary main_v15 main_case0b1_v38_1 id,
    StableHlo.unary main_case0b1_c_15 main_case0b1_v38_2 id,
    StableHlo.unary main_case0b1_c main_case0b1_v38_3 id,
    StableHlo.unary main_case0b1_c_13 main_case0b1_v38_4 id,
    StableHlo.unary main_case0b1_c_14 main_case0b1_v38_5 id ]
/-- Arm 1 between the loop and the last call: the upper key decoded. -/
abbrev midOps0 : List (HloOp τ sig (Elt F)) :=
  [ StableHlo.nullary main_case0b1_c_16 (constantI S_ 32 0#32),
    StableHlo.binary main_case0b1_v38_5 main_case0b1_c_16 main_case0b1_v39 (cmpi .slt : (⟨S_, .i32⟩ : BufTy).Contents (Elt F) → (⟨S_, .i32⟩ : BufTy).Contents (Elt F) → (⟨S_, .i1⟩ : BufTy).Contents (Elt F)),
    StableHlo.nullary main_case0b1_c_17 (constantI S_ 32 2147483647#32),
    StableHlo.binary main_case0b1_v38_5 main_case0b1_c_17 main_case0b1_v40 (xori : (⟨S_, .i32⟩ : BufTy).Contents (Elt F) → (⟨S_, .i32⟩ : BufTy).Contents (Elt F) → (⟨S_, .i32⟩ : BufTy).Contents (Elt F)),
    StableHlo.TRef.ternary (.of main_case0b1_v39 : StableHlo.TRef sig ⟨S_, .i1⟩) (.of main_case0b1_v40 : StableHlo.TRef sig ⟨S_, .i32⟩) (.of main_case0b1_v38_5 : StableHlo.TRef sig ⟨S_, .i32⟩) (.of main_case0b1_v41 : StableHlo.TRef sig ⟨S_, .i32⟩) select,
    StableHlo.unary main_case0b1_v41 main_case0b1_v42 (bitcastToFloat .f32 : (⟨S_, .i32⟩ : BufTy).Contents (Elt F) → (⟨S_, .f32⟩ : BufTy).Contents (Elt F)),
    StableHlo.reshape main_case0b1_v42 main_case0b1_v43 (rfl : (.f32 : EltTy) = .f32) shapeCasts_S_S1x1 ]
/-- Arm 1 after the last call: the sum above the key and the ties' share. -/
abbrev finOps0 : List (HloOp τ sig (Elt F)) :=
  [ StableHlo.nullary main_case0b1_cst_18 (constant S_ .f32 0x00000000#32),
    StableHlo.binary main_case0b1_v44_0 main_case0b1_cst_18 main_case0b1_v45 ((fun x v => Host.reduceAdd x v reducesTo_S1x512_S_d0_1 h_S_) : (⟨S1x512, .f32⟩ : BufTy).Contents (Elt F) → (⟨S_, .f32⟩ : BufTy).Contents (Elt F) → (⟨S_, .f32⟩ : BufTy).Contents (Elt F)),
    StableHlo.nullary main_case0b1_cst_19 (constant S_ .f32 0x00000000#32),
    StableHlo.binary main_case0b1_v44_1 main_case0b1_cst_19 main_case0b1_v46 ((fun x v => Host.reduceAdd x v reducesTo_S1x512_S_d0_1 h_S_) : (⟨S1x512, .f32⟩ : BufTy).Contents (Elt F) → (⟨S_, .f32⟩ : BufTy).Contents (Elt F) → (⟨S_, .f32⟩ : BufTy).Contents (Elt F)),
    StableHlo.binary main_v15 main_case0b1_v45 main_case0b1_v47 (cmpf .ogt : (⟨S_, .f32⟩ : BufTy).Contents (Elt F) → (⟨S_, .f32⟩ : BufTy).Contents (Elt F) → (⟨S_, .i1⟩ : BufTy).Contents (Elt F)),
    StableHlo.binary main_v15 main_case0b1_v45 main_case0b1_v48 (subf : (⟨S_, .f32⟩ : BufTy).Contents (Elt F) → (⟨S_, .f32⟩ : BufTy).Contents (Elt F) → (⟨S_, .f32⟩ : BufTy).Contents (Elt F)),
    StableHlo.binary main_case0b1_v48 main_case0b1_v42 main_case0b1_v49 (mulf : (⟨S_, .f32⟩ : BufTy).Contents (Elt F) → (⟨S_, .f32⟩ : BufTy).Contents (Elt F) → (⟨S_, .f32⟩ : BufTy).Contents (Elt F)),
    StableHlo.nullary main_case0b1_cst_20 (constant S_ .f32 0x00000000#32),
    StableHlo.TRef.unary (.of main_case0b1_cst_20 : StableHlo.TRef sig ⟨S_, .f32⟩) (.of main_case0b1_call4_v0 : StableHlo.TRef sig ⟨S_, .f32⟩) id,
    StableHlo.TRef.ternary (.of main_case0b1_v47 : StableHlo.TRef sig ⟨S_, .i1⟩) (.of main_case0b1_v49 : StableHlo.TRef sig ⟨S_, .f32⟩) (.of main_case0b1_call4_v0 : StableHlo.TRef sig ⟨S_, .f32⟩) (.of main_case0b1_v50 : StableHlo.TRef sig ⟨S_, .f32⟩) select,
    StableHlo.binary main_case0b1_v46 main_case0b1_v50 main_case0b1_v51 (addf : (⟨S_, .f32⟩ : BufTy).Contents (Elt F) → (⟨S_, .f32⟩ : BufTy).Contents (Elt F) → (⟨S_, .f32⟩ : BufTy).Contents (Elt F)),
    StableHlo.unary main_case0b1_v51 main_v18 id ]

/-- The arms as the program has them. -/
abbrev arms0 : Fin 2 → Pr F PUnit
  | 0 => Pipeline.chain [StableHlo.seq allOps0]
  | 1 => Pipeline.chain [Prog.lift (.customCall (HostLoop.inner (Pipeline.entry 1)) ()), StableHlo.seq initOps0, HostLoop.enter 0,
      StableHlo.seq midOps0, Prog.lift (.customCall (HostLoop.inner (Pipeline.entry 3)) ()), StableHlo.seq finOps0]

/-- The branch of map 0. -/
def branch0 : Branch F where
  rd := rd0
  arms := arms0
  rdOps := rdOps0
  word := word0
  reads := word0_reads
  loop := loop0
  first := 1
  last := 3
  apart := ⟨by decide, (by decide : (1 : Fin 7) ≠ 2), (by decide : (3 : Fin 7) ≠ 2)⟩
  arm0 := allOps0
  init := initOps0
  mid := midOps0
  fin := finOps0
  arm0_plain := ⟨StableHlo.unary_bufs_sub .., by repeat' constructor⟩
  init_plain := ⟨⟨StableHlo.nullary_bufs_sub .., StableHlo.nullary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩, by repeat' constructor⟩
  mid_plain := ⟨⟨StableHlo.nullary_bufs_sub .., StableHlo.binary_bufs_sub .., StableHlo.nullary_bufs_sub .., StableHlo.binary_bufs_sub .., StableHlo.ternary_bufs_sub .., StableHlo.unary_bufs_sub .., StableHlo.reshape_bufs_sub ..⟩, by repeat' constructor⟩
  fin_plain := ⟨⟨StableHlo.nullary_bufs_sub .., StableHlo.binary_bufs_sub .., StableHlo.nullary_bufs_sub .., StableHlo.binary_bufs_sub .., StableHlo.binary_bufs_sub .., StableHlo.binary_bufs_sub .., StableHlo.binary_bufs_sub .., StableHlo.nullary_bufs_sub .., StableHlo.unary_bufs_sub .., StableHlo.ternary_bufs_sub .., StableHlo.binary_bufs_sub .., StableHlo.unary_bufs_sub ..⟩, by repeat' constructor⟩
  chain0 := rfl
  chain1 := rfl
  counts := loop0_counts
  zero V := by
    show after initOps0 (after (leaves 1) V) main_case0b1_v38_2 = _
    generalize after (leaves (F := F) 1) V = X
    after_results
    rfl

/-! ## Map 1 -/

/-- The loop's condition: the counter is less than 33. -/
abbrev condOps1 : List (HloOp τ sig (Elt F)) :=
  [ StableHlo.nullary main_while1c_c_26 (constantI S_ 32 33#32),
    StableHlo.binary main_case1b1_v38_2 main_while1c_c_26 main_while1c_v52 (cmpi .slt : (⟨S_, .i32⟩ : BufTy).Contents (Elt F) → (⟨S_, .i32⟩ : BufTy).Contents (Elt F) → (⟨S_, .i1⟩ : BufTy).Contents (Elt F)) ]

/-- The condition's word. -/
def test1 (V : Valuation τ sig (Elt F)) : BitVec 1 :=
  IntOp.cmpi .slt ((StableHlo.nullary main_while1c_c_26 (constantI S_ 32 33#32) : HloOp τ sig (Elt F)).result V main_case1b1_v38_2 HostLoop.idx0)
    ((StableHlo.nullary main_while1c_c_26 (constantI S_ 32 33#32) : HloOp τ sig (Elt F)).result V main_while1c_c_26 HostLoop.idx0)

set_option backward.isDefEq.respectTransparency.types false in
theorem cond1_reads : Reads (main_while1_cond (F := F)) condOps1 test1 := by
  intro W c bd
  unfold main_while1_cond
  rw [wp_bind]
  iintro ⟨Hb, Hh, HR⟩
  iapply (StableHlo.wp_hlo_within (Variants.lift 𝒱₀) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift 𝒱₀) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro; rfl
  isplitl [Hb]; · iexact Hb
  isplitl [Hh]; · beta_reduce; rw [StableHlo.after_cons, StableHlo.after_cons, StableHlo.after_nil]; iexact Hh
  iexact HR

/-- The loop of map 1: bisection over keys. -/
def loop1 : Loop F where
  l := 1
  p := 5
  cond := main_while1_cond
  body := main_while1_body
  is_loop := rfl
  condOps := condOps1
  pre := while1Ops0 ++ (while1Ops0_1 ++ while1Ops0_2)
  post := while1Ops1 ++ (while1Ops1_1 ++ (while1Ops1_2 ++ while1Ops1_3))
  pre_plain := ⟨plain_append while1Ops0_sub (plain_append while1Ops0_1_sub while1Ops0_2_sub), by repeat' constructor⟩
  post_plain := ⟨plain_append while1Ops1_sub (plain_append while1Ops1_1_sub (plain_append while1Ops1_2_sub while1Ops1_3_sub)), by repeat' constructor⟩
  chain := while1_body_chain.trans (by chain_rfl)
  test := test1
  reads := cond1_reads
  zero V := V main_case1b1_v38_2 = fun _ => (0#32 : BitVec 32)

theorem pre1_ctr (V : Valuation τ sig (Elt F)) : after (loop1 (F := F)).pre V main_case1b1_v38_2 = V main_case1b1_v38_2 := by
  dsimp only [loop1]
  rw [StableHlo.after_append, StableHlo.after_append]
  after_results

theorem post1_ctr (V : Valuation τ sig (Elt F)) : after (loop1 (F := F)).post V main_case1b1_v38_2 = addi (V main_case1b1_v38_2) (constantI S_ 32 1#32) := by
  dsimp only [loop1]
  rw [StableHlo.after_append, StableHlo.after_append, StableHlo.after_append]
  after_results
  rfl

/-- Before the `k`-th run of the condition the counter is `k`. -/
theorem loop1_ctr (V : Valuation τ sig (Elt F)) (h : loop1.zero V) :
    ∀ k, loop1.before V k main_case1b1_v38_2 = fun _ => (BitVec.ofNat 32 k : BitVec 32)
  | 0 => h
  | k + 1 => by
    rw [Loop.before_succ]
    unfold Loop.trip
    rw [post1_ctr]
    change addi (after (leaves 5) (after loop1.pre (after loop1.condOps (loop1.before V k))) main_case1b1_v38_2) _ = _
    rw [leaves_ne 5 _ _ (by decide), pre1_ctr]
    rw [show after (loop1 (F := F)).condOps (loop1.before V k) main_case1b1_v38_2 = loop1.before V k main_case1b1_v38_2 from by dsimp only [loop1]; after_results, loop1_ctr V h k]
    funext i
    show BitVec.ofNat 32 k + 1#32 = BitVec.ofNat 32 (k + 1)
    rw [BitVec.ofNat_add]

theorem loop1_counts : (loop1 (F := F)).Counts := by
  intro V h k hk
  show test1 (loop1.before V k) = 1#1 ↔ k < 33
  unfold test1
  rw [StableHlo.nullary_result_ne _ _ _ _ (by decide), StableHlo.nullary_result, loop1_ctr V h k]
  exact below_iff k hk

/-- The read of the branch's word. -/
abbrev rdOps1 : List (HloOp τ sig (Elt F)) :=
  [ StableHlo.unary main_v26 main_v27 ((extui 32 · natLt_1_32) : (⟨S_, .i1⟩ : BufTy).Contents (Elt F) → (⟨S_, .i32⟩ : BufTy).Contents (Elt F)) ]

def rd1 : Pr F (BitVec 32) :=
  hlo rfl (StableHlo.unary main_v26 main_v27 ((extui 32 · natLt_1_32) : (⟨S_, .i1⟩ : BufTy).Contents (Elt F) → (⟨S_, .i32⟩ : BufTy).Contents (Elt F))) (HostLoop.elt main_v27)
/-- The branch's word. -/
def word1 (V : Valuation τ sig (Elt F)) : BitVec 32 :=
  (extui 32 (V main_v26 : (⟨S_, .i1⟩ : BufTy).Contents (Elt F)) natLt_1_32 : (⟨S_, .i32⟩ : BufTy).Contents (Elt F)) HostLoop.idx0

set_option backward.isDefEq.respectTransparency.types false in
theorem word1_reads : Reads (rd1 (F := F)) rdOps1 word1 := by
  intro W c bd
  unfold rd1
  iintro ⟨Hb, Hh, HR⟩
  iapply (StableHlo.wp_hlo_within (Variants.lift 𝒱₀) (c : Thread nD τ) bd Set.univ (Pipeline.sub_ucRefs _ (StableHlo.unary_bufs_sub ..))) $$ [Hb Hh]
  · isplitl [Hb]; · iexact Hb
    iexact Hh
  iintro ⟨Hb, Hh⟩
  rw [HostLoop.elt_apply, wp_ret]; imodintro
  isplitr
  · ipureintro; rfl
  isplitl [Hb]; · iexact Hb
  isplitl [Hh]; · beta_reduce; rw [StableHlo.after_cons, StableHlo.after_nil]; iexact Hh
  iexact HR

/-- Arm 0: the sum over all the negatives. -/
abbrev allOps1 : List (HloOp τ sig (Elt F)) := [ StableHlo.unary main_v22 main_v28 id ]
/-- Arm 1 between the losses and the loop. -/
abbrev initOps1 : List (HloOp τ sig (Elt F)) :=
  [ StableHlo.nullary main_case1b1_c (constantI S_ 32 0#32),
    StableHlo.nullary main_case1b1_c_13 (constantI S_ 32 2155872255#32),
    StableHlo.nullary main_case1b1_c_14 (constantI S_ 32 2139095040#32),
    StableHlo.nullary main_case1b1_c_15 (constantI S_ 32 0#32),
    StableHlo.unary main_case1b1_v37 main_case1b1_v38_0 id,
    StableHlo.unary main_v25 main_case1b1_v38_1 id,
    StableHlo.unary main_case1b1_c_15 main_case1b1_v38_2 id,
    StableHlo.unary main_case1b1_c main_case1b1_v38_3 id,
    StableHlo.unary main_case1b1_c_13 main_case1b1_v38_4 id,
    StableHlo.unary main_case1b1_c_14 main_case1b1_v38_5 id ]
/-- Arm 1 between the loop and the last call: the upper key decoded. -/
abbrev midOps1 : List (HloOp τ sig (Elt F)) :=
  [ StableHlo.nullary main_case1b1_c_16 (constantI S_ 32 0#32),
    StableHlo.binary main_case1b1_v38_5 main_case1b1_c_16 main_case1b1_v39 (cmpi .slt : (⟨S_, .i32⟩ : BufTy).Contents (Elt F) → (⟨S_, .i32⟩ : BufTy).Contents (Elt F) → (⟨S_, .i1⟩ : BufTy).Contents (Elt F)),
    StableHlo.nullary main_case1b1_c_17 (constantI S_ 32 2147483647#32),
    StableHlo.binary main_case1b1_v38_5 main_case1b1_c_17 main_case1b1_v40 (xori : (⟨S_, .i32⟩ : BufTy).Contents (Elt F) → (⟨S_, .i32⟩ : BufTy).Contents (Elt F) → (⟨S_, .i32⟩ : BufTy).Contents (Elt F)),
    StableHlo.TRef.ternary (.of main_case1b1_v39 : StableHlo.TRef sig ⟨S_, .i1⟩) (.of main_case1b1_v40 : StableHlo.TRef sig ⟨S_, .i32⟩) (.of main_case1b1_v38_5 : StableHlo.TRef sig ⟨S_, .i32⟩) (.of main_case1b1_v41 : StableHlo.TRef sig ⟨S_, .i32⟩) select,
    StableHlo.unary main_case1b1_v41 main_case1b1_v42 (bitcastToFloat .f32 : (⟨S_, .i32⟩ : BufTy).Contents (Elt F) → (⟨S_, .f32⟩ : BufTy).Contents (Elt F)),
    StableHlo.reshape main_case1b1_v42 main_case1b1_v43 (rfl : (.f32 : EltTy) = .f32) shapeCasts_S_S1x1 ]
/-- Arm 1 after the last call: the sum above the key and the ties' share. -/
abbrev finOps1 : List (HloOp τ sig (Elt F)) :=
  [ StableHlo.nullary main_case1b1_cst_18 (constant S_ .f32 0x00000000#32),
    StableHlo.binary main_case1b1_v44_0 main_case1b1_cst_18 main_case1b1_v45 ((fun x v => Host.reduceAdd x v reducesTo_S1x512_S_d0_1 h_S_) : (⟨S1x512, .f32⟩ : BufTy).Contents (Elt F) → (⟨S_, .f32⟩ : BufTy).Contents (Elt F) → (⟨S_, .f32⟩ : BufTy).Contents (Elt F)),
    StableHlo.nullary main_case1b1_cst_19 (constant S_ .f32 0x00000000#32),
    StableHlo.binary main_case1b1_v44_1 main_case1b1_cst_19 main_case1b1_v46 ((fun x v => Host.reduceAdd x v reducesTo_S1x512_S_d0_1 h_S_) : (⟨S1x512, .f32⟩ : BufTy).Contents (Elt F) → (⟨S_, .f32⟩ : BufTy).Contents (Elt F) → (⟨S_, .f32⟩ : BufTy).Contents (Elt F)),
    StableHlo.binary main_v25 main_case1b1_v45 main_case1b1_v47 (cmpf .ogt : (⟨S_, .f32⟩ : BufTy).Contents (Elt F) → (⟨S_, .f32⟩ : BufTy).Contents (Elt F) → (⟨S_, .i1⟩ : BufTy).Contents (Elt F)),
    StableHlo.binary main_v25 main_case1b1_v45 main_case1b1_v48 (subf : (⟨S_, .f32⟩ : BufTy).Contents (Elt F) → (⟨S_, .f32⟩ : BufTy).Contents (Elt F) → (⟨S_, .f32⟩ : BufTy).Contents (Elt F)),
    StableHlo.binary main_case1b1_v48 main_case1b1_v42 main_case1b1_v49 (mulf : (⟨S_, .f32⟩ : BufTy).Contents (Elt F) → (⟨S_, .f32⟩ : BufTy).Contents (Elt F) → (⟨S_, .f32⟩ : BufTy).Contents (Elt F)),
    StableHlo.nullary main_case1b1_cst_20 (constant S_ .f32 0x00000000#32),
    StableHlo.TRef.unary (.of main_case1b1_cst_20 : StableHlo.TRef sig ⟨S_, .f32⟩) (.of main_case1b1_call9_v0 : StableHlo.TRef sig ⟨S_, .f32⟩) id,
    StableHlo.TRef.ternary (.of main_case1b1_v47 : StableHlo.TRef sig ⟨S_, .i1⟩) (.of main_case1b1_v49 : StableHlo.TRef sig ⟨S_, .f32⟩) (.of main_case1b1_call9_v0 : StableHlo.TRef sig ⟨S_, .f32⟩) (.of main_case1b1_v50 : StableHlo.TRef sig ⟨S_, .f32⟩) select,
    StableHlo.binary main_case1b1_v46 main_case1b1_v50 main_case1b1_v51 (addf : (⟨S_, .f32⟩ : BufTy).Contents (Elt F) → (⟨S_, .f32⟩ : BufTy).Contents (Elt F) → (⟨S_, .f32⟩ : BufTy).Contents (Elt F)),
    StableHlo.unary main_case1b1_v51 main_v28 id ]

/-- The arms as the program has them. -/
abbrev arms1 : Fin 2 → Pr F PUnit
  | 0 => Pipeline.chain [StableHlo.seq allOps1]
  | 1 => Pipeline.chain [Prog.lift (.customCall (HostLoop.inner (Pipeline.entry 4)) ()), StableHlo.seq initOps1, HostLoop.enter 1,
      StableHlo.seq midOps1, Prog.lift (.customCall (HostLoop.inner (Pipeline.entry 6)) ()), StableHlo.seq finOps1]

/-- The branch of map 1. -/
def branch1 : Branch F where
  rd := rd1
  arms := arms1
  rdOps := rdOps1
  word := word1
  reads := word1_reads
  loop := loop1
  first := 4
  last := 6
  apart := ⟨by decide, (by decide : (4 : Fin 7) ≠ 5), (by decide : (6 : Fin 7) ≠ 5)⟩
  arm0 := allOps1
  init := initOps1
  mid := midOps1
  fin := finOps1
  arm0_plain := ⟨StableHlo.unary_bufs_sub .., by repeat' constructor⟩
  init_plain := ⟨⟨StableHlo.nullary_bufs_sub .., StableHlo.nullary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩, by repeat' constructor⟩
  mid_plain := ⟨⟨StableHlo.nullary_bufs_sub .., StableHlo.binary_bufs_sub .., StableHlo.nullary_bufs_sub .., StableHlo.binary_bufs_sub .., StableHlo.ternary_bufs_sub .., StableHlo.unary_bufs_sub .., StableHlo.reshape_bufs_sub ..⟩, by repeat' constructor⟩
  fin_plain := ⟨⟨StableHlo.nullary_bufs_sub .., StableHlo.binary_bufs_sub .., StableHlo.nullary_bufs_sub .., StableHlo.binary_bufs_sub .., StableHlo.binary_bufs_sub .., StableHlo.binary_bufs_sub .., StableHlo.binary_bufs_sub .., StableHlo.nullary_bufs_sub .., StableHlo.unary_bufs_sub .., StableHlo.ternary_bufs_sub .., StableHlo.binary_bufs_sub .., StableHlo.unary_bufs_sub ..⟩, by repeat' constructor⟩
  chain0 := rfl
  chain1 := rfl
  counts := loop1_counts
  zero V := by
    show after initOps1 (after (leaves 4) V) main_case1b1_v38_2 = _
    generalize after (leaves (F := F) 4) V = X
    after_results
    rfl

end Cert.Balanced
-- ==== Proof.Run.lean ====
/-
  The whole program as one list of segments, and its run: from any memory with the counters at zero it ends with
  every unscoped buffer at `last`, the counters at zero.
-/
module

public import proofs.«01_k».proof.Proof.Halves
public import Idealize.ShloMosaic.Lib.Quiescent
public import Idealize.ShloMosaic.Lib.Pipeline.RegionsCase

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat Cfg Window BodyObligation cellOf CSeg LoopSeg CaseSeg Ticket)

variable {F : FTy → Type} [FloatOps F]

local notation "𝕄" => MT nD τ sig Unit (Elt F) ℕ UU ℕ

variable (V : Dev nD → Valuation τ sig (Elt F))

/-! ## The contents, part by part -/

/-- After the reshapes, -/
abbrev at1 (c : Dev nD) : Valuation τ sig (Elt F) := after hostOps0 (V c)
/-- after the statistics, -/
abbrev at2 (c : Dev nD) : Valuation τ sig (Elt F) := after (leaves 0) (at1 V c)
/-- at the first branch, -/
abbrev at3 (c : Dev nD) : Valuation τ sig (Elt F) := after hostOps1 (at2 V c)
/-- after it, -/
abbrev at4 (c : Dev nD) : Valuation τ sig (Elt F) := branch0.result (at3 V c)
/-- at the second branch, -/
abbrev at5 (c : Dev nD) : Valuation τ sig (Elt F) := after hostOps1_1 (at4 V c)
/-- after it, -/
abbrev at6 (c : Dev nD) : Valuation τ sig (Elt F) := branch1.result (at5 V c)
/-- and at the end. -/
abbrev last (c : Dev nD) : Valuation τ sig (Elt F) := after hostOps1_2 (at6 V c)

/-- What each call is entered with. -/
def ent : Entries F
  | (0, _) => at1 V
  | (1, _) => fun c => after branch0.rdOps (at3 V c)
  | (2, k) => fun c => loop0.enter (loop0.before (branch0.atLoop (after branch0.rdOps (at3 V c))) k)
  | (3, _) => fun c => branch0.atLast (after branch0.rdOps (at3 V c))
  | (4, _) => fun c => after branch1.rdOps (at5 V c)
  | (5, k) => fun c => loop1.enter (loop1.before (branch1.atLoop (after branch1.rdOps (at5 V c))) k)
  | (6, _) => fun c => branch1.atLast (after branch1.rdOps (at5 V c))

theorem enters0 : Enters (ent V) branch0 (at3 V) := ⟨rfl, rfl, fun _ => rfl⟩
theorem enters1 : Enters (ent V) branch1 (at5 V) := ⟨rfl, rfl, fun _ => rfl⟩

/-- The program. -/
def segs : List (Sg (ent V)) :=
  [ opsSeg (ent V) V hostOps0 hostOps0_sub (by repeat' constructor),
    callSeg (ent V) (0, 0),
    opsSeg (ent V) (at2 V) hostOps1 hostOps1_sub (by repeat' constructor),
    branchSeg (ent V) branch0 (at3 V) (enters0 V),
    opsSeg (ent V) (at4 V) hostOps1_1 hostOps1_1_sub (by repeat' constructor),
    branchSeg (ent V) branch1 (at5 V) (enters1 V),
    opsSeg (ent V) (at6 V) hostOps1_2 hostOps1_2_sub (by repeat' constructor) ]

theorem main_run (c : Dev nD) : main (F := F) c = CSeg.runL (segs V) := (main_chain c).trans (by chain_rfl)

theorem mem_seven {α : Type _} {a b c d e f g x : α} (h : x ∈ [a, b, c, d, e, f, g]) :
    x = a ∨ x = b ∨ x = c ∨ x = d ∨ x = e ∨ x = f ∨ x = g := by
  simpa using h

theorem segs_disjoint : (segs V).Pairwise fun s s' => Disjoint s.T s'.T := by
  have hl : ∀ s : Finset (Fin 7 × Fin 33), Disjoint ∅ s := Finset.disjoint_empty_left
  have hr : ∀ s : Finset (Fin 7 × Fin 33), Disjoint s ∅ := Finset.disjoint_empty_right
  have h0 : ∀ j ∈ (branchSeg (ent V) branch0 (at3 V) (enters0 V)).T, j.1 = 1 ∨ j.1 = 3 ∨ j.1 = 2 := fun j h => (Finset.mem_filter.mp h).2
  have h1 : ∀ j ∈ (branchSeg (ent V) branch1 (at5 V) (enters1 V)).T, j.1 = 4 ∨ j.1 = 6 ∨ j.1 = 5 := fun j h => (Finset.mem_filter.mp h).2
  have hA : Disjoint (callSeg (ent V) (0, 0)).T (branchSeg (ent V) branch0 (at3 V) (enters0 V)).T :=
    Finset.disjoint_singleton_left.mpr fun h => by have := h0 _ h; simp at this
  have hB : Disjoint (callSeg (ent V) (0, 0)).T (branchSeg (ent V) branch1 (at5 V) (enters1 V)).T :=
    Finset.disjoint_singleton_left.mpr fun h => by have := h1 _ h; simp at this
  have hC : Disjoint (branchSeg (ent V) branch0 (at3 V) (enters0 V)).T (branchSeg (ent V) branch1 (at5 V) (enters1 V)).T :=
    Finset.disjoint_left.mpr fun j h h' => by
      rcases h0 j h with e | e | e <;> rcases h1 j h' with e' | e' | e' <;> rw [e] at e' <;> exact absurd e' (by decide)
  unfold segs
  refine List.pairwise_cons.mpr ⟨fun _ _ => hl _, List.pairwise_cons.mpr ⟨?_, List.pairwise_cons.mpr ⟨fun _ _ => hl _,
    List.pairwise_cons.mpr ⟨?_, List.pairwise_cons.mpr ⟨fun _ _ => hl _, List.pairwise_cons.mpr ⟨?_, List.pairwise_singleton ..⟩⟩⟩⟩⟩⟩
  · intro s hs
    simp only [List.mem_cons, List.not_mem_nil, or_false] at hs
    rcases hs with rfl | rfl | rfl | rfl | rfl
    exacts [hr _, hA, hr _, hB, hr _]
  · intro s hs
    simp only [List.mem_cons, List.not_mem_nil, or_false] at hs
    rcases hs with rfl | rfl | rfl
    exacts [hr _, hC, hr _]
  · intro s hs
    obtain rfl := List.mem_singleton.mp hs
    exact hr _

/-! ## The run -/

/-- The pipeline cells, one per call and direction, are distinct. -/
theorem cells_inj : Function.Injective (Pipeline.cellOf (nD := nD) (τ := τ) (Pipeline.pin (pcfgs (F := F)) adm)) := cellOf_inj

variable (m : (ℓ : Loc nD τ sig) → Buf (Elt F) ℓ) (g : Dev nD → PrngReg)

/-- The launch contents. -/
abbrev launched (c : Dev nD) : Valuation τ sig (Elt F) := fun b => m (c, b)

/-- The library's copies of its own algebra at launch. -/
abbrev tokens : IProdConst (Fin 7 × Fin 33) (UR sig nD τ) := fun _ =>
  Rounds.initOf (Pipeline.cells (Pipeline.pin (pcfgs (F := F)) adm) cells_inj) (Pipeline.launchToks (Pipeline.pin (pcfgs (F := F)) adm) cells_inj)

-- the kit's implicit arguments are found by unifying its conclusion with this one, which takes unfolding plain definitions
set_option backward.isDefEq.respectTransparency.types false in
/-- The run of the whole program. -/
theorem run_main : θ_run defs (onTc (τ := τ) (main (F := F))) ⟨m, fun _ => 0, g⟩
    (fun r => (∀ (c : Dev nD), ∀ b ∈ Pipeline.ucRefs τ sig, r.2.mem (((c : Thread nD τ)).1, b) = last (launched m) c b) ∧ r.2.sem = fun _ => 0) :=
  Pipeline.θ_run_regions_loop_kit_sems (pcfgs (F := F)) adm cells_inj defs₀ 𝒱₀ L lv loops (tk (ent (launched m))) m g main (segs (launched m))
    (fun c Q => by rw [main_run (launched m) c]) (segs_disjoint (launched m))
    (O₀ := 0) (hL := fun _ _ => rfl) (G := fun _ => iprop(emp))
    (u₀ := (tokens (F := F), 1))
    (hu₀ := by
      iintro Hu
      ihave H := (ownU_pair _ _) $$ Hu
      icases H with ⟨HT, -⟩
      imodintro
      isplitl [HT]
      · iapply (own_iprod (tokens (F := F))); iexact HT
      rw [show (bigSep Finset.univ fun _ : Dev nD => iprop(emp)) = (iprop(emp) : sProp 𝕄) from bigSep_emp_const _]; iempintro)
    (T₀ := State (launched m)) (Tₙ := fun c => held (c : Thread nD τ) (Pipeline.ucRefs τ sig) (last (launched m) c))
    (hch := ⟨fun _ => .rfl, fun _ => .rfl, fun _ => .rfl,
      fun c => CSeg.case_pre (pcfgs (F := F)) adm defs₀ 𝒱₀ L lv loops (tk (ent (launched m))) (branchCase (ent (launched m)) branch0 (at3 (launched m)) (enters0 (launched m))) (c := c) trivial, fun _ => .rfl,
      fun c => CSeg.case_pre (pcfgs (F := F)) adm defs₀ 𝒱₀ L lv loops (tk (ent (launched m))) (branchCase (ent (launched m)) branch1 (at5 (launched m)) (enters1 (launched m))) (c := c) trivial, fun _ => .rfl,
      fun c => show State (last (launched m)) c ⊢ State (last (launched m)) c from .rfl⟩)
    (hinit := Pipeline.initEach L lv fun c => by
      rw [show unscopedBufs c (fun b => m ((c : Thread nD τ).loc b)) = held (c : Thread nD τ) (Pipeline.ucRefs τ sig) (launched m c) from Pipeline.unscopedBufs_held c (launched m c)]
      iintro ⟨⟨Hh, -, HO, -⟩, -⟩
      imodintro
      isplitl [Hh]; · iexact Hh
      iexists ∅; iexact HO)
    (QY := fun c s => ∀ b ∈ Pipeline.ucRefs τ sig, s.mem (((c : Thread nD τ)).1, b) = last (launched m) c b)
    (hfin := fun c s' => by
      unfold StableHlo.held
      iintro ⟨Hh, HSI⟩
      ihave Hp := (pointsTo_read_all (Pipeline.ucRefs τ sig) (fun b => (((c : Thread nD τ)).1, b)) (last (launched m) c) s') $$ [Hh HSI]
      · isplitl [Hh] <;> iassumption
      icases Hp with ⟨%hb, HSI⟩
      imodintro
      isplitr; · ipureintro; exact hb
      iexact HSI)
    (hQ := fun s h hs => ⟨h, sem_eq_zero_of_scoped (by decide) hs⟩)

end Cert.Balanced
-- ==== Proof.Frames.lean ====
/-
  What the parts of the program leave as it was; the program's arguments above all.
-/
module

public import proofs.«01_k».proof.Proof.Run
public import Idealize.ShloMosaic.Lib.Pipeline.RegionsCase

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat Cfg Window BodyObligation cellOf CSeg LoopSeg CaseSeg Ticket)

variable {F : FTy → Type} [FloatOps F]

local notation "𝕄" => MT nD τ sig Unit (Elt F) ℕ UU ℕ

/-- Operations writing these references keep every other one. -/
theorem keep_of {ops : List (HloOp τ sig (Elt F))} (W : List (Ref sig .tc)) (hW : ops.map HloOp.writes = W.map fun r => {Proc.devRef (τ := τ) .tc r})
    {r : Ref sig .tc} (h : r ∉ W) (V : Valuation τ sig (Elt F)) : after ops V (Proc.devRef .tc r) = V (Proc.devRef .tc r) :=
  StableHlo.after_of_writes_sub _ _ (StableHlo.forall_writes_sub_of_map hW) h

abbrev hostOps0_names : List (Ref sig .tc) := [main_v0, main_v1, main_v2, main_v3]
theorem hostOps0_keep {r : Ref sig .tc} (h : r ∉ hostOps0_names) (V : Valuation τ sig (Elt F)) :
    after hostOps0 V (Proc.devRef .tc r) = V (Proc.devRef .tc r) := keep_of _ rfl h V
abbrev hostOps1_names : List (Ref sig .tc) := [main_cst, main_v5, main_cst_0, main_v6, main_cst_1, main_v7, main_cst_2, main_v8, main_cst_3, main_v9, main_cst_4, main_v10, main_cst_5, main_v11, main_v12, main_cst_6, main_v13, main_cst_7, main_v14, main_v15, main_v16]
theorem hostOps1_keep {r : Ref sig .tc} (h : r ∉ hostOps1_names) (V : Valuation τ sig (Elt F)) :
    after hostOps1 V (Proc.devRef .tc r) = V (Proc.devRef .tc r) := keep_of _ rfl h V
abbrev hostOps1_1_names : List (Ref sig .tc) := [main_v19, main_v20, main_v21, main_v22, main_cst_8, main_v23, main_cst_9, main_v24, main_v25, main_v26]
theorem hostOps1_1_keep {r : Ref sig .tc} (h : r ∉ hostOps1_1_names) (V : Valuation τ sig (Elt F)) :
    after hostOps1_1 V (Proc.devRef .tc r) = V (Proc.devRef .tc r) := keep_of _ rfl h V
abbrev hostOps1_2_names : List (Ref sig .tc) := [main_v29, main_v30, main_v31, main_cst_10, main_v32, main_cst_11, main_v33, main_v34, main_cst_12, main_v35, main_v36]
theorem hostOps1_2_keep {r : Ref sig .tc} (h : r ∉ hostOps1_2_names) (V : Valuation τ sig (Elt F)) :
    after hostOps1_2 V (Proc.devRef .tc r) = V (Proc.devRef .tc r) := keep_of _ rfl h V

/-! ## Map 0 -/

/-- What a trip writes. -/
abbrev trip0_names : List (Ref sig .tc) := [main_while0c_c_26, main_while0c_v52] ++ ([main_while0b_c_26, main_while0b_v52, main_while0b_c_27, main_while0b_v53, main_while0b_c_28, main_while0b_v54, main_while0b_v55, main_while0b_v56, main_while0b_c_29, main_while0b_v57, main_while0b_v58, main_while0b_c_30, main_while0b_v59, main_while0b_c_31, main_while0b_v60, main_while0b_v61, main_while0b_v62, main_while0b_v63] ++ (written 2 ++
  [main_while0b_cst_32, main_while0b_v65, main_while0b_cst_33, main_while0b_v66, main_while0b_v67, main_while0b_v68, main_while0b_v69, main_while0b_c_34, main_while0b_v70, main_case0b1_v38_2, main_case0b1_v38_3, main_case0b1_v38_4, main_case0b1_v38_5]))
theorem trip0_keep {r : Ref sig .tc} (h : r ∉ trip0_names) (V : Valuation τ sig (Elt F)) :
    (loop0 (F := F)).trip V (Proc.devRef .tc r) = V (Proc.devRef .tc r) := by
  have := keep_of (ops := condOps0 ++ ((loop0 (F := F)).pre ++ (leaves 2 ++ (loop0 (F := F)).post))) trip0_names rfl h V
  rw [StableHlo.after_append, StableHlo.after_append, StableHlo.after_append] at this
  exact this
theorem before0_keep {r : Ref sig .tc} (h : r ∉ trip0_names) (V : Valuation τ sig (Elt F)) :
    ∀ k, (loop0 (F := F)).before V k (Proc.devRef .tc r) = V (Proc.devRef .tc r)
  | 0 => rfl
  | k + 1 => by rw [Loop.before_succ, trip0_keep h, before0_keep h V k]
theorem loop0_keep {r : Ref sig .tc} (h : r ∉ trip0_names) (V : Valuation τ sig (Elt F)) :
    (loop0 (F := F)).result V (Proc.devRef .tc r) = V (Proc.devRef .tc r) := by
  have h1 : r ∉ [main_while0c_c_26, main_while0c_v52] := fun h' => h (List.mem_append_left _ h')
  show after condOps0 ((loop0 (F := F)).before V 33) (Proc.devRef .tc r) = _
  rw [keep_of _ rfl h1, before0_keep h]

/-- What the branch writes outside its loop. -/
abbrev branch0_names : List (Ref sig .tc) := [main_v17] ++ ([main_v18] ++ (written 1 ++ ([main_case0b1_c, main_case0b1_c_13, main_case0b1_c_14, main_case0b1_c_15, main_case0b1_v38_0, main_case0b1_v38_1, main_case0b1_v38_2, main_case0b1_v38_3, main_case0b1_v38_4, main_case0b1_v38_5] ++
  ([main_case0b1_c_16, main_case0b1_v39, main_case0b1_c_17, main_case0b1_v40, main_case0b1_v41, main_case0b1_v42, main_case0b1_v43] ++ (written 3 ++ [main_case0b1_cst_18, main_case0b1_v45, main_case0b1_cst_19, main_case0b1_v46, main_case0b1_v47, main_case0b1_v48, main_case0b1_v49, main_case0b1_cst_20, main_case0b1_call4_v0, main_case0b1_v50, main_case0b1_v51, main_v18])))))
theorem branch0_keep {r : Ref sig .tc} (h : r ∉ branch0_names) (h' : r ∉ trip0_names) (V : Valuation τ sig (Elt F)) :
    (branch0 (F := F)).result V (Proc.devRef .tc r) = V (Proc.devRef .tc r) := by
  simp only [branch0_names, List.mem_append, not_or] at h
  obtain ⟨hr, ha, hf, hi, hm, hl, he⟩ := h
  unfold Branch.result
  split
  · show after allOps0 (after rdOps0 V) _ = _
    rw [keep_of _ rfl ha, keep_of _ rfl hr]
  · show after finOps0 (after (leaves 3) (after midOps0 (loop0.result (after initOps0 (after (leaves 1) (after rdOps0 V)))))) _ = _
    rw [keep_of _ rfl he, leaves_ne 3 _ _ hl, keep_of _ rfl hm, loop0_keep h', keep_of _ rfl hi, leaves_ne 1 _ _ hf, keep_of _ rfl hr]

/-! ## Map 1 -/

/-- What a trip writes. -/
abbrev trip1_names : List (Ref sig .tc) := [main_while1c_c_26, main_while1c_v52] ++ ([main_while1b_c_26, main_while1b_v52, main_while1b_c_27, main_while1b_v53, main_while1b_c_28, main_while1b_v54, main_while1b_v55, main_while1b_v56, main_while1b_c_29, main_while1b_v57, main_while1b_v58, main_while1b_c_30, main_while1b_v59, main_while1b_c_31, main_while1b_v60, main_while1b_v61, main_while1b_v62, main_while1b_v63] ++ (written 5 ++
  [main_while1b_cst_32, main_while1b_v65, main_while1b_cst_33, main_while1b_v66, main_while1b_v67, main_while1b_v68, main_while1b_v69, main_while1b_c_34, main_while1b_v70, main_case1b1_v38_2, main_case1b1_v38_3, main_case1b1_v38_4, main_case1b1_v38_5]))
theorem trip1_keep {r : Ref sig .tc} (h : r ∉ trip1_names) (V : Valuation τ sig (Elt F)) :
    (loop1 (F := F)).trip V (Proc.devRef .tc r) = V (Proc.devRef .tc r) := by
  have := keep_of (ops := condOps1 ++ ((loop1 (F := F)).pre ++ (leaves 5 ++ (loop1 (F := F)).post))) trip1_names rfl h V
  rw [StableHlo.after_append, StableHlo.after_append, StableHlo.after_append] at this
  exact this
theorem before1_keep {r : Ref sig .tc} (h : r ∉ trip1_names) (V : Valuation τ sig (Elt F)) :
    ∀ k, (loop1 (F := F)).before V k (Proc.devRef .tc r) = V (Proc.devRef .tc r)
  | 0 => rfl
  | k + 1 => by rw [Loop.before_succ, trip1_keep h, before1_keep h V k]
theorem loop1_keep {r : Ref sig .tc} (h : r ∉ trip1_names) (V : Valuation τ sig (Elt F)) :
    (loop1 (F := F)).result V (Proc.devRef .tc r) = V (Proc.devRef .tc r) := by
  have h1 : r ∉ [main_while1c_c_26, main_while1c_v52] := fun h' => h (List.mem_append_left _ h')
  show after condOps1 ((loop1 (F := F)).before V 33) (Proc.devRef .tc r) = _
  rw [keep_of _ rfl h1, before1_keep h]

/-- What the branch writes outside its loop. -/
abbrev branch1_names : List (Ref sig .tc) := [main_v27] ++ ([main_v28] ++ (written 4 ++ ([main_case1b1_c, main_case1b1_c_13, main_case1b1_c_14, main_case1b1_c_15, main_case1b1_v38_0, main_case1b1_v38_1, main_case1b1_v38_2, main_case1b1_v38_3, main_case1b1_v38_4, main_case1b1_v38_5] ++
  ([main_case1b1_c_16, main_case1b1_v39, main_case1b1_c_17, main_case1b1_v40, main_case1b1_v41, main_case1b1_v42, main_case1b1_v43] ++ (written 6 ++ [main_case1b1_cst_18, main_case1b1_v45, main_case1b1_cst_19, main_case1b1_v46, main_case1b1_v47, main_case1b1_v48, main_case1b1_v49, main_case1b1_cst_20, main_case1b1_call9_v0, main_case1b1_v50, main_case1b1_v51, main_v28])))))
theorem branch1_keep {r : Ref sig .tc} (h : r ∉ branch1_names) (h' : r ∉ trip1_names) (V : Valuation τ sig (Elt F)) :
    (branch1 (F := F)).result V (Proc.devRef .tc r) = V (Proc.devRef .tc r) := by
  simp only [branch1_names, List.mem_append, not_or] at h
  obtain ⟨hr, ha, hf, hi, hm, hl, he⟩ := h
  unfold Branch.result
  split
  · show after allOps1 (after rdOps1 V) _ = _
    rw [keep_of _ rfl ha, keep_of _ rfl hr]
  · show after finOps1 (after (leaves 6) (after midOps1 (loop1.result (after initOps1 (after (leaves 4) (after rdOps1 V)))))) _ = _
    rw [keep_of _ rfl he, leaves_ne 6 _ _ hl, keep_of _ rfl hm, loop1_keep h', keep_of _ rfl hi, leaves_ne 4 _ _ hf, keep_of _ rfl hr]

/-! ## The arguments -/

/-- What no part of the program writes is at the end as at launch. -/
theorem last_keep (V : Dev nD → Valuation τ sig (Elt F)) (c : Dev nD) {r : Ref sig .tc}
    (h : r ∉ hostOps0_names ∧ r ∉ written 0 ∧ r ∉ hostOps1_names ∧ (r ∉ branch0_names ∧ r ∉ trip0_names) ∧ r ∉ hostOps1_1_names
      ∧ (r ∉ branch1_names ∧ r ∉ trip1_names) ∧ r ∉ hostOps1_2_names) :
    last V c (Proc.devRef .tc r) = V c (Proc.devRef .tc r) := by
  obtain ⟨h0, h1, h2, h3, h4, h5, h6⟩ := h
  exact (hostOps1_2_keep h6 _).trans ((branch1_keep h5.1 h5.2 _).trans ((hostOps1_1_keep h4 _).trans ((branch0_keep h3.1 h3.2 _).trans
    ((hostOps1_keep h2 _).trans ((leaves_ne 0 _ _ h1).trans (hostOps0_keep h0 _))))))

variable (m : (ℓ : Loc nD τ sig) → Buf (Elt F) ℓ) (g : Dev nD → PrngReg)

/-- The run of the whole program: the result, the arguments, the counters. -/
theorem run_frame : θ_run defs (onTc (τ := τ) (main (F := F))) ⟨m, fun _ => 0, g⟩
    (fun r => (∀ c : Dev nD, r.2.mem ((c.tc : Thread nD τ).loc main_v36) = last (launched m) c (Proc.devRef .tc main_v36)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0) := by
  have hm : ∀ r ∈ [main_v36, main_arg0, main_arg1, main_arg2, main_arg3], (Proc.devRef .tc r : DevRef τ sig) ∈ Pipeline.ucRefs τ sig := by decide
  refine (θ_run defs _ _).mono (fun r h => ⟨fun c => ⟨h.1 c _ (hm _ (by decide)), ?_, ?_, ?_, ?_⟩, h.2⟩) (run_main m g)
  · exact (h.1 c _ (hm main_arg0 (by decide))).trans (last_keep (launched m) c (by decide))
  · exact (h.1 c _ (hm main_arg1 (by decide))).trans (last_keep (launched m) c (by decide))
  · exact (h.1 c _ (hm main_arg2 (by decide))).trans (last_keep (launched m) c (by decide))
  · exact (h.1 c _ (hm main_arg3 (by decide))).trans (last_keep (launched m) c (by decide))

end Cert.Balanced
-- ==== Proof.Endings.lean ====
/-
  The three frames: each program ends, its arguments and its counters as they were at launch.
-/
module

public import proofs.«01_k».proof.Defs
public import proofs.«01_k».proof.Proof.Frames
public import proofs.«01_k».proof.Proof.Gen.Kernel
public import proofs.«01_k».proof.Proof.Gen.ReferenceIdeal.Run
public import Idealize.ShloMosaic.Adequacy
public import Idealize.ShloMosaic.Lib.Tactic

@[expose] public section

noncomputable section

namespace Cert.Balanced

open Idealize.ShloMosaic Idealize.ShloMosaic.TcCoe Idealize.SL.Sem

/-- The kernel in idealized numbers. -/
theorem ideal_ends (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run _ _ _).mono (fun _ h => ⟨fun c => (h.1 c).2, h.2⟩) (run_frame m g)

/-- At any numbers the kernel's ending and its idealization's are the same statement: the two programs are one text. -/
theorem same_ending (F : FTy → Type) [FloatOps F] :
    (∀ m g, θ_run (Cert.Kernel.defs (F := F)) (onTc (τ := Cert.Kernel.τ) (Cert.Kernel.main (F := F))) ⟨m, fun _ => 0, g⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3))
        ∧ r.2.sem = fun _ => 0))
    = (∀ m g, θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0)) := by
  sl_kernel_rfl

/-- The kernel in float32. -/
theorem bits_ends : Cert.quiescent_Kernel := fun m g _ =>
  (same_ending Bits).mpr (fun m g => (θ_run _ _ _).mono (fun _ h => ⟨fun c => (h.1 c).2, h.2⟩) (run_frame (F := Bits) m g)) m g

/-- The reference in idealized numbers. -/
theorem reference_ends (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, sem_eq_zero_of_no_sems (by decide) r.2⟩) (Cert.ReferenceIdeal.Value.run m g)

end Cert.Balanced
-- ==== Proof.Keys.lean ====
/-
  The order of the words the bisection walks through. A word that is not negative as an integer is read as the float
  of the same pattern, a negative one as the float of the pattern with its low 31 bits turned over; the reading never
  falls as the integer grows, and every integer below `2 ^ 24` in size times a power of two in range is read from a word.
-/
module

public import Idealize.ShloMosaic.PureOps
public import Idealize.ShloMosaic.PureOps.Ideal
public import Mathlib.Tactic.Ring
public import Mathlib.Tactic.Linarith
public import Mathlib.Tactic.Positivity
public import Mathlib.Tactic.NormNum

@[expose] public section

noncomputable section

namespace Cert.Balanced

open Idealize.ShloMosaic

/-- The size of the float of pattern `n`, its sign bit clear and its exponent not all ones. -/
def mag (n : ℕ) : ℝ :=
  if n / 2 ^ 23 = 0 then (n : ℝ) * 2 ^ (-149 : ℤ)
  else ((2 ^ 23 + n % 2 ^ 23 : ℕ) : ℝ) * 2 ^ ((n / 2 ^ 23 : ℕ) - 150 : ℤ)

/-- One pattern up is not smaller. -/
theorem mag_succ (n : ℕ) : mag n ≤ mag (n + 1) := by
  unfold mag
  have hp : (0 : ℝ) < 2 ^ (-149 : ℤ) := by positivity
  by_cases h : (n + 1) / 2 ^ 23 = n / 2 ^ 23
  · by_cases h0 : n / 2 ^ 23 = 0
    · rw [h, if_pos h0, if_pos h0]
      push_cast
      nlinarith
    · rw [h, if_neg h0, if_neg h0]
      have : 2 ^ 23 + (n + 1) % 2 ^ 23 = 2 ^ 23 + n % 2 ^ 23 + 1 := by omega
      rw [this]
      have hq : (0 : ℝ) < 2 ^ ((n / 2 ^ 23 : ℕ) - 150 : ℤ) := by positivity
      push_cast at hq ⊢
      nlinarith
  · have h1 : (n + 1) / 2 ^ 23 = n / 2 ^ 23 + 1 := by omega
    have h2 : (n + 1) % 2 ^ 23 = 0 := by omega
    have h3 : n % 2 ^ 23 = 2 ^ 23 - 1 := by omega
    rw [h1, h2, if_neg (show ¬ n / 2 ^ 23 + 1 = 0 by omega)]
    by_cases h0 : n / 2 ^ 23 = 0
    · rw [if_pos h0, h0]
      have hn : n ≤ 2 ^ 23 := by omega
      have hn' : (n : ℝ) ≤ 2 ^ 23 := by exact_mod_cast hn
      have : ((0 + 1 : ℕ) : ℤ) - 150 = -149 := by norm_num
      rw [this]
      push_cast
      nlinarith
    · rw [if_neg h0, h3]
      have e : ((n / 2 ^ 23 + 1 : ℕ) : ℤ) - 150 = ((n / 2 ^ 23 : ℕ) - 150 : ℤ) + 1 := by push_cast; ring
      rw [e, zpow_add₀ (by norm_num), zpow_one]
      have hq : (0 : ℝ) < 2 ^ ((n / 2 ^ 23 : ℕ) - 150 : ℤ) := by positivity
      push_cast at hq ⊢
      nlinarith

theorem mag_mono {m n : ℕ} (h : m ≤ n) : mag m ≤ mag n := monotone_nat_of_le_succ mag_succ h

theorem mag_nonneg (n : ℕ) : 0 ≤ mag n := by
  unfold mag
  split <;> positivity

/-- The float of a pattern with the sign bit clear. -/
theorem float_pos (n : ℕ) (h : n < 0x7F800000) : Ideal.ofBits .f32 (BitVec.ofNat 32 n) = ((mag n : ℝ) : EReal) := by
  have e1 : ((BitVec.ofNat 32 n).extractLsb' 31 1 == 1#1) = false := by
    rw [beq_eq_false_iff_ne]
    intro e
    have := congrArg BitVec.toNat e
    simp [BitVec.extractLsb'_toNat, Nat.shiftRight_eq_div_pow] at this
    omega
  have e2 : ((BitVec.ofNat 32 n).extractLsb' 23 8).toNat = n / 2 ^ 23 := by
    simp [BitVec.extractLsb'_toNat, Nat.shiftRight_eq_div_pow]
    omega
  have e3 : ((BitVec.ofNat 32 n).extractLsb' 0 23).toNat = n % 2 ^ 23 := by
    simp [BitVec.extractLsb'_toNat]
  show Ideal.ieee 8 23 (BitVec.ofNat 32 n) = _
  unfold Ideal.ieee mag
  dsimp only
  rw [show 8 + 23 = 31 from rfl, e1, e2, e3]
  rw [if_neg (by omega)]
  by_cases h0 : n / 2 ^ 23 = 0
  · rw [if_pos h0, if_pos h0]
    have : n % 2 ^ 23 = n := by omega
    rw [this]
    norm_num
  · rw [if_neg h0, if_neg h0]
    have : ((n / 2 ^ 23 : ℕ) : ℤ) - (2 ^ (8 - 1) - 1) - ((23 : ℕ) : ℤ) = ((n / 2 ^ 23 : ℕ) - 150 : ℤ) := by norm_num; ring
    rw [this]
    norm_num

/-- The float of a pattern with the sign bit set. -/
theorem float_neg (n : ℕ) (h : n < 0x7F800000) : Ideal.ofBits .f32 (BitVec.ofNat 32 (2 ^ 31 + n)) = ((-mag n : ℝ) : EReal) := by
  have e1 : ((BitVec.ofNat 32 (2 ^ 31 + n)).extractLsb' 31 1 == 1#1) = true := by
    rw [beq_iff_eq]
    refine BitVec.eq_of_toNat_eq ?_
    simp [BitVec.extractLsb'_toNat, Nat.shiftRight_eq_div_pow]
    omega
  have e2 : ((BitVec.ofNat 32 (2 ^ 31 + n)).extractLsb' 23 8).toNat = n / 2 ^ 23 := by
    simp [BitVec.extractLsb'_toNat, Nat.shiftRight_eq_div_pow]
    omega
  have e3 : ((BitVec.ofNat 32 (2 ^ 31 + n)).extractLsb' 0 23).toNat = n % 2 ^ 23 := by
    simp [BitVec.extractLsb'_toNat]
    omega
  show Ideal.ieee 8 23 (BitVec.ofNat 32 (2 ^ 31 + n)) = _
  unfold Ideal.ieee mag
  dsimp only
  rw [show 8 + 23 = 31 from rfl, e1, e2, e3]
  rw [if_neg (by omega)]
  by_cases h0 : n / 2 ^ 23 = 0
  · rw [if_pos h0, if_pos h0]
    have : n % 2 ^ 23 = n := by omega
    rw [this]
    norm_num
  · rw [if_neg h0, if_neg h0]
    have : ((n / 2 ^ 23 : ℕ) : ℤ) - (2 ^ (8 - 1) - 1) - ((23 : ℕ) : ℤ) = ((n / 2 ^ 23 : ℕ) - 150 : ℤ) := by norm_num; ring
    rw [this]
    push_cast
    ring_nf
    simp

theorem float_top : Ideal.ofBits .f32 0x7F800000#32 = ⊤ := by simp [Ideal.ofBits, Ideal.ieee]
theorem float_bot : Ideal.ofBits .f32 0xFF800000#32 = ⊥ := by simp [Ideal.ofBits, Ideal.ieee]
theorem float_half : Ideal.ofBits .f32 0x3F000000#32 = ((1 / 2 : ℝ) : EReal) := by
  have e : Ideal.ofBits .f32 0x3F000000#32 = ((mag 0x3F000000 : ℝ) : EReal) := float_pos 0x3F000000 (by norm_num)
  rw [e]
  unfold mag
  norm_num

/-- The pattern of a word. -/
def pattern (w : BitVec 32) : BitVec 32 := if w.slt 0#32 then w ^^^ 0x7FFFFFFF#32 else w

/-- The float read from a word. -/
def decode (w : BitVec 32) : EReal := Ideal.ofBits .f32 (pattern w)

/-- The float read from an integer between the two infinities' words. -/
def level (z : ℤ) : EReal := decode (BitVec.ofInt 32 z)

theorem level_nonneg {z : ℤ} (h0 : 0 ≤ z) (h1 : z < 0x7F800000) : level z = ((mag z.toNat : ℝ) : EReal) := by
  obtain ⟨n, rfl⟩ := Int.eq_ofNat_of_zero_le h0
  have e : pattern (BitVec.ofInt 32 (n : ℤ)) = BitVec.ofNat 32 n := by
    unfold pattern
    rw [if_neg]
    · rfl
    · rw [BitVec.slt_iff_toInt_lt, BitVec.toInt_ofInt]
      simp only [Int.bmod, BitVec.toInt_zero]
      omega
  rw [level, decode, e, float_pos _ (by omega)]
  rfl

theorem level_neg {z : ℤ} (h0 : z < 0) (h1 : -0x7F800000 ≤ z) : level z = ((-mag (-1 - z).toNat : ℝ) : EReal) := by
  obtain ⟨n, hn⟩ := Int.eq_ofNat_of_zero_le (show (0 : ℤ) ≤ -1 - z by omega)
  obtain rfl : z = -1 - (n : ℤ) := by omega
  have hn : n < 0x7F800000 := by omega
  have hs : (BitVec.ofInt 32 (-1 - (n : ℤ))).slt 0#32 = true := by
    rw [BitVec.slt_iff_toInt_lt, BitVec.toInt_ofInt]
    simp only [Int.bmod, BitVec.toInt_zero]
    omega
  have ht : (BitVec.ofInt 32 (-1 - (n : ℤ))) = ~~~(BitVec.ofNat 32 n) := by
    refine BitVec.eq_of_toNat_eq ?_
    rw [BitVec.toNat_ofInt, BitVec.toNat_not, BitVec.toNat_ofNat]
    omega
  have e : pattern (BitVec.ofInt 32 (-1 - (n : ℤ))) = BitVec.ofNat 32 (2 ^ 31 + n) := by
    unfold pattern
    rw [if_pos hs, ht]
    refine BitVec.eq_of_getLsbD_eq fun i hi => ?_
    have h7 : (0x7FFFFFFF#32).getLsbD i = decide (i < 31) := by
      have : (0x7FFFFFFF#32).getLsbD i = (2 ^ 31 - 1).testBit i := rfl
      rw [this, Nat.testBit_two_pow_sub_one]
    rw [BitVec.getLsbD_xor, BitVec.getLsbD_not, h7, BitVec.getLsbD_ofNat, BitVec.getLsbD_ofNat]
    by_cases h31 : i < 31
    · rw [Nat.testBit_two_pow_add_gt h31]
      simp [hi, h31]
    · obtain rfl : i = 31 := by omega
      rw [Nat.testBit_two_pow_add_eq]
      simp
  rw [level, decode, e, float_neg _ hn]
  have : (-1 - (-1 - (n : ℤ))).toNat = n := by omega
  rw [this]

theorem level_top : level 0x7F800000 = ⊤ := float_top
theorem level_bot : level (-0x7F800001) = ⊥ := float_bot

/-- The float read never falls as the integer grows. -/
theorem level_mono {y z : ℤ} (h : y ≤ z) (hy : -0x7F800001 ≤ y) (hz : z ≤ 0x7F800000) : level y ≤ level z := by
  by_cases h1 : z = 0x7F800000
  · rw [h1, level_top]
    exact le_top
  by_cases h2 : y = -0x7F800001
  · rw [h2, level_bot]
    exact bot_le
  by_cases hy0 : 0 ≤ y
  · rw [level_nonneg hy0 (by omega), level_nonneg (by omega) (by omega)]
    exact_mod_cast mag_mono (by omega)
  · rw [level_neg (by omega) (by omega)]
    by_cases hz0 : 0 ≤ z
    · rw [level_nonneg hz0 (by omega)]
      have h3 := mag_nonneg (-1 - y).toNat
      have h4 := mag_nonneg z.toNat
      exact EReal.coe_le_coe_iff.mpr (by linarith)
    · rw [level_neg (by omega) (by omega)]
      have h3 : mag (-1 - z).toNat ≤ mag (-1 - y).toNat := mag_mono (by omega)
      exact EReal.coe_le_coe_iff.mpr (by linarith)

/-- Every natural below `2 ^ 24` times a power of two in range is the size of some pattern. -/
theorem mag_surj (e : ℕ) (he : e ≤ 253) : ∀ W : ℕ, W < 2 ^ 24 → ∃ n, n < 0x7F800000 ∧ mag n = (W : ℝ) * 2 ^ ((e : ℤ) - 149) := by
  induction e with
  | zero =>
    intro W hW
    refine ⟨W, by omega, ?_⟩
    unfold mag
    by_cases h0 : W / 2 ^ 23 = 0
    · rw [if_pos h0]
      norm_num
    · rw [if_neg h0]
      have h1 : W / 2 ^ 23 = 1 := by omega
      have h2 : 2 ^ 23 + W % 2 ^ 23 = W := by omega
      rw [h2, h1]
      norm_num
  | succ e ih =>
    intro W hW
    by_cases hb : W < 2 ^ 23
    · obtain ⟨n, hn, hm⟩ := ih (by omega) (2 * W) (by omega)
      refine ⟨n, hn, ?_⟩
      have : ((e + 1 : ℕ) : ℤ) - 149 = ((e : ℤ) - 149) + 1 := by push_cast; ring
      rw [hm, this, zpow_add₀ (by norm_num), zpow_one]
      push_cast
      ring
    · refine ⟨(e + 2) * 2 ^ 23 + (W - 2 ^ 23), by omega, ?_⟩
      have h1 : ((e + 2) * 2 ^ 23 + (W - 2 ^ 23)) / 2 ^ 23 = e + 2 := by omega
      have h2 : ((e + 2) * 2 ^ 23 + (W - 2 ^ 23)) % 2 ^ 23 = W - 2 ^ 23 := by omega
      have h3 : 2 ^ 23 + (W - 2 ^ 23) = W := by omega
      unfold mag
      rw [h1, h2, h3, if_neg (by omega)]
      have h4 : ((e + 2 : ℕ) : ℤ) - 150 = ((e + 1 : ℕ) : ℤ) - 149 := by push_cast; ring
      rw [h4]

/-- Every such number, either sign, is read from an integer strictly between the infinities' words. -/
theorem level_surj (e : ℕ) (he : e ≤ 253) (w : ℤ) (h0 : -2 ^ 24 < w) (h1 : w < 2 ^ 24) :
    ∃ z : ℤ, -0x7F800001 < z ∧ z < 0x7F800000 ∧ level z = (((w : ℝ) * 2 ^ ((e : ℤ) - 149) : ℝ) : EReal) := by
  obtain ⟨n, hn, hm⟩ := mag_surj e he w.natAbs (by omega)
  by_cases hw : 0 ≤ w
  · refine ⟨n, by omega, by omega, ?_⟩
    rw [level_nonneg (by omega) (by omega), Int.toNat_natCast, hm]
    have : ((w.natAbs : ℕ) : ℝ) = (w : ℝ) := by
      rw [Nat.cast_natAbs, Int.cast_abs, abs_of_nonneg (by exact_mod_cast hw)]
    rw [this]
  · refine ⟨-1 - n, by omega, by omega, ?_⟩
    have e1 : (-1 - (-1 - (n : ℤ))).toNat = n := by omega
    rw [level_neg (by omega) (by omega), e1, hm]
    have : ((w.natAbs : ℕ) : ℝ) = -(w : ℝ) := by
      rw [Nat.cast_natAbs, Int.cast_abs, abs_of_neg (by exact_mod_cast Int.not_le.mp hw)]
    rw [this]
    congr 1
    ring

end Cert.Balanced

end
-- ==== Proof.TopSum.lean ====
/-
  The sum of the `k` largest of finitely many extended reals: what a sort in falling order says, and what a threshold
  says whose value is the `k`-th largest. Also the halving of an interval of words that finds this threshold.
-/
module

public import proofs.«01_k».proof.Proof.Keys
public import Mathlib.Data.EReal.Operations
public import Mathlib.Algebra.BigOperators.Group.Finset.Basic
public import Mathlib.Algebra.BigOperators.Group.Finset.Piecewise
public import Mathlib.Order.Interval.Finset.Fin

@[expose] public section

noncomputable section

namespace Cert.Balanced

open Finset

variable {ι : Type} [Fintype ι]

/-- A sum of real numbers, read among the extended ones. -/
theorem coe_total (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A count, as the sum of ones. -/
theorem sum_ones (p : ι → Prop) [DecidablePred p] :
    ∑ i, (if p i then (1 : EReal) else 0) = (((univ.filter p).card : ℝ) : EReal) := by
  have : ∀ i, (if p i then (1 : EReal) else 0) = ((if p i then (1 : ℝ) else 0 : ℝ) : EReal) := fun i => by split <;> rfl
  rw [Finset.sum_congr rfl fun i _ => this i, ← coe_total, Finset.sum_boole]

/-- How many entries lie above `t`. -/
def above (v : ι → EReal) (t : EReal) : ℕ := by
  classical exact (univ.filter fun i => t < v i).card

/-- The sum of the entries above `t`. -/
def sumAbove (v : ι → EReal) (t : EReal) : EReal := by
  classical exact ∑ i, if t < v i then v i else 0

theorem above_anti (v : ι → EReal) {s t : EReal} (h : s ≤ t) : above v t ≤ above v s := by
  classical
  exact card_le_card fun i hi => by
    rw [mem_filter] at hi ⊢
    exact ⟨hi.1, lt_of_le_of_lt h hi.2⟩

theorem above_comp {κ : Type} [Fintype κ] (e : κ ≃ ι) (v : ι → EReal) (t : EReal) : above (v ∘ e) t = above v t := by
  classical
  unfold above
  refine card_bij (fun i _ => e i) (fun i hi => by simpa using hi) (fun _ _ _ _ h => e.injective h) fun i hi => ?_
  exact ⟨e.symm i, by simpa using hi, by simp⟩

theorem sumAbove_comp {κ : Type} [Fintype κ] (e : κ ≃ ι) (v : ι → EReal) (t : EReal) : sumAbove (v ∘ e) t = sumAbove v t := by
  classical
  unfold sumAbove
  exact Fintype.sum_equiv e _ _ fun i => rfl

theorem above_top (v : ι → EReal) : above v ⊤ = 0 := by
  classical
  unfold above
  rw [card_eq_zero, filter_eq_empty_iff]
  exact fun i _ => not_lt.mpr le_top

theorem sumAbove_top (v : ι → EReal) : sumAbove v ⊤ = 0 := by
  classical
  unfold sumAbove
  exact sum_eq_zero fun i _ => if_neg (not_lt.mpr le_top)

/-- The threshold's answer: the entries above it, and the threshold itself for the places left over. -/
def topBy (v : ι → EReal) (κ : EReal) (k : ℕ) : EReal :=
  sumAbove v κ + if above v κ < k then ((k : ℝ) - (above v κ : ℝ) : ℝ) * κ else 0

section Sorted

variable {N : ℕ} (y : Fin N → EReal) (hy : ∀ i j, i ≤ j → y j ≤ y i)

/-- The sort's answer: the first `k` entries. -/
def topFirst {N : ℕ} (y : Fin N → EReal) (k : ℕ) : EReal := ∑ j, if j.val < k then y j else 0

include hy

/-- Fewer than `k` entries lie above the `k`-th largest. -/
theorem above_kth_lt {k : ℕ} (h0 : 0 < k) (hk : k ≤ N) : above y (y ⟨k - 1, by omega⟩) < k := by
  classical
  have hs : (univ.filter fun i => y ⟨k - 1, by omega⟩ < y i) ⊆ Finset.Iio (⟨k - 1, by omega⟩ : Fin N) := fun i hi => by
    rw [mem_filter] at hi
    rw [Finset.mem_Iio]
    exact lt_of_not_ge fun h => absurd hi.2 (not_lt.mpr (hy _ _ h))
  have := card_le_card hs
  rw [Fin.card_Iio] at this
  exact lt_of_le_of_lt this (show k - 1 < k by omega)

/-- At least `k` entries lie above anything below the `k`-th largest. -/
theorem le_above_of_lt {k : ℕ} (h0 : 0 < k) (hk : k ≤ N) {t : EReal} (ht : t < y ⟨k - 1, by omega⟩) : k ≤ above y t := by
  classical
  have hs : Finset.Iic (⟨k - 1, by omega⟩ : Fin N) ⊆ (univ.filter fun i => t < y i) := fun i hi => by
    rw [Finset.mem_Iic] at hi
    rw [mem_filter]
    exact ⟨mem_univ _, lt_of_lt_of_le ht (hy _ _ hi)⟩
  have := card_le_card hs
  rw [Fin.card_Iic] at this
  show k ≤ Finset.card _
  have e : k - 1 + 1 = k := by omega
  simpa [e] using this

/-- The threshold's answer at or above the `k`-th largest raises each of the first `k` entries to the threshold. -/
theorem topBy_max {k : ℕ} (h0 : 0 < k) (hk : k ≤ N) {r : ℝ} (hr : y ⟨k - 1, by omega⟩ ≤ (r : EReal)) :
    topBy y r k = ∑ j, if j.val < k then max (y j) (r : EReal) else 0 := by
  classical
  have hc := lt_of_le_of_lt (above_anti y hr) (above_kth_lt y hy h0 hk)
  have hsplit : ∀ j : Fin N, (if j.val < k then max (y j) (r : EReal) else 0) =
      (if (r : EReal) < y j then y j else 0) + (if j.val < k ∧ ¬ (r : EReal) < y j then (r : EReal) else 0) := fun j => by
    by_cases hj : j.val < k
    · by_cases hlt : (r : EReal) < y j
      · rw [if_pos hj, if_pos hlt, if_neg (fun h => h.2 hlt), add_zero, max_eq_left hlt.le]
      · rw [if_pos hj, if_neg hlt, if_pos ⟨hj, hlt⟩, zero_add, max_eq_right (not_lt.mp hlt)]
    · have hle : y j ≤ r := (hy _ _ (show (⟨k - 1, by omega⟩ : Fin N) ≤ j from Fin.le_def.mpr (by show k - 1 ≤ j.val; omega))).trans hr
      rw [if_neg hj, if_neg (not_lt.mpr hle), if_neg (fun h => hj h.1), add_zero]
  unfold topBy
  rw [if_pos hc, Finset.sum_congr rfl fun j _ => hsplit j, Finset.sum_add_distrib]
  unfold sumAbove
  congr 1
  rw [← Finset.sum_filter, Finset.sum_const]
  have hcard : (univ.filter fun j : Fin N => j.val < k ∧ ¬ (r : EReal) < y j).card = k - above y r := by
    have h1 : (univ.filter fun j : Fin N => (r : EReal) < y j) ⊆ (univ.filter fun j : Fin N => j.val < k) := fun j hj => by
      rw [mem_filter] at hj ⊢
      refine ⟨mem_univ _, not_le.mp fun h => absurd hj.2 (not_lt.mpr ?_)⟩
      exact (hy _ _ (show (⟨k - 1, by omega⟩ : Fin N) ≤ j from Fin.le_def.mpr (by show k - 1 ≤ j.val; omega))).trans hr
    have h2 : (univ.filter fun j : Fin N => j.val < k).card = k := by
      have : (univ.filter fun j : Fin N => j.val < k) = Finset.Iic (⟨k - 1, by omega⟩ : Fin N) := by
        ext j
        rw [mem_filter, Finset.mem_Iic, Fin.le_def]
        simp
        omega
      rw [this, Fin.card_Iic]
      show k - 1 + 1 = k
      omega
    have h3 : (univ.filter fun j : Fin N => j.val < k ∧ ¬ (r : EReal) < y j) =
        (univ.filter fun j : Fin N => j.val < k) \ (univ.filter fun j : Fin N => (r : EReal) < y j) := by
      ext j
      simp
    rw [h3, card_sdiff_of_subset h1, h2]
    rfl
  rw [hcard, ← EReal.coe_nsmul, ← EReal.coe_mul, nsmul_eq_mul, Nat.cast_sub hc.le]

/-- The threshold's answer at the `k`-th largest is the sort's. -/
theorem topBy_kth {k : ℕ} (h0 : 0 < k) (hk : k ≤ N) {r : ℝ} (hr : y ⟨k - 1, by omega⟩ = (r : EReal)) :
    topBy y r k = topFirst y k := by
  rw [topBy_max y hy h0 hk hr.le]
  refine Finset.sum_congr rfl fun j _ => ?_
  by_cases hj : j.val < k
  · rw [if_pos hj, if_pos hj, ← hr]
    exact max_eq_left (hy _ _ (show j ≤ ⟨k - 1, by omega⟩ from Fin.le_def.mpr (by show j.val ≤ k - 1; omega)))
  · rw [if_neg hj, if_neg hj]

/-- The threshold's answer a little above the `k`-th largest is a little above the sort's. -/
theorem topBy_near {k : ℕ} (h0 : 0 < k) (hk : k ≤ N) {q r d : ℝ} (hq : y ⟨k - 1, by omega⟩ = (q : EReal)) (hqr : q ≤ r) (hrd : r ≤ q + d) :
    topFirst y k ≤ topBy y r k ∧ topBy y r k ≤ topFirst y k + (((k : ℝ) * d : ℝ) : EReal) := by
  classical
  have hd : (0 : EReal) ≤ (d : EReal) := by exact_mod_cast (by linarith : 0 ≤ d)
  rw [topBy_max y hy h0 hk (hq.le.trans (by exact_mod_cast hqr))]
  refine ⟨Finset.sum_le_sum fun j _ => ?_, ?_⟩
  · split
    · exact le_max_left _ _
    · exact le_refl _
  · have hk' : (∑ j : Fin N, if j.val < k then (d : EReal) else 0) = (((k : ℝ) * d : ℝ) : EReal) := by
      have h2 : (univ.filter fun j : Fin N => j.val < k).card = k := by
        have : (univ.filter fun j : Fin N => j.val < k) = Finset.Iic (⟨k - 1, by omega⟩ : Fin N) := by
          ext j
          rw [mem_filter, Finset.mem_Iic, Fin.le_def]
          simp
          omega
        rw [this, Fin.card_Iic]
        show k - 1 + 1 = k
        omega
      rw [← Finset.sum_filter, Finset.sum_const, h2, ← EReal.coe_nsmul, nsmul_eq_mul]
    unfold topFirst
    rw [← hk', ← Finset.sum_add_distrib]
    refine Finset.sum_le_sum fun j _ => ?_
    by_cases hj : j.val < k
    · rw [if_pos hj, if_pos hj, if_pos hj]
      have hle : (q : EReal) ≤ y j := hq ▸ hy _ _ (show j ≤ ⟨k - 1, by omega⟩ from Fin.le_def.mpr (by show j.val ≤ k - 1; omega))
      refine max_le (le_add_of_nonneg_right hd) (le_trans ?_ (add_le_add_left hle _))
      exact_mod_cast hrd
    · rw [if_neg hj, if_neg hj, if_neg hj, add_zero]

end Sorted

/-! ## The halving -/

/-- The middle of two integers. -/
def middle (p : ℤ × ℤ) : ℤ := (p.1 + p.2) / 2

/-- One halving: the middle becomes the lower end where at least `k` entries lie above it, the upper end else. -/
def halve (v : ι → EReal) (k : ℕ) (p : ℤ × ℤ) : ℤ × ℤ :=
  if k ≤ above v (level (middle p)) then (middle p, p.2) else (p.1, middle p)

/-- The two infinities' words. -/
def widest : ℤ × ℤ := (-0x7F800001, 0x7F800000)

/-- What the halvings keep. -/
structure Bracket (v : ι → EReal) (k n : ℕ) (p : ℤ × ℤ) : Prop where
  low : -0x7F800001 ≤ p.1
  high : p.2 ≤ 0x7F800000
  lt : p.1 < p.2
  width : p.2 - p.1 ≤ 2 ^ (33 - n)
  enough : k ≤ above v (level p.1)
  few : 0 < k → above v (level p.2) < k
  none : k = 0 → p.2 = 0x7F800000

theorem bracket_widest {v : ι → EReal} {k : ℕ} (h : k ≤ above v ⊥) : Bracket v k 0 widest where
  low := le_refl _
  high := le_refl _
  lt := by decide
  width := by decide
  enough := by
    show k ≤ above v (level (-0x7F800001))
    rw [level_bot]
    exact h
  few h0 := by
    show above v (level 0x7F800000) < k
    rw [level_top, above_top]
    exact h0
  none _ := rfl

theorem bracket_halve {v : ι → EReal} {k n : ℕ} (hn : n < 33) {p : ℤ × ℤ} (h : Bracket v k n p) : Bracket v k (n + 1) (halve v k p) := by
  obtain ⟨h1, h2, h3, h4, h5, h6, h7⟩ := h
  have e : (2 : ℤ) ^ (33 - n) = 2 * 2 ^ (33 - (n + 1)) := by
    rw [← pow_succ']
    congr 1
    omega
  have hm : middle p = (p.1 + p.2) / 2 := rfl
  rw [e] at h4
  unfold halve
  split
  · rename_i ht
    exact ⟨by show _ ≤ middle p; omega, h2, by show middle p < p.2; omega, by show p.2 - middle p ≤ _; omega, ht, h6, h7⟩
  · rename_i ht
    have hlt : p.1 < middle p := by
      by_contra hc
      have : middle p = p.1 := by omega
      rw [this] at ht
      exact ht h5
    exact ⟨h1, by show middle p ≤ _; omega, hlt, by show middle p - p.1 ≤ _; omega, h5, fun _ => by show above v (level (middle p)) < k; omega,
      fun h0 => absurd (by omega) ht⟩

theorem bracket_iterate {v : ι → EReal} {k : ℕ} (h : k ≤ above v ⊥) : ∀ n, n ≤ 33 → Bracket v k n ((halve v k)^[n] widest)
  | 0, _ => bracket_widest h
  | n + 1, hn => by
    rw [Function.iterate_succ_apply']
    exact bracket_halve (by omega) (bracket_iterate h n (by omega))

/-- After the last halving the upper end is read as the `k`-th largest, where that is read from some word. -/
theorem halved_eq {N : ℕ} (y : Fin N → EReal) (hy : ∀ i j, i ≤ j → y j ≤ y i) {k : ℕ} (h0 : 0 < k) (hk : k ≤ N) (h : k ≤ above y ⊥)
    {z : ℤ} (z0 : -0x7F800001 ≤ z) (z1 : z ≤ 0x7F800000) (hz : y ⟨k - 1, by omega⟩ = level z) :
    level ((halve y k)^[33] widest).2 = level z := by
  obtain ⟨h1, h2, h3, h4, h5, h6, -⟩ := bracket_iterate h 33 (le_refl _)
  generalize (halve y k)^[33] widest = p at h1 h2 h3 h4 h5 h6
  have h4 : p.2 = p.1 + 1 := by
    simp at h4
    omega
  refine le_antisymm ?_ ?_
  · refine not_lt.mp fun hlt => ?_
    have hzp : z ≤ p.1 := by
      by_contra hc
      exact absurd (level_mono (show p.2 ≤ z by omega) (by omega) z1) (not_le.mpr hlt)
    have ha := above_kth_lt y hy h0 hk
    rw [hz] at ha
    have := above_anti y (level_mono hzp z0 (by omega))
    omega
  · refine not_lt.mp fun hlt => ?_
    have := le_above_of_lt y hy h0 hk (t := level p.2) (hz ▸ hlt)
    have := h6 h0
    omega

/-- With nothing to keep the upper end never moves. -/
theorem halved_none {v : ι → EReal} : level ((halve v 0)^[33] widest).2 = ⊤ := by
  rw [(bracket_iterate (Nat.zero_le _) 33 (le_refl _)).none rfl, level_top]

end Cert.Balanced

end
-- ==== Proof.Sums.lean ====
/-
  The accumulators of the kernels at the exact values: what an accumulator holds after its 32 blocks, summed over its
  columns, is the sum over the whole array of what each entry adds.
-/
module

public import proofs.«01_k».proof.Proof.Effects
public import proofs.«01_k».proof.Proof.TopSum
public import Idealize.ShloMosaic.PureOps.Ideal
public import Idealize.ShloMosaic.PureOps.Ideal.Laws

@[expose] public section

set_option maxRecDepth 16384

noncomputable section

namespace Cert.Balanced

open Cert.KernelIdeal Cert.KernelIdeal.Gen
open Idealize.ShloMosaic Idealize.ShloMosaic.TcCoe
open Finset

/-- One step of an accumulator: each column's sum of a block is added. -/
def colAdd (g : S256x512.Idx → EReal) (y : S1x512.Idx → EReal) : S1x512.Idx → EReal :=
  addf (F := Ideal) (φ := .f32) (shapeCast S1x512 y shapeCasts_S1x512_S1x512)
    (shapeCast S1x512 (multiReduction (F := Ideal) (φ := .f32) .add [0] S512 g 0x00000000#32 reduces_S256x512_S512 (.inl rfl) rfl) shapeCasts_S512_S1x512)

theorem sum_shapeCast {s t : Shape} (x : s.Idx → EReal) (h : s.ShapeCasts t) : ∑ j, shapeCast t x h j = ∑ i, x i :=
  Equiv.sum_comp (Shape.reshapeEquiv h) x

theorem sum_colAdd (g : S256x512.Idx → EReal) (y : S1x512.Idx → EReal) : ∑ j, colAdd g y j = ∑ j, y j + ∑ i, g i := by
  have h : ∑ j, colAdd g y j = ∑ j, (shapeCast S1x512 y shapeCasts_S1x512_S1x512 j
      + shapeCast S1x512 (Ideal.reduceAdd reduces_S256x512_S512 g) shapeCasts_S512_S1x512 j) := rfl
  rw [h, Finset.sum_add_distrib, sum_shapeCast, sum_shapeCast]
  congr 1
  exact Finset.sum_fiberwise univ _ g

/-- Block and place in the block against place in the array. -/
def placeEquiv : Fin 32 × S256x512.Idx ≃ S8192x512.Idx where
  toFun q := ofRC ((256 * q.1.val + (q.2 0).val) % 8192) (Nat.mod_lt _ (by decide)) (q.2 1).val (q.2 1).isLt
  invFun i := (⟨(i 0).val / 256, by have : (i 0).val < 8192 := (i 0).isLt; omega⟩, inBlock i)
  left_inv q := by
    obtain ⟨n, y⟩ := q
    have hy : (y 0).val < 256 := (y 0).isLt
    have hn := n.isLt
    refine Prod.ext (Fin.ext ?_) (funext fun a => ?_)
    · show (256 * n.val + (y 0).val) % 8192 / 256 = n.val
      omega
    · fin_cases a
      · refine Fin.ext ?_
        show (256 * n.val + (y 0).val) % 8192 % 256 = (y 0).val
        omega
      · rfl
  right_inv i := ofRC_inBlock i _ rfl

theorem sum_blocks (f : S8192x512.Idx → EReal) : ∑ n ∈ range 32, ∑ i, rows f n i = ∑ i, f i := by
  rw [← Fin.sum_univ_eq_sum_range (fun n => ∑ i, rows f n i) 32, ← Fintype.sum_prod_type']
  exact Fintype.sum_equiv placeEquiv _ _ fun q => rfl

/-- What an accumulator holds, summed over its columns. -/
theorem sum_runTo (step : ℕ → (S1x512.Idx → EReal) → S1x512.Idx → EReal) (g : ℕ → S256x512.Idx → EReal)
    (hs : ∀ n y, step n y = colAdd (g n) y) (z : S1x512.Idx → EReal) (hz : ∀ j, z j = 0) :
    ∀ n, ∑ j, runTo step z n j = ∑ m ∈ range (n + 1), ∑ i, g m i
  | 0 => by
    show ∑ j, step 0 z j = _
    rw [hs, sum_colAdd, Finset.sum_eq_zero fun j _ => hz j]
    simp
  | n + 1 => by
    show ∑ j, step (n + 1) (runTo step z n) j = _
    rw [hs, sum_colAdd, sum_runTo step g hs z hz n, Finset.sum_range_succ _ (n + 1)]

theorem sum_accumulated (step : ℕ → (S1x512.Idx → EReal) → S1x512.Idx → EReal) (f : S8192x512.Idx → EReal)
    (hs : ∀ n y, step n y = colAdd (rows f n) y) (z : S1x512.Idx → EReal) (hz : ∀ j, z j = 0) :
    ∑ j, runTo step z 31 j = ∑ i, f i := by
  rw [sum_runTo step _ hs z hz 31, sum_blocks]

theorem zero_f32 : (FloatOps.ofBits .f32 0x00000000#32 : Ideal .f32) = (0 : EReal) := Ideal.ofBits_zero_f32
theorem one_f32 : (FloatOps.ofBits .f32 0x3F800000#32 : Ideal .f32) = (1 : EReal) := by
  show Ideal.ofBits .f32 0x3F800000#32 = 1
  have e : Ideal.ofBits .f32 0x3F800000#32 = ((mag 0x3F800000 : ℝ) : EReal) := float_pos 0x3F800000 (by norm_num)
  rw [e, show mag 0x3F800000 = 1 by unfold mag; norm_num]
  rfl

/-- A comparison's bit chooses as the comparison does. -/
theorem pick_ogt {α : Type} (a b : EReal) (x y : α) : (if Ideal.cmp .ogt a b = 1#1 then x else y) = if b < a then x else y := by
  unfold Ideal.cmp
  by_cases h : b < a <;> simp [h]

theorem whole2 (x : Vec Ideal S256x512 .f32) : k2_pay3 x = x := shapeCast_self _ _

/-- The count above the threshold. -/
theorem sum_cntTo (t : Vec Ideal S1x1 .f32) (x : Vec Ideal S8192x512 .f32) :
    ∑ j, cntTo t x 31 j = ((above (ι := S8192x512.Idx) x (t only) : ℝ) : EReal) := by
  classical
  refine (sum_accumulated _ (fun i => if (t only : EReal) < x i then (1 : EReal) else 0) (fun n y => ?_) _ fun _ => zero_f32).trans ?_
  · show colAdd _ y = _
    congr 1
    funext i
    show (if Ideal.cmp .ogt _ _ = 1#1 then (FloatOps.ofBits .f32 0x3F800000#32 : Ideal .f32) else (FloatOps.ofBits .f32 0x00000000#32 : Ideal .f32)) = _
    rw [pick_ogt, zero_f32, one_f32, whole2]
    rfl
  · rw [sum_ones]
    rfl

/-- The sum above the threshold. -/
theorem sum_sumTo (t : Vec Ideal S1x1 .f32) (x : Vec Ideal S8192x512 .f32) :
    ∑ j, sumTo t x 31 j = sumAbove (ι := S8192x512.Idx) x (t only) := by
  classical
  refine (sum_accumulated _ (fun i => if (t only : EReal) < x i then x i else 0) (fun n y => ?_) _ fun _ => zero_f32).trans rfl
  show colAdd _ y = _
  congr 1
  funext i
  show (if Ideal.cmp .ogt _ _ = 1#1 then _ else (FloatOps.ofBits .f32 0x00000000#32 : Ideal .f32)) = _
  rw [pick_ogt, zero_f32, whole2]
  rfl

/-! ## The first kernel's sums -/

theorem whole11 (x : Vec Ideal S256x512 .f32) : k0_pay11 x = x := shapeCast_self _ _
theorem whole12 (x : Vec Ideal S256x512 .f32) : k0_pay12 x = x := shapeCast_self _ _
theorem whole13 (x : Vec Ideal S256x512 .f32) : k0_pay13 x = x := shapeCast_self _ _
theorem whole14 (x : Vec Ideal S256x512 .f32) : k0_pay14 x = x := shapeCast_self _ _

/-- The number 50 and the number one half, as the programs write them. -/
def fifty : EReal := Ideal.ofBits .f32 0x42480000#32
def half : EReal := Ideal.ofBits .f32 0x3F000000#32

/-- The logarithm of one plus the exponential, kept from overflow. -/
def soft (x : EReal) : EReal := max x 0 + Ideal.log1p (Ideal.exp (0 - max x (-x)))

/-- The loss of one entry as the kernels compute it. -/
def loss (x t : EReal) : EReal := soft x - t * x

/-- The second map's entries. -/
def scaled (a b : EReal) : EReal := fifty * (a - b)

theorem loss_block (x t : Vec Ideal S256x512 .f32) (i : S256x512.Idx) : k0_pay15 x t i = loss (x i) (t i) := by
  unfold k0_pay15
  rw [whole11, whole13]
  show (max (x i) (FloatOps.ofBits .f32 0x00000000#32 : Ideal .f32) + Ideal.log1p (Ideal.exp ((FloatOps.ofBits .f32 0x00000000#32 : Ideal .f32) - max (x i) (-x i)))) - t i * x i = _
  rw [zero_f32]
  rfl

theorem target_block (t u : Vec Ideal S256x512 .f32) (i : S256x512.Idx) : k0_pay17 t u i = scaled (t i) (u i) := by
  unfold k0_pay17
  rw [whole13, whole14]
  rfl

theorem scaled_block (x y t u : Vec Ideal S256x512 .f32) (i : S256x512.Idx) :
    k0_pay18 x y t u i = loss (scaled (x i) (y i)) (scaled (t i) (u i)) := by
  unfold k0_pay18
  rw [whole11, whole12]
  show (max (scaled (x i) (y i)) (FloatOps.ofBits .f32 0x00000000#32 : Ideal .f32) + Ideal.log1p (Ideal.exp ((FloatOps.ofBits .f32 0x00000000#32 : Ideal .f32) - max (scaled (x i) (y i)) (-scaled (x i) (y i))))) - k0_pay17 t u i * scaled (x i) (y i) = _
  rw [zero_f32, target_block]
  rfl

open Classical in
/-- What each entry adds to each of the seven sums. -/
def part (w : Fin 7) (p th tp tt : EReal) : EReal :=
  match w with
  | 0 => if half < tp then 1 else 0
  | 1 => if half < tp then loss p tp else 0
  | 2 => loss p tp
  | 3 => if half < scaled tp tt then 1 else 0
  | 4 => if half < scaled tp tt then loss (scaled p th) (scaled tp tt) else 0
  | 5 => loss (scaled p th) (scaled tp tt)
  | 6 => max (th - tt) (-(th - tt))

theorem step_part (w : Fin 7) (x1 x2 x3 x4 : Vec Ideal S256x512 .f32) (y : Vec Ideal S1x512 .f32) :
    statStep w x1 x2 x3 x4 y = colAdd (fun i => part w (x1 i) (x2 i) (x3 i) (x4 i)) y := by
  fin_cases w
  · refine (show _ = colAdd _ y from rfl).trans (congrArg (colAdd · y) (funext fun i => ?_))
    show (if Ideal.cmp .ogt (k0_pay13 x3 i) half = 1#1 then (FloatOps.ofBits .f32 0x3F800000#32 : Ideal .f32) else (FloatOps.ofBits .f32 0x00000000#32 : Ideal .f32)) = _
    rw [pick_ogt, zero_f32, one_f32, whole13]
    rfl
  · refine (show _ = colAdd _ y from rfl).trans (congrArg (colAdd · y) (funext fun i => ?_))
    show (if Ideal.cmp .ogt (k0_pay13 x3 i) half = 1#1 then k0_pay15 x1 x3 i else (FloatOps.ofBits .f32 0x00000000#32 : Ideal .f32)) = _
    rw [pick_ogt, zero_f32, loss_block, whole13]
    rfl
  · exact (show _ = colAdd _ y from rfl).trans (congrArg (colAdd · y) (funext fun i => loss_block x1 x3 i))
  · refine (show _ = colAdd _ y from rfl).trans (congrArg (colAdd · y) (funext fun i => ?_))
    show (if Ideal.cmp .ogt (k0_pay17 x3 x4 i) half = 1#1 then (FloatOps.ofBits .f32 0x3F800000#32 : Ideal .f32) else (FloatOps.ofBits .f32 0x00000000#32 : Ideal .f32)) = _
    rw [pick_ogt, zero_f32, one_f32, target_block]
    rfl
  · refine (show _ = colAdd _ y from rfl).trans (congrArg (colAdd · y) (funext fun i => ?_))
    show (if Ideal.cmp .ogt (k0_pay17 x3 x4 i) half = 1#1 then k0_pay18 x1 x2 x3 x4 i else (FloatOps.ofBits .f32 0x00000000#32 : Ideal .f32)) = _
    rw [pick_ogt, zero_f32, scaled_block, target_block]
    rfl
  · exact (show _ = colAdd _ y from rfl).trans (congrArg (colAdd · y) (funext fun i => scaled_block x1 x2 x3 x4 i))
  · refine (show _ = colAdd _ y from rfl).trans (congrArg (colAdd · y) (funext fun i => ?_))
    show max (k0_pay12 x2 i - k0_pay14 x4 i) (-(k0_pay12 x2 i - k0_pay14 x4 i)) = _
    rw [whole12, whole14]
    rfl

/-- The first kernel's seven sums. -/
theorem sum_statTo (w : Fin 7) (x1 x2 x3 x4 : Vec Ideal S8192x512 .f32) :
    ∑ j, statTo w x1 x2 x3 x4 31 j = ∑ i : S8192x512.Idx, part w (x1 i) (x2 i) (x3 i) (x4 i) :=
  sum_accumulated _ (fun i => part w (x1 i) (x2 i) (x3 i) (x4 i)) (fun n y => step_part w _ _ _ _ y) _ fun _ => by
    fin_cases w <;> exact zero_f32

/-! ## The losses the bisection reads -/

open Classical in
/-- The loss of an entry that is not a target, and the lowest value at one that is. -/
def kept (x t : EReal) : EReal := if half < t then ⊥ else loss x t

theorem lossS_apply (x t : Vec Ideal S8192x512 .f32) (i : S8192x512.Idx) : lossS x t i = kept (x i) (t i) := by
  have h : ∀ (a b : Vec Ideal S256x512 .f32) j, k1_pay1 a b j = kept (a j) (b j) := fun a b j => by
    unfold k1_pay1
    rw [shapeCast_self, shapeCast_self]
    show (if Ideal.cmp .ogt (b j) half = 1#1 then Ideal.ofBits .f32 0xFF800000#32 else
      (max (a j) (FloatOps.ofBits .f32 0x00000000#32 : Ideal .f32) + Ideal.log1p (Ideal.exp ((FloatOps.ofBits .f32 0x00000000#32 : Ideal .f32) - max (a j) (-a j)))) - b j * a j) = _
    rw [pick_ogt, zero_f32, float_bot]
    rfl
  refine (h _ _ _).trans ?_
  unfold rows
  rw [ofRC_inBlock i _ rfl]

theorem lossB_apply (p th tp tt : Vec Ideal S8192x512 .f32) (i : S8192x512.Idx) :
    lossB p th tp tt i = kept (scaled (p i) (th i)) (scaled (tp i) (tt i)) := by
  have h : ∀ (a b c d : Vec Ideal S256x512 .f32) j, k4_pay1 a b c d j = kept (scaled (a j) (b j)) (scaled (c j) (d j)) := fun a b c d j => by
    unfold k4_pay1
    rw [shapeCast_self, shapeCast_self, shapeCast_self, shapeCast_self]
    show (if Ideal.cmp .ogt (scaled (c j) (d j)) half = 1#1 then Ideal.ofBits .f32 0xFF800000#32 else
      (max (scaled (a j) (b j)) (FloatOps.ofBits .f32 0x00000000#32 : Ideal .f32) + Ideal.log1p (Ideal.exp ((FloatOps.ofBits .f32 0x00000000#32 : Ideal .f32) - max (scaled (a j) (b j)) (-scaled (a j) (b j))))) - scaled (c j) (d j) * scaled (a j) (b j)) = _
    rw [pick_ogt, zero_f32, float_bot]
    rfl
  refine (h _ _ _ _ _).trans ?_
  unfold rows
  rw [ofRC_inBlock i _ rfl]

end Cert.Balanced

end
-- ==== Proof.Trips.lean ====
/-
  What the branches leave in their results: a trip of the loop halves the interval of words, and the arm's result is
  the threshold's answer at the upper end after the last trip.
-/
module

public import proofs.«01_k».proof.Proof.Frames
public import proofs.«01_k».proof.Proof.Sums
public import Idealize.ShloMosaic.Lib.Pipeline.RegionsCase

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat Cfg Window BodyObligation cellOf CSeg LoopSeg CaseSeg Ticket)

variable {F : FTy → Type} [FloatOps F]

local notation "𝕄" => MT nD τ sig Unit (Elt F) ℕ UU ℕ

/-- The sum of an accumulator over its columns, as the host takes it. -/
def total (y : Vec F S1x512 .f32) : Vec F S_ .f32 := Host.reduceAdd y (constant S_ .f32 0x00000000#32) reducesTo_S1x512_S_d0_1 h_S_
/-- The word in the middle of two. -/
def midWord (lo hi : Vec F S_ .i32) : Vec F S_ .i32 :=
  addi (addi (Host.shrsi lo (constantI S_ 32 1#32)) (Host.shrsi hi (constantI S_ 32 1#32))) (andi (andi lo hi) (constantI S_ 32 1#32))
/-- The float a word is read as. -/
def readWord (w : Vec F S_ .i32) : Vec F S_ .f32 :=
  bitcastToFloat .f32 (select (cmpi .slt w (constantI S_ 32 0#32)) (xori w (constantI S_ 32 2147483647#32)) w)
/-- It, as a call takes it. -/
def passWord (w : Vec F S_ .i32) : Vec F S1x1 .f32 := shapeCast S1x1 (readWord (F := F) w) shapeCasts_S_S1x1
/-- Whether at least `k` losses lie above the middle word's float. -/
def testWord (x : Vec F S8192x512 .f32) (k : Vec F S_ .f32) (lo hi : Vec F S_ .i32) : IVec S_ 1 :=
  cmpf .oge (total (cntTo (passWord (midWord (F := F) lo hi)) x 31)) k
/-- The sum above the word's float and the float for the places left over. -/
def sumWord (x : Vec F S8192x512 .f32) (k : Vec F S_ .f32) (w : Vec F S_ .i32) : Vec F S_ .f32 :=
  addf (total (sumTo (passWord (F := F) w) x 31))
    (select (cmpf .ogt k (total (cntTo (passWord w) x 31))) (mulf (subf k (total (cntTo (passWord w) x 31))) (readWord w)) (constant S_ .f32 0x00000000#32))

/-! ## Map 0 -/

theorem post0_low (X : Valuation τ sig (Elt F)) : after (loop0 (F := F)).post X main_case0b1_v38_4 =
    select (cmpf .oge (total (X main_while0b_v64_0)) (X main_case0b1_v38_1)) (X main_while0b_v58) (X main_case0b1_v38_4) := by
  dsimp only [loop0]
  rw [StableHlo.after_append, StableHlo.after_append, StableHlo.after_append]
  after_results
  rfl
theorem post0_high (X : Valuation τ sig (Elt F)) : after (loop0 (F := F)).post X main_case0b1_v38_5 =
    select (cmpf .oge (total (X main_while0b_v64_0)) (X main_case0b1_v38_1)) (X main_case0b1_v38_5) (X main_while0b_v58) := by
  dsimp only [loop0]
  rw [StableHlo.after_append, StableHlo.after_append, StableHlo.after_append]
  after_results
  rfl
theorem pre0_mid (Y : Valuation τ sig (Elt F)) : after (loop0 (F := F)).pre Y main_while0b_v58 = midWord (F := F) (Y main_case0b1_v38_4) (Y main_case0b1_v38_5) := by
  dsimp only [loop0]
  rw [StableHlo.after_append, StableHlo.after_append]
  after_results
  rfl
theorem pre0_pass (Y : Valuation τ sig (Elt F)) : after (loop0 (F := F)).pre Y main_while0b_v63 = passWord (midWord (F := F) (Y main_case0b1_v38_4) (Y main_case0b1_v38_5)) := by
  dsimp only [loop0]
  rw [StableHlo.after_append, StableHlo.after_append]
  after_results
  rfl
theorem pre0_same (Y : Valuation τ sig (Elt F)) : after (loop0 (F := F)).pre Y main_case0b1_v38_0 = Y main_case0b1_v38_0
    ∧ after (loop0 (F := F)).pre Y main_case0b1_v38_1 = Y main_case0b1_v38_1 ∧ after (loop0 (F := F)).pre Y main_case0b1_v38_4 = Y main_case0b1_v38_4
    ∧ after (loop0 (F := F)).pre Y main_case0b1_v38_5 = Y main_case0b1_v38_5 := by
  dsimp only [loop0]
  rw [StableHlo.after_append, StableHlo.after_append]
  refine ⟨?_, ?_, ?_, ?_⟩ <;> after_results
theorem cond0_same (Y : Valuation τ sig (Elt F)) : after (loop0 (F := F)).condOps Y main_case0b1_v38_0 = Y main_case0b1_v38_0
    ∧ after (loop0 (F := F)).condOps Y main_case0b1_v38_1 = Y main_case0b1_v38_1 ∧ after (loop0 (F := F)).condOps Y main_case0b1_v38_4 = Y main_case0b1_v38_4
    ∧ after (loop0 (F := F)).condOps Y main_case0b1_v38_5 = Y main_case0b1_v38_5 := by
  dsimp only [loop0]
  refine ⟨?_, ?_, ?_, ?_⟩ <;> after_results

/-- What the calls are handed in a trip, and what the trip ends with. -/
theorem trip0_count (Y : Valuation τ sig (Elt F)) :
    cmpf .oge (total (after (leaves 2) (loop0.enter Y) main_while0b_v64_0)) (after (leaves 2) (loop0.enter Y) main_case0b1_v38_1)
      = testWord (Y main_case0b1_v38_0) (Y main_case0b1_v38_1) (Y main_case0b1_v38_4) (Y main_case0b1_v38_5) := by
  rw [after_trip0_count, leaves_ne 2 _ _ (by decide)]
  show cmpf .oge (total (cntTo (after loop0.pre (after loop0.condOps Y) main_while0b_v63) (after loop0.pre (after loop0.condOps Y) main_case0b1_v38_0) 31))
    (after loop0.pre (after loop0.condOps Y) main_case0b1_v38_1) = _
  rw [pre0_pass, (pre0_same _).1, (pre0_same _).2.1, (cond0_same _).1, (cond0_same _).2.1, (cond0_same _).2.2.1, (cond0_same _).2.2.2]
  rfl
theorem trip0_low (Y : Valuation τ sig (Elt F)) : loop0.trip Y main_case0b1_v38_4 =
    select (testWord (Y main_case0b1_v38_0) (Y main_case0b1_v38_1) (Y main_case0b1_v38_4) (Y main_case0b1_v38_5)) (midWord (F := F) (Y main_case0b1_v38_4) (Y main_case0b1_v38_5)) (Y main_case0b1_v38_4) := by
  refine (post0_low (after (leaves 2) (loop0.enter Y))).trans ?_
  rw [trip0_count, leaves_ne 2 _ main_while0b_v58 (by decide), leaves_ne 2 _ main_case0b1_v38_4 (by decide)]
  show select _ (after loop0.pre (after loop0.condOps Y) main_while0b_v58) (after loop0.pre (after loop0.condOps Y) main_case0b1_v38_4) = _
  rw [pre0_mid, (pre0_same _).2.2.1, (cond0_same _).2.2.1, (cond0_same _).2.2.2]
theorem trip0_high (Y : Valuation τ sig (Elt F)) : loop0.trip Y main_case0b1_v38_5 =
    select (testWord (Y main_case0b1_v38_0) (Y main_case0b1_v38_1) (Y main_case0b1_v38_4) (Y main_case0b1_v38_5)) (Y main_case0b1_v38_5) (midWord (F := F) (Y main_case0b1_v38_4) (Y main_case0b1_v38_5)) := by
  refine (post0_high (after (leaves 2) (loop0.enter Y))).trans ?_
  rw [trip0_count, leaves_ne 2 _ main_while0b_v58 (by decide), leaves_ne 2 _ main_case0b1_v38_5 (by decide)]
  show select _ (after loop0.pre (after loop0.condOps Y) main_case0b1_v38_5) (after loop0.pre (after loop0.condOps Y) main_while0b_v58) = _
  rw [pre0_mid, (pre0_same _).2.2.2, (cond0_same _).2.2.1, (cond0_same _).2.2.2]

/-- What the loop is entered with. -/
theorem atLoop0_state (V : Valuation τ sig (Elt F)) :
    branch0.atLoop V main_case0b1_v38_0 = lossS (V main_v0) (V main_v2) ∧ branch0.atLoop V main_case0b1_v38_1 = V main_v15
      ∧ branch0.atLoop V main_case0b1_v38_4 = (fun _ => (2155872255#32 : BitVec 32)) ∧ branch0.atLoop V main_case0b1_v38_5 = (fun _ => (2139095040#32 : BitVec 32))
      ∧ branch0.atLoop V main_case0b1_v37 = lossS (V main_v0) (V main_v2) ∧ branch0.atLoop V main_v15 = V main_v15 := by
  have h1 := after_lossS V
  have h2 : after (leaves 1) V main_v15 = V main_v15 := leaves_ne 1 V main_v15 (by decide)
  rw [← h1, ← h2]
  show after initOps0 (after (leaves 1) V) _ = _ ∧ after initOps0 (after (leaves 1) V) _ = _ ∧ after initOps0 (after (leaves 1) V) _ = _
    ∧ after initOps0 (after (leaves 1) V) _ = _ ∧ after initOps0 (after (leaves 1) V) _ = _ ∧ after initOps0 (after (leaves 1) V) _ = _
  generalize after (leaves (F := F) 1) V = X
  refine ⟨?_, ?_, ?_, ?_, ?_, ?_⟩ <;> (after_results <;> rfl)

theorem mid0_pass (Y : Valuation τ sig (Elt F)) : after midOps0 Y main_case0b1_v43 = passWord (F := F) (Y main_case0b1_v38_5) := by
  after_results
  rfl
theorem mid0_read (Y : Valuation τ sig (Elt F)) : after midOps0 Y main_case0b1_v42 = readWord (F := F) (Y main_case0b1_v38_5) := by
  after_results
  rfl
theorem mid0_same (Y : Valuation τ sig (Elt F)) : after midOps0 Y main_case0b1_v37 = Y main_case0b1_v37 ∧ after midOps0 Y main_v15 = Y main_v15 := by
  refine ⟨?_, ?_⟩ <;> after_results
theorem fin0_sum (Y : Valuation τ sig (Elt F)) : after finOps0 Y main_v18 =
    addf (total (Y main_case0b1_v44_1)) (select (cmpf .ogt (Y main_v15) (total (Y main_case0b1_v44_0))) (mulf (subf (Y main_v15) (total (Y main_case0b1_v44_0))) (Y main_case0b1_v42)) (constant S_ .f32 0x00000000#32)) := by
  after_results
  rfl

/-- What the slow arm leaves. -/
theorem slow0_sum (V : Valuation τ sig (Elt F)) : branch0.slow V main_v18 =
    sumWord (lossS (V main_v0) (V main_v2)) (V main_v15) (loop0.before (branch0.atLoop V) 33 main_case0b1_v38_5) := by
  refine (fin0_sum (after (leaves 3) (branch0.atLast V))).trans ?_
  rw [after_last0_count, after_last0_sum, leaves_ne 3 _ main_v15 (by decide), leaves_ne 3 _ main_case0b1_v42 (by decide)]
  show addf (total (sumTo (after midOps0 (loop0.result (branch0.atLoop V)) main_case0b1_v43) (after midOps0 (loop0.result (branch0.atLoop V)) main_case0b1_v37) 31))
    (select (cmpf .ogt (after midOps0 (loop0.result (branch0.atLoop V)) main_v15) (total (cntTo (after midOps0 (loop0.result (branch0.atLoop V)) main_case0b1_v43) (after midOps0 (loop0.result (branch0.atLoop V)) main_case0b1_v37) 31)))
      (mulf (subf (after midOps0 (loop0.result (branch0.atLoop V)) main_v15) (total (cntTo (after midOps0 (loop0.result (branch0.atLoop V)) main_case0b1_v43) (after midOps0 (loop0.result (branch0.atLoop V)) main_case0b1_v37) 31)))
        (after midOps0 (loop0.result (branch0.atLoop V)) main_case0b1_v42)) _) = _
  rw [mid0_pass, mid0_read, (mid0_same _).1, (mid0_same _).2, loop0_keep (r := main_case0b1_v37) (by decide), loop0_keep (r := main_v15) (by decide),
    (atLoop0_state V).2.2.2.2.1, (atLoop0_state V).2.2.2.2.2]
  rw [show loop0.result (branch0.atLoop V) main_case0b1_v38_5 = loop0.before (branch0.atLoop V) 33 main_case0b1_v38_5 from (cond0_same _).2.2.2]
  rfl

/-! ## Map 1 -/

theorem post1_low (X : Valuation τ sig (Elt F)) : after (loop1 (F := F)).post X main_case1b1_v38_4 =
    select (cmpf .oge (total (X main_while1b_v64_0)) (X main_case1b1_v38_1)) (X main_while1b_v58) (X main_case1b1_v38_4) := by
  dsimp only [loop1]
  rw [StableHlo.after_append, StableHlo.after_append, StableHlo.after_append]
  after_results
  rfl
theorem post1_high (X : Valuation τ sig (Elt F)) : after (loop1 (F := F)).post X main_case1b1_v38_5 =
    select (cmpf .oge (total (X main_while1b_v64_0)) (X main_case1b1_v38_1)) (X main_case1b1_v38_5) (X main_while1b_v58) := by
  dsimp only [loop1]
  rw [StableHlo.after_append, StableHlo.after_append, StableHlo.after_append]
  after_results
  rfl
theorem pre1_mid (Y : Valuation τ sig (Elt F)) : after (loop1 (F := F)).pre Y main_while1b_v58 = midWord (F := F) (Y main_case1b1_v38_4) (Y main_case1b1_v38_5) := by
  dsimp only [loop1]
  rw [StableHlo.after_append, StableHlo.after_append]
  after_results
  rfl
theorem pre1_pass (Y : Valuation τ sig (Elt F)) : after (loop1 (F := F)).pre Y main_while1b_v63 = passWord (midWord (F := F) (Y main_case1b1_v38_4) (Y main_case1b1_v38_5)) := by
  dsimp only [loop1]
  rw [StableHlo.after_append, StableHlo.after_append]
  after_results
  rfl
theorem pre1_same (Y : Valuation τ sig (Elt F)) : after (loop1 (F := F)).pre Y main_case1b1_v38_0 = Y main_case1b1_v38_0
    ∧ after (loop1 (F := F)).pre Y main_case1b1_v38_1 = Y main_case1b1_v38_1 ∧ after (loop1 (F := F)).pre Y main_case1b1_v38_4 = Y main_case1b1_v38_4
    ∧ after (loop1 (F := F)).pre Y main_case1b1_v38_5 = Y main_case1b1_v38_5 := by
  dsimp only [loop1]
  rw [StableHlo.after_append, StableHlo.after_append]
  refine ⟨?_, ?_, ?_, ?_⟩ <;> after_results
theorem cond1_same (Y : Valuation τ sig (Elt F)) : after (loop1 (F := F)).condOps Y main_case1b1_v38_0 = Y main_case1b1_v38_0
    ∧ after (loop1 (F := F)).condOps Y main_case1b1_v38_1 = Y main_case1b1_v38_1 ∧ after (loop1 (F := F)).condOps Y main_case1b1_v38_4 = Y main_case1b1_v38_4
    ∧ after (loop1 (F := F)).condOps Y main_case1b1_v38_5 = Y main_case1b1_v38_5 := by
  dsimp only [loop1]
  refine ⟨?_, ?_, ?_, ?_⟩ <;> after_results

/-- What the calls are handed in a trip, and what the trip ends with. -/
theorem trip1_count (Y : Valuation τ sig (Elt F)) :
    cmpf .oge (total (after (leaves 5) (loop1.enter Y) main_while1b_v64_0)) (after (leaves 5) (loop1.enter Y) main_case1b1_v38_1)
      = testWord (Y main_case1b1_v38_0) (Y main_case1b1_v38_1) (Y main_case1b1_v38_4) (Y main_case1b1_v38_5) := by
  rw [after_trip1_count, leaves_ne 5 _ _ (by decide)]
  show cmpf .oge (total (cntTo (after loop1.pre (after loop1.condOps Y) main_while1b_v63) (after loop1.pre (after loop1.condOps Y) main_case1b1_v38_0) 31))
    (after loop1.pre (after loop1.condOps Y) main_case1b1_v38_1) = _
  rw [pre1_pass, (pre1_same _).1, (pre1_same _).2.1, (cond1_same _).1, (cond1_same _).2.1, (cond1_same _).2.2.1, (cond1_same _).2.2.2]
  rfl
theorem trip1_low (Y : Valuation τ sig (Elt F)) : loop1.trip Y main_case1b1_v38_4 =
    select (testWord (Y main_case1b1_v38_0) (Y main_case1b1_v38_1) (Y main_case1b1_v38_4) (Y main_case1b1_v38_5)) (midWord (F := F) (Y main_case1b1_v38_4) (Y main_case1b1_v38_5)) (Y main_case1b1_v38_4) := by
  refine (post1_low (after (leaves 5) (loop1.enter Y))).trans ?_
  rw [trip1_count, leaves_ne 5 _ main_while1b_v58 (by decide), leaves_ne 5 _ main_case1b1_v38_4 (by decide)]
  show select _ (after loop1.pre (after loop1.condOps Y) main_while1b_v58) (after loop1.pre (after loop1.condOps Y) main_case1b1_v38_4) = _
  rw [pre1_mid, (pre1_same _).2.2.1, (cond1_same _).2.2.1, (cond1_same _).2.2.2]
theorem trip1_high (Y : Valuation τ sig (Elt F)) : loop1.trip Y main_case1b1_v38_5 =
    select (testWord (Y main_case1b1_v38_0) (Y main_case1b1_v38_1) (Y main_case1b1_v38_4) (Y main_case1b1_v38_5)) (Y main_case1b1_v38_5) (midWord (F := F) (Y main_case1b1_v38_4) (Y main_case1b1_v38_5)) := by
  refine (post1_high (after (leaves 5) (loop1.enter Y))).trans ?_
  rw [trip1_count, leaves_ne 5 _ main_while1b_v58 (by decide), leaves_ne 5 _ main_case1b1_v38_5 (by decide)]
  show select _ (after loop1.pre (after loop1.condOps Y) main_case1b1_v38_5) (after loop1.pre (after loop1.condOps Y) main_while1b_v58) = _
  rw [pre1_mid, (pre1_same _).2.2.2, (cond1_same _).2.2.1, (cond1_same _).2.2.2]

/-- What the loop is entered with. -/
theorem atLoop1_state (V : Valuation τ sig (Elt F)) :
    branch1.atLoop V main_case1b1_v38_0 = lossB (V main_v0) (V main_v1) (V main_v2) (V main_v3) ∧ branch1.atLoop V main_case1b1_v38_1 = V main_v25
      ∧ branch1.atLoop V main_case1b1_v38_4 = (fun _ => (2155872255#32 : BitVec 32)) ∧ branch1.atLoop V main_case1b1_v38_5 = (fun _ => (2139095040#32 : BitVec 32))
      ∧ branch1.atLoop V main_case1b1_v37 = lossB (V main_v0) (V main_v1) (V main_v2) (V main_v3) ∧ branch1.atLoop V main_v25 = V main_v25 := by
  have h1 := after_lossB V
  have h2 : after (leaves 4) V main_v25 = V main_v25 := leaves_ne 4 V main_v25 (by decide)
  rw [← h1, ← h2]
  show after initOps1 (after (leaves 4) V) _ = _ ∧ after initOps1 (after (leaves 4) V) _ = _ ∧ after initOps1 (after (leaves 4) V) _ = _
    ∧ after initOps1 (after (leaves 4) V) _ = _ ∧ after initOps1 (after (leaves 4) V) _ = _ ∧ after initOps1 (after (leaves 4) V) _ = _
  generalize after (leaves (F := F) 4) V = X
  refine ⟨?_, ?_, ?_, ?_, ?_, ?_⟩ <;> (after_results <;> rfl)

theorem mid1_pass (Y : Valuation τ sig (Elt F)) : after midOps1 Y main_case1b1_v43 = passWord (F := F) (Y main_case1b1_v38_5) := by
  after_results
  rfl
theorem mid1_read (Y : Valuation τ sig (Elt F)) : after midOps1 Y main_case1b1_v42 = readWord (F := F) (Y main_case1b1_v38_5) := by
  after_results
  rfl
theorem mid1_same (Y : Valuation τ sig (Elt F)) : after midOps1 Y main_case1b1_v37 = Y main_case1b1_v37 ∧ after midOps1 Y main_v25 = Y main_v25 := by
  refine ⟨?_, ?_⟩ <;> after_results
theorem fin1_sum (Y : Valuation τ sig (Elt F)) : after finOps1 Y main_v28 =
    addf (total (Y main_case1b1_v44_1)) (select (cmpf .ogt (Y main_v25) (total (Y main_case1b1_v44_0))) (mulf (subf (Y main_v25) (total (Y main_case1b1_v44_0))) (Y main_case1b1_v42)) (constant S_ .f32 0x00000000#32)) := by
  after_results
  rfl

/-- What the slow arm leaves. -/
theorem slow1_sum (V : Valuation τ sig (Elt F)) : branch1.slow V main_v28 =
    sumWord (lossB (V main_v0) (V main_v1) (V main_v2) (V main_v3)) (V main_v25) (loop1.before (branch1.atLoop V) 33 main_case1b1_v38_5) := by
  refine (fin1_sum (after (leaves 6) (branch1.atLast V))).trans ?_
  rw [after_last1_count, after_last1_sum, leaves_ne 6 _ main_v25 (by decide), leaves_ne 6 _ main_case1b1_v42 (by decide)]
  show addf (total (sumTo (after midOps1 (loop1.result (branch1.atLoop V)) main_case1b1_v43) (after midOps1 (loop1.result (branch1.atLoop V)) main_case1b1_v37) 31))
    (select (cmpf .ogt (after midOps1 (loop1.result (branch1.atLoop V)) main_v25) (total (cntTo (after midOps1 (loop1.result (branch1.atLoop V)) main_case1b1_v43) (after midOps1 (loop1.result (branch1.atLoop V)) main_case1b1_v37) 31)))
      (mulf (subf (after midOps1 (loop1.result (branch1.atLoop V)) main_v25) (total (cntTo (after midOps1 (loop1.result (branch1.atLoop V)) main_case1b1_v43) (after midOps1 (loop1.result (branch1.atLoop V)) main_case1b1_v37) 31)))
        (after midOps1 (loop1.result (branch1.atLoop V)) main_case1b1_v42)) _) = _
  rw [mid1_pass, mid1_read, (mid1_same _).1, (mid1_same _).2, loop1_keep (r := main_case1b1_v37) (by decide), loop1_keep (r := main_v25) (by decide),
    (atLoop1_state V).2.2.2.2.1, (atLoop1_state V).2.2.2.2.2]
  rw [show loop1.result (branch1.atLoop V) main_case1b1_v38_5 = loop1.before (branch1.atLoop V) 33 main_case1b1_v38_5 from (cond1_same _).2.2.2]
  rfl

end Cert.Balanced

end
-- ==== Proof.Halved.lean ====
/-
  The branches at the exact values: the loop's two words are the ends of the halved interval of integers, and a branch's
  slow arm is the threshold's answer at its upper end.
-/
module

public import proofs.«01_k».proof.Proof.Trips
public import Idealize.ShloMosaic.Lib.ValueIdx

@[expose] public section

set_option maxRecDepth 16384

noncomputable section

namespace Cert.Balanced

open Cert.KernelIdeal Cert.KernelIdeal.Gen
open Idealize.ShloMosaic Idealize.ShloMosaic.TcCoe
open Idealize.ShloMosaic.StableHlo (after)
open Finset

/-- The one index of a scalar. -/
abbrev point : S_.Idx := HostLoop.idx0

theorem eq_point (j : S_.Idx) : j = point := funext fun a => a.elim0

theorem total_sum (y : Vec Ideal S1x512 .f32) (j : S_.Idx) : total y j = ∑ i : S1x512.Idx, (y i : EReal) := by
  refine (Ideal.hostReduceAdd_total reducesTo_S1x512_S_d0_1 (fun b => b.elim0) y _ j).trans ?_
  rw [show (constant (F := Ideal) S_ .f32 0x00000000#32 _ : EReal) = 0 from zero_f32, zero_add]

/-- The word of an integer, at every index. -/
def word (z : ℤ) : Vec Ideal S_ .i32 := fun _ => BitVec.ofInt 32 z

theorem half_word (x : ℤ) (h0 : -2 ^ 31 ≤ x) (h1 : x < 2 ^ 31) : (BitVec.ofInt 32 x).sshiftRight 1 = BitVec.ofInt 32 (x / 2) := by
  unfold BitVec.sshiftRight
  congr 1
  rw [BitVec.toInt_ofInt_eq_self (by decide) (by simpa using h0) (by simpa using h1), Int.shiftRight_eq_div_pow]
  rfl

theorem odd_word (x : ℤ) : (BitVec.ofInt 32 x).toNat % 2 = (x % 2).toNat := by
  rw [BitVec.toNat_ofInt]
  omega

theorem both_odd (x y : ℤ) : BitVec.ofInt 32 x &&& BitVec.ofInt 32 y &&& 1#32 = BitVec.ofInt 32 (if x % 2 = 1 ∧ y % 2 = 1 then 1 else 0) := by
  apply BitVec.eq_of_toNat_eq
  rw [BitVec.toNat_and, BitVec.toNat_and, show (1#32).toNat = 1 from rfl, Nat.and_one_is_mod, Nat.and_mod_two_pow (n := 1), pow_one, odd_word, odd_word]
  rcases Int.emod_two_eq_zero_or_one x with hx | hx <;> rcases Int.emod_two_eq_zero_or_one y with hy | hy <;> simp [hx, hy]

/-- The middle word is the middle integer's. -/
theorem midWord_word {p : ℤ × ℤ} (h : -0x7F800001 ≤ p.1) (h' : p.2 ≤ 0x7F800000) (hlt : p.1 < p.2) :
    midWord (F := Ideal) (word p.1) (word p.2) = word (middle p) := by
  funext j
  show (BitVec.ofInt 32 p.1).sshiftRight 1 + (BitVec.ofInt 32 p.2).sshiftRight 1 + (BitVec.ofInt 32 p.1 &&& BitVec.ofInt 32 p.2 &&& 1#32)
    = BitVec.ofInt 32 (middle p)
  rw [half_word _ (by omega) (by omega), half_word _ (by omega) (by omega), both_odd, ← BitVec.ofInt_add, ← BitVec.ofInt_add]
  congr 1
  unfold middle
  split <;> omega

theorem readWord_word (z : ℤ) (j : S_.Idx) : (readWord (F := Ideal) (word z) j : EReal) = level z := by
  show Ideal.ofBits .f32 (if BitVec.ofBool ((BitVec.ofInt 32 z).slt 0#32) = 1#1 then BitVec.ofInt 32 z ^^^ 2147483647#32 else BitVec.ofInt 32 z) = level z
  unfold level decode pattern
  cases (BitVec.ofInt 32 z).slt 0#32 <;> rfl

theorem passWord_word (z : ℤ) : (passWord (F := Ideal) (word z) only : EReal) = level z := readWord_word z _

theorem count_word (x : Vec Ideal S8192x512 .f32) (z : ℤ) (j : S_.Idx) :
    (total (cntTo (passWord (F := Ideal) (word z)) x 31) j : EReal) = ((above (ι := S8192x512.Idx) x (level z) : ℝ) : EReal) := by
  rw [total_sum, sum_cntTo, passWord_word]

/-- A whole number of places, at every index. -/
def places (k : ℕ) : Vec Ideal S_ .f32 := fun _ => ((k : ℝ) : EReal)

theorem coe_nat_le (a b : ℕ) : (((a : ℝ) : EReal) ≤ ((b : ℝ) : EReal)) ↔ a ≤ b := by rw [EReal.coe_le_coe_iff, Nat.cast_le]
theorem coe_nat_lt (a b : ℕ) : (((a : ℝ) : EReal) < ((b : ℝ) : EReal)) ↔ a < b := by rw [EReal.coe_lt_coe_iff, Nat.cast_lt]

theorem testWord_word (x : Vec Ideal S8192x512 .f32) (k : ℕ) {p : ℤ × ℤ} (h : -0x7F800001 ≤ p.1) (h' : p.2 ≤ 0x7F800000) (hlt : p.1 < p.2) (j : S_.Idx) :
    testWord x (places k) (word p.1) (word p.2) j = BitVec.ofBool (decide (k ≤ above (ι := S8192x512.Idx) x (level (middle p)))) := by
  show BitVec.ofBool (decide (((k : ℝ) : EReal) ≤ total (cntTo (passWord (midWord (F := Ideal) (word p.1) (word p.2))) x 31) j)) = _
  rw [midWord_word h h' hlt, count_word, decide_eq_decide.mpr (coe_nat_le _ _)]

/-- One trip on the words of an interval's ends. -/
theorem low_word (x : Vec Ideal S8192x512 .f32) (k : ℕ) {p : ℤ × ℤ} (h : -0x7F800001 ≤ p.1) (h' : p.2 ≤ 0x7F800000) (hlt : p.1 < p.2) :
    select (testWord x (places k) (word p.1) (word p.2)) (midWord (F := Ideal) (word p.1) (word p.2)) (word p.1) = word (halve (ι := S8192x512.Idx) x k p).1 := by
  funext j
  show (if testWord x (places k) (word p.1) (word p.2) j = 1#1 then _ else _) = _
  rw [testWord_word x k h h' hlt, midWord_word h h' hlt]
  unfold halve
  by_cases hk : k ≤ above (ι := S8192x512.Idx) x (level (middle p)) <;> simp [hk, word]
theorem high_word (x : Vec Ideal S8192x512 .f32) (k : ℕ) {p : ℤ × ℤ} (h : -0x7F800001 ≤ p.1) (h' : p.2 ≤ 0x7F800000) (hlt : p.1 < p.2) :
    select (testWord x (places k) (word p.1) (word p.2)) (word p.2) (midWord (F := Ideal) (word p.1) (word p.2)) = word (halve (ι := S8192x512.Idx) x k p).2 := by
  funext j
  show (if testWord x (places k) (word p.1) (word p.2) j = 1#1 then _ else _) = _
  rw [testWord_word x k h h' hlt, midWord_word h h' hlt]
  unfold halve
  by_cases hk : k ≤ above (ι := S8192x512.Idx) x (level (middle p)) <;> simp [hk, word]

/-- The threshold's answer, as the last calls and the host take it. -/
theorem sumWord_word (x : Vec Ideal S8192x512 .f32) (k : ℕ) (z : ℤ) (j : S_.Idx) :
    (sumWord x (places k) (word z) j : EReal) = topBy (ι := S8192x512.Idx) x (level z) k := by
  show (total (sumTo (passWord (F := Ideal) (word z)) x 31) j : EReal) + (if BitVec.ofBool (decide ((total (cntTo (passWord (F := Ideal) (word z)) x 31) j : EReal) < ((k : ℝ) : EReal))) = 1#1
    then (((k : ℝ) : EReal) - (total (cntTo (passWord (F := Ideal) (word z)) x 31) j : EReal)) * (readWord (F := Ideal) (word z) j : EReal)
    else (FloatOps.ofBits .f32 0x00000000#32 : Ideal .f32)) = _
  rw [total_sum, sum_sumTo, passWord_word, count_word, readWord_word, zero_f32]
  unfold topBy
  rw [← EReal.coe_sub]
  by_cases hk : above (ι := S8192x512.Idx) x (level z) < k <;> simp [hk]

/-! ## Map 0 -/

/-- The loop's words after some trips. -/
theorem words0 (V : Valuation τ sig (Elt Ideal)) (x : Vec Ideal S8192x512 .f32) (k : ℕ)
    (h0 : V main_case0b1_v38_0 = x) (h1 : V main_case0b1_v38_1 = places k) (h4 : V main_case0b1_v38_4 = word widest.1) (h5 : V main_case0b1_v38_5 = word widest.2)
    (hk : k ≤ above (ι := S8192x512.Idx) x ⊥) : ∀ n, n ≤ 33 →
    loop0.before V n main_case0b1_v38_4 = word ((halve (ι := S8192x512.Idx) x k)^[n] widest).1
      ∧ loop0.before V n main_case0b1_v38_5 = word ((halve (ι := S8192x512.Idx) x k)^[n] widest).2
  | 0, _ => ⟨h4, h5⟩
  | n + 1, hn => by
    obtain ⟨i4, i5⟩ := words0 V x k h0 h1 h4 h5 hk n (by omega)
    have hb := bracket_iterate hk n (by omega)
    have k0 := before0_keep (r := main_case0b1_v38_0) (by decide) V n
    have k1 := before0_keep (r := main_case0b1_v38_1) (by decide) V n
    rw [Loop.before_succ, trip0_low, trip0_high, k0, k1, h0, h1, i4, i5, low_word x k hb.low hb.high hb.lt, high_word x k hb.low hb.high hb.lt,
      Function.iterate_succ_apply']
    exact ⟨rfl, rfl⟩

/-- The slow arm's answer. -/
theorem slow0_top (V : Valuation τ sig (Elt Ideal)) (k : ℕ) (hk : V main_v15 = places k)
    (h : k ≤ above (ι := S8192x512.Idx) (lossS (V main_v0) (V main_v2)) ⊥) (j : S_.Idx) :
    (branch0.slow V main_v18 j : EReal) = topBy (ι := S8192x512.Idx) (lossS (V main_v0) (V main_v2)) (level ((halve (ι := S8192x512.Idx) (lossS (V main_v0) (V main_v2)) k)^[33] widest).2) k := by
  obtain ⟨a0, a1, a4, a5, -, -⟩ := atLoop0_state V
  have hw := (words0 (branch0.atLoop V) _ k a0 (a1.trans hk) (a4.trans rfl) (a5.trans rfl) h 33 (le_refl _)).2
  rw [slow0_sum, hk, hw, sumWord_word]

/-! ## Map 1 -/

/-- The loop's words after some trips. -/
theorem words1 (V : Valuation τ sig (Elt Ideal)) (x : Vec Ideal S8192x512 .f32) (k : ℕ)
    (h0 : V main_case1b1_v38_0 = x) (h1 : V main_case1b1_v38_1 = places k) (h4 : V main_case1b1_v38_4 = word widest.1) (h5 : V main_case1b1_v38_5 = word widest.2)
    (hk : k ≤ above (ι := S8192x512.Idx) x ⊥) : ∀ n, n ≤ 33 →
    loop1.before V n main_case1b1_v38_4 = word ((halve (ι := S8192x512.Idx) x k)^[n] widest).1
      ∧ loop1.before V n main_case1b1_v38_5 = word ((halve (ι := S8192x512.Idx) x k)^[n] widest).2
  | 0, _ => ⟨h4, h5⟩
  | n + 1, hn => by
    obtain ⟨i4, i5⟩ := words1 V x k h0 h1 h4 h5 hk n (by omega)
    have hb := bracket_iterate hk n (by omega)
    have k0 := before1_keep (r := main_case1b1_v38_0) (by decide) V n
    have k1 := before1_keep (r := main_case1b1_v38_1) (by decide) V n
    rw [Loop.before_succ, trip1_low, trip1_high, k0, k1, h0, h1, i4, i5, low_word x k hb.low hb.high hb.lt, high_word x k hb.low hb.high hb.lt,
      Function.iterate_succ_apply']
    exact ⟨rfl, rfl⟩

/-- The slow arm's answer. -/
theorem slow1_top (V : Valuation τ sig (Elt Ideal)) (k : ℕ) (hk : V main_v25 = places k)
    (h : k ≤ above (ι := S8192x512.Idx) (lossB (V main_v0) (V main_v1) (V main_v2) (V main_v3)) ⊥) (j : S_.Idx) :
    (branch1.slow V main_v28 j : EReal) = topBy (ι := S8192x512.Idx) (lossB (V main_v0) (V main_v1) (V main_v2) (V main_v3)) (level ((halve (ι := S8192x512.Idx) (lossB (V main_v0) (V main_v1) (V main_v2) (V main_v3)) k)^[33] widest).2) k := by
  obtain ⟨a0, a1, a4, a5, -, -⟩ := atLoop1_state V
  have hw := (words1 (branch1.atLoop V) _ k a0 (a1.trans hk) (a4.trans rfl) (a5.trans rfl) h 33 (le_refl _)).2
  rw [slow1_sum, hk, hw, sumWord_word]

end Cert.Balanced

end
-- ==== Proof.Map.lean ====
/-
  One map's loss: real entries `x` and targets `t`, the losses of the entries that are not targets, how many of them are
  kept, and that the threshold found by halving gives the sum of the largest ones as a sort in falling order does.
-/
module

public import proofs.«01_k».proof.Proof.Sums
public import Mathlib.Tactic.FieldSimp

@[expose] public section

noncomputable section

namespace Cert.Balanced

open Idealize.ShloMosaic
open Finset

/-- The first entries as far as they lie above `s` add up to what lies above `s`. -/
theorem topFirst_above {N : ℕ} (y : Fin N → EReal) (hy : ∀ i j, i ≤ j → y j ≤ y i) (s : EReal) : topFirst y (above y s) = sumAbove y s := by
  classical
  unfold topFirst sumAbove
  refine Finset.sum_congr rfl fun j _ => ?_
  have h : j.val < above y s ↔ s < y j := by
    constructor
    · intro hj
      by_contra hc
      have hs : (univ.filter fun i => s < y i) ⊆ Finset.Iio j := fun i hi => by
        rw [mem_filter] at hi
        rw [Finset.mem_Iio]
        exact lt_of_not_ge fun h => hc (lt_of_lt_of_le hi.2 (hy _ _ h))
      have := card_le_card hs
      rw [Fin.card_Iio] at this
      exact absurd hj (not_lt.mpr this)
    · intro hj
      have hs : Finset.Iic j ⊆ (univ.filter fun i => s < y i) := fun i hi => by
        rw [Finset.mem_Iic] at hi
        rw [mem_filter]
        exact ⟨mem_univ _, lt_of_lt_of_le hj (hy _ _ hi)⟩
      have := card_le_card hs
      rw [Fin.card_Iic] at this
      exact this
  by_cases hj : s < y j
  · rw [if_pos hj, if_pos (h.mpr hj)]
  · rw [if_neg hj, if_neg fun h' => hj (h.mp h')]

theorem topFirst_zero {N : ℕ} (y : Fin N → EReal) : topFirst y 0 = 0 := by
  unfold topFirst
  exact Finset.sum_eq_zero fun j _ => if_neg (Nat.not_lt_zero _)

/-! ## The loss of real numbers -/

/-- The logarithm of one plus the exponential, on the reals. -/
def softReal (x : ℝ) : ℝ := max x 0 + Real.log (1 + Real.exp (-|x|))

theorem max_neg_coe (x : ℝ) : max (x : EReal) (-(x : EReal)) = ((|x| : ℝ) : EReal) := by
  rw [← EReal.coe_neg, ← EReal.coe_strictMono.monotone.map_max, max_comm, max_comm]
  rfl

theorem log1p_exp (x : ℝ) : Ideal.log1p (Ideal.exp (x : EReal)) = ((Real.log (1 + Real.exp x) : ℝ) : EReal) := by
  show Ideal.log (1 + ((Real.exp x : ℝ) : EReal)) = _
  rw [← EReal.coe_one, ← EReal.coe_add]
  show (if 1 + Real.exp x ≤ 0 then (⊥ : EReal) else _) = _
  rw [if_neg (not_le.mpr (by positivity))]

theorem soft_coe (x : ℝ) : soft x = ((softReal x : ℝ) : EReal) := by
  unfold soft softReal
  rw [max_neg_coe, zero_sub, ← EReal.coe_neg, log1p_exp, ← EReal.coe_zero, ← EReal.coe_strictMono.monotone.map_max, ← EReal.coe_add]

theorem softReal_neg (x : ℝ) : softReal (-x) = softReal x - x := by
  unfold softReal
  rw [abs_neg]
  rcases le_total x 0 with h | h
  · rw [max_eq_left (by linarith), max_eq_right h]; ring
  · rw [max_eq_right (by linarith), max_eq_left h]; ring

theorem loss_coe (x t : ℝ) : loss x t = ((softReal x - t * x : ℝ) : EReal) := by
  unfold loss
  rw [soft_coe, ← EReal.coe_mul, ← EReal.coe_sub]

/-- The loss written with the two terms of the cross entropy. -/
theorem loss_two (x t : ℝ) : (t : EReal) * soft (-(x : EReal)) + (1 - (t : EReal)) * soft x = loss x t := by
  rw [loss_coe, ← EReal.coe_neg, soft_coe, soft_coe, ← EReal.coe_one, ← EReal.coe_sub, ← EReal.coe_mul, ← EReal.coe_mul, ← EReal.coe_add, softReal_neg]
  congr 1
  ring

/-- Every entry is a real number. -/
def AllReal {ι : Type} (x : ι → EReal) : Prop := ∀ i, ∃ r : ℝ, x i = r

theorem fifty_coe : ∃ r : ℝ, fifty = r := ⟨mag 0x42480000, float_pos 0x42480000 (by norm_num)⟩

theorem AllReal.scaled {ι : Type} {x y : ι → EReal} (hx : AllReal x) (hy : AllReal y) : AllReal fun i => scaled (x i) (y i) := fun i => by
  obtain ⟨a, ha⟩ := hx i
  obtain ⟨b, hb⟩ := hy i
  obtain ⟨r, hr⟩ := fifty_coe
  exact ⟨r * (a - b), by show fifty * (x i - y i) = _; rw [ha, hb, hr, ← EReal.coe_sub, ← EReal.coe_mul]⟩

/-! ## The map -/

section
variable {ι : Type} [Fintype ι] (x t : ι → EReal)

open Classical in
/-- How many entries are targets, -/
def posCount : ℕ := (univ.filter fun i => half < t i).card
open Classical in
/-- how many are not, -/
def negCount : ℕ := (univ.filter fun i => ¬ half < t i).card
/-- and how many of these are kept. -/
def keptCount : ℕ := min (negCount t) (3 * posCount t)

/-- The losses with the targets put last. -/
def keptLoss : ι → EReal := fun i => kept (x i) (t i)

open Classical in
/-- The sum over the targets. -/
def posSum : EReal := ∑ i, if half < t i then loss (x i) (t i) else 0

/-- The sum over the kept entries as the threshold gives it. -/
def negSum : EReal :=
  if keptCount t < negCount t then topBy (keptLoss x t) (level ((halve (keptLoss x t) (keptCount t))^[33] widest).2) (keptCount t)
  else (∑ i, loss (x i) (t i)) - posSum x t

theorem counts : posCount t + negCount t = Fintype.card ι := by
  classical
  unfold posCount negCount
  exact Finset.card_filter_add_card_filter_not _

theorem loss_finite {x t : ι → EReal} (hx : AllReal x) (ht : AllReal t) (i : ι) : ∃ r : ℝ, loss (x i) (t i) = r := by
  obtain ⟨a, ha⟩ := hx i
  obtain ⟨b, hb⟩ := ht i
  exact ⟨_, by rw [ha, hb, loss_coe]⟩

theorem bot_lt_kept {x t : ι → EReal} (hx : AllReal x) (ht : AllReal t) (i : ι) : ⊥ < keptLoss x t i ↔ ¬ half < t i := by
  classical
  obtain ⟨r, hr⟩ := loss_finite hx ht i
  unfold keptLoss kept
  split <;> simp_all

theorem above_bot {x t : ι → EReal} (hx : AllReal x) (ht : AllReal t) : above (keptLoss x t) ⊥ = negCount t := by
  classical
  unfold above negCount
  congr 1
  ext i
  rw [mem_filter, mem_filter, bot_lt_kept hx ht]

/-- All losses less the targets' are the rest. -/
theorem rest_sum {x t : ι → EReal} (hx : AllReal x) (ht : AllReal t) : (∑ i, loss (x i) (t i)) - posSum x t = sumAbove (keptLoss x t) ⊥ := by
  classical
  choose r hr using loss_finite hx ht
  unfold posSum sumAbove
  have h1 : ∀ i, (if half < t i then loss (x i) (t i) else 0) = ((if half < t i then r i else 0 : ℝ) : EReal) := fun i => by
    split
    · exact hr i
    · rfl
  have h2 : ∀ i, (if ⊥ < keptLoss x t i then keptLoss x t i else 0) = ((r i - (if half < t i then r i else 0) : ℝ) : EReal) := fun i => by
    by_cases h : half < t i
    · rw [if_neg fun h' => (bot_lt_kept hx ht i).mp h' h, if_pos h, sub_self]
      rfl
    · rw [if_pos ((bot_lt_kept hx ht i).mpr h), if_neg h, sub_zero, ← hr]
      unfold keptLoss kept
      rw [if_neg h]
  rw [Finset.sum_congr rfl fun i _ => hr i, Finset.sum_congr rfl fun i _ => h1 i, Finset.sum_congr rfl fun i _ => h2 i, ← coe_total, ← coe_total, ← coe_total,
    ← EReal.coe_sub, Finset.sum_sub_distrib]

theorem topBy_comp {κ : Type} [Fintype κ] (e : κ ≃ ι) (v : ι → EReal) (s : EReal) (k : ℕ) : topBy (v ∘ e) s k = topBy v s k := by
  unfold topBy
  rw [sumAbove_comp, above_comp]

theorem halve_comp {κ : Type} [Fintype κ] (e : κ ≃ ι) (v : ι → EReal) (k : ℕ) : halve (v ∘ e) k = halve v k := by
  funext p
  unfold halve
  rw [above_comp]

/-- The smallest kept loss is a float, or all losses are kept, or none. `y` are the losses in falling order. -/
def FloatAt {N : ℕ} (y : Fin N → EReal) : Prop :=
  keptCount t = 0 ∨ keptCount t = negCount t ∨ ∃ (E : ℕ) (w : ℤ), E ≤ 253 ∧ -2 ^ 24 < w ∧ w < 2 ^ 24
    ∧ ∀ h, y ⟨keptCount t - 1, h⟩ = (((w : ℝ) * 2 ^ ((E : ℤ) - 149) : ℝ) : EReal)

/-- The threshold's sum is the sort's. -/
theorem negSum_eq {x t : ι → EReal} (hx : AllReal x) (ht : AllReal t) {N : ℕ} (e : Fin N ≃ ι) (y : Fin N → EReal) (hv : y = keptLoss x t ∘ e)
    (hy : ∀ i j, i ≤ j → y j ≤ y i) (hf : FloatAt t y) : negSum x t = topFirst y (keptCount t) := by
  have hb : above y ⊥ = negCount t := by rw [hv, above_comp, above_bot hx ht]
  have hN : negCount t ≤ N := by
    have := counts t
    rw [← Fintype.card_congr e, Fintype.card_fin] at this
    omega
  have hle : keptCount t ≤ negCount t := min_le_left _ _
  unfold negSum
  by_cases hk : keptCount t < negCount t
  · rw [if_pos hk, ← halve_comp e, ← topBy_comp e, ← hv]
    by_cases h0 : keptCount t = 0
    · rw [h0, halved_none, topFirst_zero]
      unfold topBy
      rw [sumAbove_top, if_neg (Nat.not_lt_zero _), add_zero]
    · rcases hf with h | h | ⟨E, w, hE, w0, w1, hw⟩
      · exact absurd h h0
      · omega
      · obtain ⟨z, z0, z1, hz⟩ := level_surj E hE w w0 w1
        have hkN : keptCount t ≤ N := by omega
        have hat := hw (by omega)
        rw [halved_eq y hy (by omega) hkN (by omega) z0.le z1.le (hat.trans hz.symm), hz]
        exact topBy_kth y hy (by omega) hkN hat
  · rw [if_neg hk, rest_sum hx ht, show keptCount t = above y ⊥ by omega, topFirst_above y hy, hv, sumAbove_comp]

/-- The map's loss. -/
def mapLoss (S : EReal) : EReal := Ideal.div (posSum x t + S) (((posCount t : ℝ) + (keptCount t : ℝ) : ℝ) : EReal)

end

end Cert.Balanced

end
-- ==== Proof.Arms.lean ====
/-
  The kernel's result at the exact values, as a formula over the four arguments: the host operations between the calls,
  and what the branches leave.
-/
module

public import proofs.«01_k».proof.Proof.Halved
public import proofs.«01_k».proof.Proof.Map

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.ShloMosaic.StableHlo (after)
open Finset

/-! ## The host operations -/

section Host
variable {F : FTy → Type} [FloatOps F]

/-- How many entries a map has, less a count, -/
def restOf (n : Vec F S_ .f32) : Vec F S_ .f32 := subf (constant S_ .f32 0x4A800000#32) n
/-- and how many of these are kept. -/
def keepOf (n : Vec F S_ .f32) : Vec F S_ .f32 := minimumf (restOf n) (mulf (constant S_ .f32 0x40400000#32) n)

theorem stage0 (Y : Valuation τ sig (Elt F)) : after hostOps1 Y main_v5 = total (Y main_v4_0) ∧ after hostOps1 Y main_v6 = total (Y main_v4_1)
    ∧ after hostOps1 Y main_v8 = total (Y main_v4_3) ∧ after hostOps1 Y main_v9 = total (Y main_v4_4) ∧ after hostOps1 Y main_v10 = total (Y main_v4_5)
    ∧ after hostOps1 Y main_v11 = total (Y main_v4_6) := by
  refine ⟨?_, ?_, ?_, ?_, ?_, ?_⟩ <;> (after_results; rfl)
theorem stage0_kept (Y : Valuation τ sig (Elt F)) : after hostOps1 Y main_v12 = subf (total (Y main_v4_2)) (total (Y main_v4_1))
    ∧ after hostOps1 Y main_v15 = keepOf (total (Y main_v4_0)) ∧ after hostOps1 Y main_v16 = cmpf .olt (keepOf (total (Y main_v4_0))) (restOf (total (Y main_v4_0))) := by
  refine ⟨?_, ?_, ?_⟩ <;> (after_results; rfl)
theorem stage1 (Z : Valuation τ sig (Elt F)) : after hostOps1_1 Z main_v21 = Host.divf (addf (Z main_v6) (Z main_v18)) (addf (Z main_v5) (Z main_v15))
    ∧ after hostOps1_1 Z main_v22 = subf (Z main_v10) (Z main_v9) ∧ after hostOps1_1 Z main_v25 = keepOf (Z main_v8)
    ∧ after hostOps1_1 Z main_v26 = cmpf .olt (keepOf (Z main_v8)) (restOf (Z main_v8)) := by
  refine ⟨?_, ?_, ?_, ?_⟩ <;> (after_results; try rfl)
theorem stage2 (W : Valuation τ sig (Elt F)) : after hostOps1_2 W main_v36 =
    addf (addf (W main_v21) (mulf (constant S_ .f32 0x3F800000#32) (Host.divf (addf (W main_v9) (W main_v28)) (addf (W main_v8) (W main_v25)))))
      (mulf (constant S_ .f32 0x41200000#32) (Host.divf (W main_v11) (constant S_ .f32 0x4A800000#32))) := by
  after_results
end Host

theorem branch_of (p : Prop) [Decidable p] : HostLoop.branch ((BitVec.ofBool (decide p)).setWidth 32) 1 = if p then 1 else 0 := by
  by_cases h : p <;> simp only [h, decide_true, decide_false, if_true, if_false] <;> decide

/-- What the branch of map 0 leaves. -/
theorem branch0_value (V : Valuation τ sig (Elt Ideal)) (k n : ℕ) (hk : V main_v15 = places k)
    (hn : (V main_v16 : IVec S_ 1) point = BitVec.ofBool (decide (k < n)))
    (h : k ≤ above (ι := S8192x512.Idx) (lossS (V main_v0) (V main_v2)) ⊥) (j : S_.Idx) : (branch0.result V main_v18 j : EReal) =
      if k < n then topBy (ι := S8192x512.Idx) (lossS (V main_v0) (V main_v2)) (level ((halve (ι := S8192x512.Idx) (lossS (V main_v0) (V main_v2)) k)^[33] widest).2) k else V main_v12 j := by
  have hr : ∀ {r : Ref sig .tc}, r ∉ [main_v17] → after (rdOps0 (F := Ideal)) V r = V r := fun h => keep_of _ rfl h V
  have ha : branch0.arm V = if k < n then 1 else 0 := by
    show HostLoop.branch (((V main_v16 : IVec S_ 1) point).setWidth 32) 1 = _
    rw [hn, branch_of]
  unfold Branch.result
  rw [ha]
  by_cases hlt : k < n
  · rw [if_pos hlt, if_pos hlt, if_neg (by decide)]
    have := slow0_top (after rdOps0 V) k ((hr (by decide)).trans hk)
    rw [hr (r := main_v0) (by decide), hr (r := main_v2) (by decide)] at this
    exact this h j
  · rw [if_neg hlt, if_neg hlt, if_pos rfl]
    have : after allOps0 (after rdOps0 V) main_v18 = after rdOps0 V main_v12 := by
      generalize after (rdOps0 (F := Ideal)) V = X
      after_results
      rfl
    exact (congrFun this j).trans (congrFun (hr (r := main_v12) (by decide)) j)

/-- What the branch of map 1 leaves. -/
theorem branch1_value (V : Valuation τ sig (Elt Ideal)) (k n : ℕ) (hk : V main_v25 = places k)
    (hn : (V main_v26 : IVec S_ 1) point = BitVec.ofBool (decide (k < n)))
    (h : k ≤ above (ι := S8192x512.Idx) (lossB (V main_v0) (V main_v1) (V main_v2) (V main_v3)) ⊥) (j : S_.Idx) : (branch1.result V main_v28 j : EReal) =
      if k < n then topBy (ι := S8192x512.Idx) (lossB (V main_v0) (V main_v1) (V main_v2) (V main_v3)) (level ((halve (ι := S8192x512.Idx) (lossB (V main_v0) (V main_v1) (V main_v2) (V main_v3)) k)^[33] widest).2) k else V main_v22 j := by
  have hr : ∀ {r : Ref sig .tc}, r ∉ [main_v27] → after (rdOps1 (F := Ideal)) V r = V r := fun h => keep_of _ rfl h V
  have ha : branch1.arm V = if k < n then 1 else 0 := by
    show HostLoop.branch (((V main_v26 : IVec S_ 1) point).setWidth 32) 1 = _
    rw [hn, branch_of]
  unfold Branch.result
  rw [ha]
  by_cases hlt : k < n
  · rw [if_pos hlt, if_pos hlt, if_neg (by decide)]
    have := slow1_top (after rdOps1 V) k ((hr (by decide)).trans hk)
    rw [hr (r := main_v0) (by decide), hr (r := main_v1) (by decide), hr (r := main_v2) (by decide), hr (r := main_v3) (by decide)] at this
    exact this h j
  · rw [if_neg hlt, if_neg hlt, if_pos rfl]
    have : after allOps1 (after rdOps1 V) main_v28 = after rdOps1 V main_v22 := by
      generalize after (rdOps1 (F := Ideal)) V = X
      after_results
      rfl
    exact (congrFun this j).trans (congrFun (hr (r := main_v22) (by decide)) j)

/-! ## The counts -/

theorem four_million : Ideal.ofBits .f32 0x4A800000#32 = ((4194304 : ℝ) : EReal) := by
  have e : Ideal.ofBits .f32 0x4A800000#32 = ((mag 0x4A800000 : ℝ) : EReal) := float_pos 0x4A800000 (by norm_num)
  rw [e, show mag 0x4A800000 = 4194304 by unfold mag; norm_num]
theorem three : Ideal.ofBits .f32 0x40400000#32 = ((3 : ℝ) : EReal) := by
  have e : Ideal.ofBits .f32 0x40400000#32 = ((mag 0x40400000 : ℝ) : EReal) := float_pos 0x40400000 (by norm_num)
  rw [e, show mag 0x40400000 = 3 by unfold mag; norm_num]

theorem restOf_places (p n : ℕ) (h : p + n = 4194304) : restOf (places p) = places n := by
  funext j
  show Ideal.ofBits .f32 0x4A800000#32 - ((p : ℝ) : EReal) = ((n : ℝ) : EReal)
  rw [four_million, ← EReal.coe_sub]
  congr 1
  have : (p : ℝ) + n = 4194304 := by exact_mod_cast h
  linarith

theorem keepOf_places (p n : ℕ) (h : p + n = 4194304) : keepOf (places p) = places (min n (3 * p)) := by
  funext j
  show min (restOf (places p) j : EReal) (Ideal.ofBits .f32 0x40400000#32 * ((p : ℝ) : EReal)) = (((min n (3 * p) : ℕ) : ℝ) : EReal)
  rw [restOf_places p n h, three, ← EReal.coe_mul]
  show min ((n : ℝ) : EReal) _ = _
  rw [← EReal.coe_strictMono.monotone.map_min]
  congr 1
  push_cast
  rfl

theorem test_places (k n : ℕ) (j : S_.Idx) : cmpf (F := Ideal) (φ := .f32) .olt (places k) (places n) j = BitVec.ofBool (decide (k < n)) := by
  show BitVec.ofBool (decide (((k : ℝ) : EReal) < ((n : ℝ) : EReal))) = _
  rw [decide_eq_decide.mpr (coe_nat_lt _ _)]

/-! ## The arguments and the result -/

/-- A map's places. -/
abbrev Place : Type := S16x1x512x512.Idx

theorem card_place : Fintype.card Place = 4194304 := (Shape.card_idx S16x1x512x512).trans (by decide)

/-- Where an entry of the reshaped array comes from. -/
def placeOf : S8192x512.Idx ≃ Place := Shape.reshapeEquiv shapeCasts_S16x1x512x512_S8192x512

/-- The two maps the losses are taken of. -/
def second (a b : Place → EReal) : Place → EReal := fun i => scaled (a i) (b i)

/-- The loss, given what each map's kept entries add up to. -/
def answer (p th tp tt : Place → EReal) (S B : EReal) : EReal :=
  mapLoss p tp S + Ideal.ofBits .f32 0x3F800000#32 * mapLoss (second p th) (second tp tt) B
    + Ideal.ofBits .f32 0x41200000#32 * Ideal.div (∑ i, max (th i - tt i) (-(th i - tt i))) (Ideal.ofBits .f32 0x4A800000#32)

variable (V : Dev nD → Valuation τ sig (Elt Ideal)) (c : Dev nD)

/-- The arguments. -/
abbrev inP : Place → EReal := V c main_arg0
abbrev inTh : Place → EReal := V c main_arg1
abbrev inTp : Place → EReal := V c main_arg2
abbrev inTt : Place → EReal := V c main_arg3

theorem reshaped : at1 V c main_v0 = inP V c ∘ placeOf ∧ at1 V c main_v1 = inTh V c ∘ placeOf ∧ at1 V c main_v2 = inTp V c ∘ placeOf
    ∧ at1 V c main_v3 = inTt V c ∘ placeOf := by
  unfold at1
  refine ⟨?_, ?_, ?_, ?_⟩ <;> (after_results; rfl)

/-- A statistic's sum over the reshaped arrays is that over the arguments. -/
theorem stat_total (w : Fin 7) (j : S_.Idx) : (total (statTo w (at1 V c main_v0) (at1 V c main_v1) (at1 V c main_v2) (at1 V c main_v3) 31) j : EReal) =
    ∑ i, part w (inP V c i) (inTh V c i) (inTp V c i) (inTt V c i) := by
  obtain ⟨h0, h1, h2, h3⟩ := reshaped V c
  rw [total_sum, sum_statTo, h0, h1, h2, h3]
  exact Equiv.sum_comp placeOf fun i => part w (inP V c i) (inTh V c i) (inTp V c i) (inTt V c i)

theorem ones_total (t : Place → EReal) : (by classical exact ∑ i, if half < t i then (1 : EReal) else 0) = ((posCount t : ℝ) : EReal) := by
  classical
  exact sum_ones _

end Cert.Balanced

end
-- ==== Proof.Result.lean ====
/-
  The kernel's result at the exact values, part by part: the loss of the two maps and the distance of the thresholds.
-/
module

public import proofs.«01_k».proof.Proof.Arms

@[expose] public section

set_option maxRecDepth 16384

noncomputable section

namespace Cert.Balanced

open Cert.KernelIdeal Cert.KernelIdeal.Gen
open Idealize.ShloMosaic Idealize.ShloMosaic.TcCoe Idealize.ShloMosaic.Tactic
open Idealize.ShloMosaic.StableHlo (after)
open Finset

variable (V : Dev nD → Valuation τ sig (Elt Ideal)) (c : Dev nD)

/-- The second map. -/
abbrev inX : Place → EReal := second (inP V c) (inTh V c)
abbrev inT : Place → EReal := second (inTp V c) (inTt V c)

/-- An accumulator's total after the statistics, from what each entry adds. -/
theorem stat_sum (w : Fin 7) (f : Place → EReal) (h : ∀ i, part w (inP V c i) (inTh V c i) (inTp V c i) (inTt V c i) = f i) (j : S_.Idx) :
    (total (statTo w (at1 V c main_v0) (at1 V c main_v1) (at1 V c main_v2) (at1 V c main_v3) 31) j : EReal) = ∑ i, f i :=
  (stat_total V c w j).trans (Finset.sum_congr rfl fun i _ => h i)

theorem split_total (t : Place → EReal) : posCount t + negCount t = 4194304 := (counts t).trans card_place

open Classical in
/-- At the first branch: the counts and the sums over the targets. -/
theorem at3_sums : at3 V c main_v5 = places (posCount (inTp V c)) ∧ at3 V c main_v6 = (fun _ => posSum (inP V c) (inTp V c))
    ∧ at3 V c main_v8 = places (posCount (inT V c)) ∧ at3 V c main_v9 = (fun _ => posSum (inX V c) (inT V c))
    ∧ at3 V c main_v10 = (fun _ => ∑ i, loss (inX V c i) (inT V c i))
    ∧ at3 V c main_v11 = (fun _ => ∑ i, max (inTh V c i - inTt V c i) (-(inTh V c i - inTt V c i))) := by
  obtain ⟨h5, h6, h8, h9, h10, h11⟩ := stage0 (at2 V c)
  refine ⟨h5.trans ?_, h6.trans ?_, h8.trans ?_, h9.trans ?_, h10.trans ?_, h11.trans ?_⟩
  · funext j
    exact (congrFun (congrArg total (after_stats0 (at1 V c))) j).trans <| (stat_sum V c 0 (fun i => if half < inTp V c i then 1 else 0) (fun _ => rfl) j).trans (sum_ones _)
  · funext j
    exact (congrFun (congrArg total (after_stats1 (at1 V c))) j).trans <| stat_sum V c 1 (fun i => if half < inTp V c i then loss (inP V c i) (inTp V c i) else 0) (fun _ => rfl) j
  · funext j
    exact (congrFun (congrArg total (after_stats3 (at1 V c))) j).trans <| (stat_sum V c 3 (fun i => if half < inT V c i then 1 else 0) (fun _ => rfl) j).trans (sum_ones _)
  · funext j
    exact (congrFun (congrArg total (after_stats4 (at1 V c))) j).trans <| stat_sum V c 4 (fun i => if half < inT V c i then loss (inX V c i) (inT V c i) else 0) (fun _ => rfl) j
  · funext j
    exact (congrFun (congrArg total (after_stats5 (at1 V c))) j).trans <| stat_sum V c 5 (fun i => loss (inX V c i) (inT V c i)) (fun _ => rfl) j
  · funext j
    exact (congrFun (congrArg total (after_stats6 (at1 V c))) j).trans <| stat_sum V c 6 (fun i => max (inTh V c i - inTt V c i) (-(inTh V c i - inTt V c i))) (fun _ => rfl) j

/-- At the first branch: what is kept of the first map. -/
theorem at3_kept : at3 V c main_v12 = (fun _ => (∑ i, loss (inP V c i) (inTp V c i)) - posSum (inP V c) (inTp V c))
    ∧ at3 V c main_v15 = places (keptCount (inTp V c))
    ∧ (at3 V c main_v16 : IVec S_ 1) point = BitVec.ofBool (decide (keptCount (inTp V c) < negCount (inTp V c))) := by
  obtain ⟨h12, h15, h16⟩ := stage0_kept (at2 V c)
  obtain ⟨a5, a6, -⟩ := at3_sums V c
  obtain ⟨h5, h6, -⟩ := stage0 (at2 V c)
  replace a5 := h5.symm.trans a5
  replace a6 := h6.symm.trans a6
  have hn := split_total (inTp V c)
  refine ⟨h12.trans ?_, h15.trans ?_, (congrFun h16 point).trans ?_⟩
  · rw [a6, show total (at2 V c main_v4_2) = _ from congrArg total (after_stats2 (at1 V c))]
    funext j
    show (total (statTo 2 (at1 V c main_v0) (at1 V c main_v1) (at1 V c main_v2) (at1 V c main_v3) 31) j : EReal) - _ = _
    rw [stat_sum V c 2 (fun i => loss (inP V c i) (inTp V c i)) (fun _ => rfl) j]
  · rw [a5, keepOf_places _ _ hn]
    rfl
  · rw [a5, keepOf_places _ _ hn, restOf_places _ _ hn, test_places]
    rfl

/-- The reshaped arrays stay. -/
theorem at3_keep {r : Ref sig .tc} (h : r ∉ written 0 ∧ r ∉ hostOps1_names) : at3 V c r = at1 V c r :=
  (hostOps1_keep h.2 _).trans (leaves_ne 0 _ _ h.1)
theorem at5_keep {r : Ref sig .tc} (h : (r ∉ branch0_names ∧ r ∉ trip0_names) ∧ r ∉ hostOps1_1_names) : at5 V c r = at3 V c r :=
  (hostOps1_1_keep h.2 _).trans (branch0_keep h.1.1 h.1.2 _)

/-- The losses the bisections read, as those of the arguments. -/
theorem lossS_at3 : (lossS (at3 V c main_v0) (at3 V c main_v2) : S8192x512.Idx → EReal) = keptLoss (inP V c) (inTp V c) ∘ placeOf := by
  obtain ⟨h0, h1, h2, h3⟩ := reshaped V c
  rw [at3_keep V c (r := main_v0) (by decide), at3_keep V c (r := main_v2) (by decide), h0, h2]
  funext i
  exact lossS_apply _ _ i
theorem lossB_at5 : (lossB (at5 V c main_v0) (at5 V c main_v1) (at5 V c main_v2) (at5 V c main_v3) : S8192x512.Idx → EReal) = keptLoss (inX V c) (inT V c) ∘ placeOf := by
  obtain ⟨h0, h1, h2, h3⟩ := reshaped V c
  rw [at5_keep V c (r := main_v0) (by decide), at5_keep V c (r := main_v1) (by decide), at5_keep V c (r := main_v2) (by decide), at5_keep V c (r := main_v3) (by decide),
    at3_keep V c (r := main_v0) (by decide), at3_keep V c (r := main_v1) (by decide), at3_keep V c (r := main_v2) (by decide), at3_keep V c (r := main_v3) (by decide), h0, h1, h2, h3]
  funext i
  exact lossB_apply _ _ _ _ i

variable (hP : AllReal (inP V c)) (hTh : AllReal (inTh V c)) (hTp : AllReal (inTp V c)) (hTt : AllReal (inTt V c))

include hP hTp in
/-- What the first branch leaves. -/
theorem at4_top (j : S_.Idx) : (at4 V c main_v18 j : EReal) = negSum (inP V c) (inTp V c) := by
  obtain ⟨h12, h15, h16⟩ := at3_kept V c
  have hb : keptCount (inTp V c) ≤ above (ι := S8192x512.Idx) (lossS (at3 V c main_v0) (at3 V c main_v2)) ⊥ := by
    rw [lossS_at3, above_comp, above_bot hP hTp]
    exact min_le_left _ _
  have := branch0_value (at3 V c) _ _ h15 h16 hb j
  rw [lossS_at3, halve_comp, topBy_comp, h12] at this
  exact this

theorem at5_sums : at5 V c main_v8 = places (posCount (inT V c)) ∧ at5 V c main_v9 = (fun _ => posSum (inX V c) (inT V c))
    ∧ at5 V c main_v11 = (fun _ => ∑ i, max (inTh V c i - inTt V c i) (-(inTh V c i - inTt V c i))) := by
  obtain ⟨-, -, h8, h9, -, h11⟩ := at3_sums V c
  exact ⟨(at5_keep V c (by decide)).trans h8, (at5_keep V c (by decide)).trans h9, (at5_keep V c (by decide)).trans h11⟩

/-- At the second branch: what is kept of the second map. -/
theorem at5_kept : at5 V c main_v22 = (fun _ => (∑ i, loss (inX V c i) (inT V c i)) - posSum (inX V c) (inT V c))
    ∧ at5 V c main_v25 = places (keptCount (inT V c))
    ∧ (at5 V c main_v26 : IVec S_ 1) point = BitVec.ofBool (decide (keptCount (inT V c) < negCount (inT V c))) := by
  obtain ⟨-, h22, h25, h26⟩ := stage1 (at4 V c)
  obtain ⟨-, -, a8, a9, a10, -⟩ := at3_sums V c
  have b8 : at4 V c main_v8 = _ := (branch0_keep (r := main_v8) (by decide) (by decide) _).trans a8
  have b9 : at4 V c main_v9 = _ := (branch0_keep (r := main_v9) (by decide) (by decide) _).trans a9
  have b10 : at4 V c main_v10 = _ := (branch0_keep (r := main_v10) (by decide) (by decide) _).trans a10
  have hn := split_total (inT V c)
  refine ⟨h22.trans ?_, h25.trans ?_, (congrFun h26 point).trans ?_⟩
  · rw [b9, b10]
    rfl
  · rw [b8, keepOf_places _ _ hn]
    rfl
  · rw [b8, keepOf_places _ _ hn, restOf_places _ _ hn, test_places]
    rfl

include hP hTp in
/-- The first map's loss. -/
theorem at5_loss (j : S_.Idx) : (at5 V c main_v21 j : EReal) = mapLoss (inP V c) (inTp V c) (negSum (inP V c) (inTp V c)) := by
  obtain ⟨h21, -⟩ := stage1 (at4 V c)
  obtain ⟨a5, a6, -⟩ := at3_sums V c
  obtain ⟨-, a15, -⟩ := at3_kept V c
  have b5 : at4 V c main_v5 = _ := (branch0_keep (r := main_v5) (by decide) (by decide) _).trans a5
  have b6 : at4 V c main_v6 = _ := (branch0_keep (r := main_v6) (by decide) (by decide) _).trans a6
  have b15 : at4 V c main_v15 = _ := (branch0_keep (r := main_v15) (by decide) (by decide) _).trans a15
  rw [b5, b6, b15] at h21
  refine (congrFun h21 j).trans ?_
  show Ideal.div (posSum (inP V c) (inTp V c) + (at4 V c main_v18 j : EReal)) (((posCount (inTp V c) : ℝ) : EReal) + ((keptCount (inTp V c) : ℝ) : EReal)) = _
  rw [at4_top V c hP hTp j, ← EReal.coe_add]
  rfl

include hP hTh hTp hTt in
/-- What the second branch leaves. -/
theorem at6_top (j : S_.Idx) : (at6 V c main_v28 j : EReal) = negSum (inX V c) (inT V c) := by
  obtain ⟨h22, h25, h26⟩ := at5_kept V c
  have hb : keptCount (inT V c) ≤ above (ι := S8192x512.Idx) (lossB (at5 V c main_v0) (at5 V c main_v1) (at5 V c main_v2) (at5 V c main_v3)) ⊥ := by
    rw [lossB_at5, above_comp, above_bot (x := inX V c) (t := inT V c) (AllReal.scaled hP hTh) (AllReal.scaled hTp hTt)]
    exact min_le_left _ _
  have := branch1_value (at5 V c) _ _ h25 h26 hb j
  rw [lossB_at5, halve_comp, topBy_comp, h22] at this
  exact this

include hP hTh hTp hTt in
/-- The kernel's result. -/
theorem last_value (j : S_.Idx) : (last V c main_v36 j : EReal) =
    answer (inP V c) (inTh V c) (inTp V c) (inTt V c) (negSum (inP V c) (inTp V c)) (negSum (inX V c) (inT V c)) := by
  obtain ⟨a8, a9, a11⟩ := at5_sums V c
  obtain ⟨-, a25, -⟩ := at5_kept V c
  have b8 : at6 V c main_v8 = _ := (branch1_keep (r := main_v8) (by decide) (by decide) _).trans a8
  have b9 : at6 V c main_v9 = _ := (branch1_keep (r := main_v9) (by decide) (by decide) _).trans a9
  have b11 : at6 V c main_v11 = _ := (branch1_keep (r := main_v11) (by decide) (by decide) _).trans a11
  have b25 : at6 V c main_v25 = _ := (branch1_keep (r := main_v25) (by decide) (by decide) _).trans a25
  have b21 : at6 V c main_v21 = _ := branch1_keep (r := main_v21) (by decide) (by decide) _
  have a21 : at5 V c main_v21 = fun _ => mapLoss (inP V c) (inTp V c) (negSum (inP V c) (inTp V c)) := funext fun j => at5_loss V c hP hTp j
  have b28 : at6 V c main_v28 = fun _ => negSum (inX V c) (inT V c) := funext fun j => at6_top V c hP hTh hTp hTt j
  have h36 := stage2 (at6 V c)
  rw [b8, b9, b11, b25, b21, a21, b28] at h36
  refine (congrFun h36 j).trans ?_
  show mapLoss (inP V c) (inTp V c) (negSum (inP V c) (inTp V c)) + Ideal.ofBits .f32 0x3F800000#32 * Ideal.div (posSum (inX V c) (inT V c) + negSum (inX V c) (inT V c))
      (((posCount (inT V c) : ℝ) : EReal) + ((keptCount (inT V c) : ℝ) : EReal))
    + Ideal.ofBits .f32 0x41200000#32 * Ideal.div (∑ i, max (inTh V c i - inTt V c i) (-(inTh V c i - inTt V c i))) (Ideal.ofBits .f32 0x4A800000#32) = _
  rw [← EReal.coe_add]
  rfl

end Cert.Balanced

end
-- ==== Proof.Sorted.lean ====
/-
  The reference's host operations at the exact values: counting a mask, asking whether any bit is set, sorting in falling
  order and adding up the first entries.
-/
module

public import proofs.«01_k».proof.Proof.Map
public import Idealize.ShloMosaic.Lib.SortFacts
public import Idealize.ShloMosaic.Lib.ValueIdx

@[expose] public section

set_option maxRecDepth 16384

noncomputable section

namespace Cert.Balanced

open Idealize.ShloMosaic
open Finset

/-! ## Folds over a whole array -/

/-- A reduction to a scalar runs over every place. -/
theorem reduce_all {α : Type} {s t u : Shape} {axes : List (Fin s.rank)} (ht : t.rank = 0) (f : α → α → α) (x : s.Idx → α) (init : u.Idx → α)
    (h : s.ReducesTo axes t) (hu : 0 < u.numel) (j : t.Idx) :
    Host.reduce f x init h hu j = (List.finRange s.numel).foldl (fun r n => f r (x (s.rowMajor.symm n))) (init (Shape.Idx.first hu)) := by
  unfold Host.reduce
  rw [List.filter_eq_self.mpr fun n _ => decide_eq_true (funext fun a => (Fin.cast ht a).elim0)]

theorem fold_count {α : Type} (p : α → Bool) : ∀ (l : List α) (a : ℕ),
    l.foldl (fun r n => IntOp.addi r ((BitVec.ofBool (p n)).setWidth 32)) (BitVec.ofNat 32 a) = BitVec.ofNat 32 (a + l.countP p)
  | [], a => rfl
  | n :: l, a => by
    have h : IntOp.addi (BitVec.ofNat 32 a) ((BitVec.ofBool (p n)).setWidth 32) = BitVec.ofNat 32 (a + if p n then 1 else 0) := by
      show BitVec.ofNat 32 a + _ = _
      rw [BitVec.ofNat_add]
      congr 1
      cases p n <;> rfl
    rw [List.foldl_cons, h, fold_count p l, List.countP_cons]
    congr 1
    omega

/-- The count of a mask. -/
theorem reduce_count {s t u : Shape} {axes : List (Fin s.rank)} (ht : t.rank = 0) (p : s.Idx → Bool) (x : IVec s 32) (hx : ∀ i, x i = (BitVec.ofBool (p i)).setWidth 32)
    (init : IVec u 32) (hi : ∀ i, init i = 0#32) (h : s.ReducesTo axes t) (hu : 0 < u.numel) (j : t.Idx) :
    Host.reduce IntOp.addi x init h hu j = BitVec.ofNat 32 (univ.filter fun i => p i = true).card := by
  rw [reduce_all ht, hi, funext hx]
  refine (fold_count (fun n => p (s.rowMajor.symm n)) _ 0).trans ?_
  congr 1
  rw [zero_add]
  have : (List.finRange s.numel).countP (fun n => p (s.rowMajor.symm n)) = (univ.filter fun n : Fin s.numel => p (s.rowMajor.symm n) = true).card := by
    rw [Finset.card_def, Finset.filter_val, ← Multiset.countP_eq_card_filter, Fin.univ_def]
    simp [Multiset.coe_countP]
  rw [this]
  exact card_bij (fun n _ => s.rowMajor.symm n) (fun n hn => by simpa using hn) (fun _ _ _ _ h => s.rowMajor.symm.injective h)
    fun i hi => ⟨s.rowMajor i, by simpa using hi, by simp⟩

theorem fold_any {α : Type} (f : α → BitVec 1) : ∀ (l : List α) (a : BitVec 1), l.foldl (fun r n => IntOp.ori r (f n)) a = 1#1 → a = 1#1 ∨ ∃ n, f n = 1#1
  | [], a, h => Or.inl h
  | n :: l, a, h => by
    have hor : ∀ a b : BitVec 1, IntOp.ori a b = 1#1 → a = 1#1 ∨ b = 1#1 := by decide
    rcases fold_any f l _ h with h' | h'
    · rcases hor _ _ h' with h'' | h''
      exacts [Or.inl h'', Or.inr ⟨n, h''⟩]
    · exact Or.inr h'

/-- A set bit somewhere. -/
theorem reduce_any {s t u : Shape} {axes : List (Fin s.rank)} (ht : t.rank = 0) (x : IVec s 1) (init : IVec u 1) (hi : ∀ i, init i = 0#1)
    (h : s.ReducesTo axes t) (hu : 0 < u.numel) (j : t.Idx) (hr : Host.reduce IntOp.ori x init h hu j = 1#1) : ∃ i, x i = 1#1 := by
  rw [reduce_all ht, hi] at hr
  rcases fold_any _ _ _ hr with h' | ⟨n, hn⟩
  · exact absurd h' (by decide)
  · exact ⟨_, hn⟩

/-! ## Small words -/

theorem toInt_small {n : ℕ} (h : n < 2 ^ 31) : (BitVec.ofNat 32 n).toInt = n := by
  rw [BitVec.toInt_ofNat']
  simp only [Int.bmod_def]
  omega

theorem slt_small {a b : ℕ} (ha : a < 2 ^ 31) (hb : b < 2 ^ 31) : (BitVec.ofNat 32 a).slt (BitVec.ofNat 32 b) = decide (a < b) := by
  rw [BitVec.slt_eq_decide, toInt_small ha, toInt_small hb]
  simp

theorem minsi_small {a b : ℕ} (ha : a < 2 ^ 31) (hb : b < 2 ^ 31) : IntOp.minsi (BitVec.ofNat 32 a) (BitVec.ofNat 32 b) = BitVec.ofNat 32 (min a b) := by
  show (if (BitVec.ofNat 32 a).slt (BitVec.ofNat 32 b) then _ else _) = _
  rw [slt_small ha hb]
  by_cases h : a < b
  · simp [h, min_eq_left h.le]
  · simp [h, min_eq_right (not_lt.mp h)]

/-! ## The sort -/

/-- The places of a flat array. -/
abbrev Flat : Shape := ⟨1, ![4194304]⟩

def spot : Fin 4194304 ≃ Flat.Idx where
  toFun j := fun a => ⟨j.val, by revert a; exact fun a => by fin_cases a; exact j.isLt⟩
  invFun i := i 0
  left_inv _ := rfl
  right_inv i := funext fun a => by fin_cases a; rfl

/-- Flipping the signs, sorting in rising order and flipping them back sorts in falling order. -/
def falling (cmp : EReal → EReal → BitVec 1) (z : Flat.Idx → EReal) (j : Fin 4194304) : EReal :=
  -(Host.sort Flat 0 cmp (fun i => -z i) (spot j))

theorem falling_spec {cmp : EReal → EReal → BitVec 1} (hc : ∀ l r, cmp l r = BitVec.ofBool (decide (l < r))) (z : Flat.Idx → EReal) :
    (∃ e : Fin 4194304 ≃ Flat.Idx, falling cmp z = z ∘ e) ∧ ∀ i j, i ≤ j → falling cmp z j ≤ falling cmp z i := by
  let R : Fin 4194304 → Fin 4194304 → Bool := fun k k' => cmp (-z (spot k)) (-z (spot k')) == 1#1
  have hR : ∀ k k', R k k' = decide (-z (spot k) < -z (spot k')) := fun k k' => by
    show (cmp (-z (spot k)) (-z (spot k')) == 1#1) = _
    rw [hc]
    cases decide (-z (spot k) < -z (spot k')) <;> rfl
  have along : ∀ j k, Shape.Idx.along (s := Flat) (spot j) 0 k = spot k := fun j k => funext fun a => by
    fin_cases a
    exact Function.update_self ..
  have hf : ∀ j, falling cmp z j = z (spot (sortedFrom R j)) := fun j => by
    unfold falling Host.sort
    rw [dif_pos (by decide : 0 < Flat.rank)]
    show - - z (Shape.Idx.along (s := Flat) (spot j) 0 (sortedFrom (fun k k' => cmp (-z (Shape.Idx.along (s := Flat) (spot j) 0 k)) (-z (Shape.Idx.along (s := Flat) (spot j) 0 k')) == 1#1) j)) = _
    rw [neg_neg, along]
    simp only [along]
    rfl
  refine ⟨⟨(Equiv.ofBijective (sortedFrom R) ⟨sortedFrom_injective R, sortedFrom_surjective R⟩).trans spot, funext hf⟩, fun i j hij => ?_⟩
  rw [hf, hf]
  rcases hij.lt_or_eq with h | h
  · have := sortedFrom_noInversion R R (fun a b h => by rw [hR] at h ⊢; exact decide_eq_false (lt_asymm (of_decide_eq_true h))) (fun _ _ h => h)
      (fun a b c h h' => by
        rw [hR] at h h' ⊢
        exact decide_eq_false (not_lt.mpr ((not_lt.mp (of_decide_eq_false h')).trans (not_lt.mp (of_decide_eq_false h))))) i j h
    rw [hR] at this
    exact EReal.neg_le_neg_iff.mp (not_lt.mp (of_decide_eq_false this))
  · rw [h]

/-- The first entries' sum as the reference takes it. -/
theorem first_sum (y : Flat.Idx → EReal) (k : ℕ) : (∑ i : Flat.Idx, if (i 0).val < k then y i else 0) = topFirst (fun j => y (spot j)) k :=
  (Equiv.sum_comp spot fun i : Flat.Idx => if (i 0).val < k then y i else 0).symm

end Cert.Balanced

end
-- ==== Proof.Reference.lean ====
/-
  The reference's result at the exact values, as the same formula over the four arguments as the kernel's.
-/
module

public import proofs.«01_k».proof.Proof.Sorted
public import proofs.«01_k».proof.Proof.Arms
public import proofs.«01_k».proof.Proof.Gen.ReferenceIdeal.Run

@[expose] public section

set_option maxRecDepth 16384

noncomputable section

namespace Cert.Balanced

open Cert.ReferenceIdeal Cert.ReferenceIdeal.Gen
open Idealize.ShloMosaic Idealize.ShloMosaic.TcCoe
open Finset

/-- Where an entry of the flat array comes from. -/
def flatOf : Flat.Idx ≃ Place := Shape.reshapeEquiv shapeCasts_S16x1x512x512_S4194304

theorem less_spec (l r : EReal) : comparator_f32_d0 (F := Ideal) l r = BitVec.ofBool (decide (l < r)) := by
  have pick : ∀ a : EReal, (if Ideal.cmp .une a a = 1#1 then (Ideal.ofBits .f32 0x7FC00000#32 : EReal)
      else if Ideal.cmp .oeq a (Ideal.ofBits .f32 0x00000000#32) = 1#1 then (Ideal.ofBits .f32 0x00000000#32 : EReal) else a) = a := fun a => by
    rw [if_neg (by unfold Ideal.cmp; simp)]
    unfold Ideal.cmp
    rw [Ideal.ofBits_zero_f32]
    by_cases h : a = 0 <;> simp [h]
  show Ideal.cmp .olt (if Ideal.cmp .une l l = 1#1 then (Ideal.ofBits .f32 0x7FC00000#32 : EReal)
      else if Ideal.cmp .oeq l (Ideal.ofBits .f32 0x00000000#32) = 1#1 then (Ideal.ofBits .f32 0x00000000#32 : EReal) else l)
    (if Ideal.cmp .une r r = 1#1 then (Ideal.ofBits .f32 0x7FC00000#32 : EReal)
      else if Ideal.cmp .oeq r (Ideal.ofBits .f32 0x00000000#32) = 1#1 then (Ideal.ofBits .f32 0x00000000#32 : EReal) else r) = _
  rw [pick, pick]
  rfl

/-! ## Counts -/

section Counts
variable {t : Place → EReal} {M : IVec S16x1x512x512 1} (hM : ∀ i, M i = BitVec.ofBool (decide (half < t i)))
include hM

theorem pos_words (j : S_.Idx) : Host.reduce IntOp.addi (extui 32 (cmpi .ne M (broadcastInDim S16x1x512x512 ![] bcast_S_S16x1x512x512 (constantI S_ 1 0#1))) natLt_1_32)
    (constantI S_ 32 0#32) reducesTo_S16x1x512x512_S_d0_1_2_3 h_S_ j = BitVec.ofNat 32 (posCount t) := by
  refine (reduce_count rfl (fun i => decide (half < t i)) _ (fun i => ?_) _ (fun _ => rfl) _ _ j).trans ?_
  · show (IntOp.cmpi .ne (M i) 0#1).setWidth 32 = _
    rw [hM]
    cases decide (half < t i) <;> rfl
  · unfold posCount
    simp only [decide_eq_true_eq]

theorem neg_words (j : S_.Idx) : Host.reduce IntOp.addi (extui 32 (cmpi .ne (noti M) (broadcastInDim S16x1x512x512 ![] bcast_S_S16x1x512x512 (constantI S_ 1 0#1))) natLt_1_32)
    (constantI S_ 32 0#32) reducesTo_S16x1x512x512_S_d0_1_2_3 h_S_ j = BitVec.ofNat 32 (negCount t) := by
  refine (reduce_count rfl (fun i => !decide (half < t i)) _ (fun i => ?_) _ (fun _ => rfl) _ _ j).trans ?_
  · show (IntOp.cmpi .ne (~~~ (M i)) 0#1).setWidth 32 = _
    rw [hM]
    cases decide (half < t i) <;> rfl
  · unfold negCount
    simp only [Bool.not_eq_true', decide_eq_false_iff_not]

theorem kept_words (P : IVec S_ 32) (hP : ∀ j, P j = BitVec.ofNat 32 (posCount t)) (j : S_.Idx) :
    minsi (Host.reduce IntOp.addi (extui 32 (cmpi .ne (noti M) (broadcastInDim S16x1x512x512 ![] bcast_S_S16x1x512x512 (constantI S_ 1 0#1))) natLt_1_32)
      (constantI S_ 32 0#32) reducesTo_S16x1x512x512_S_d0_1_2_3 h_S_) (muli (constantI S_ 32 3#32) P) j = BitVec.ofNat 32 (keptCount t) := by
  have hc := (counts t).trans card_place
  show IntOp.minsi (Host.reduce _ _ _ _ _ j) (3#32 * P j) = _
  rw [neg_words hM, hP, show (3#32 : BitVec 32) = BitVec.ofNat 32 3 from rfl, ← BitVec.ofNat_mul, minsi_small (by omega) (by omega)]
  rfl

end Counts

/-! ## One map -/

theorem flat_total (y : S4194304.Idx → EReal) (j : S_.Idx) :
    Host.reduceAdd (F := Ideal) (φ := .f32) y (constant S_ .f32 0x00000000#32) reducesTo_S4194304_S_d0 h_S_ j = ∑ i, y i := by
  refine (Ideal.hostReduceAdd_total reducesTo_S4194304_S_d0 (fun b => b.elim0) y _ j).trans ?_
  rw [show (constant (F := Ideal) S_ .f32 0x00000000#32 _ : EReal) = 0 from zero_f32, zero_add]
theorem place_total (y : Place → EReal) (j : S_.Idx) :
    Host.reduceAdd (F := Ideal) (φ := .f32) y (constant S_ .f32 0x00000000#32) reducesTo_S16x1x512x512_S_d0_1_2_3 h_S_ j = ∑ i, y i := by
  refine (Ideal.hostReduceAdd_total reducesTo_S16x1x512x512_S_d0_1_2_3 (fun b => b.elim0) y _ j).trans ?_
  rw [show (constant (F := Ideal) S_ .f32 0x00000000#32 _ : EReal) = 0 from zero_f32, zero_add]

/-- The losses of a map's kept entries in falling order. -/
def sortedLoss (x t : Place → EReal) : Fin 4194304 → EReal := falling (comparator_f32_d0 (F := Ideal)) (keptLoss x t ∘ flatOf)

theorem sortedLoss_spec (x t : Place → EReal) : (∃ e : Fin 4194304 ≃ Place, sortedLoss x t = keptLoss x t ∘ e) ∧ ∀ i j, i ≤ j → sortedLoss x t j ≤ sortedLoss x t i := by
  obtain ⟨⟨e, he⟩, ha⟩ := falling_spec less_spec (keptLoss x t ∘ flatOf)
  exact ⟨⟨e.trans flatOf, he⟩, ha⟩

theorem pick_bool {α : Type} (p : Prop) [Decidable p] (x y : α) : (if BitVec.ofBool (decide p) = 1#1 then x else y) = if p then x else y := by
  by_cases h : p <;> simp [h]

/-- The reference's loss of one map. -/
theorem map_loss {x t : Place → EReal} {M : IVec S16x1x512x512 1} (hM : ∀ i, M i = BitVec.ofBool (decide (half < t i)))
    {L : FVec Ideal S16x1x512x512 .f32} (hL : ∀ i, L i = loss (x i) (t i)) {P K : IVec S_ 32} (hP : ∀ j, P j = BitVec.ofNat 32 (posCount t))
    (hK : ∀ j, K j = BitVec.ofNat 32 (keptCount t)) (j : S_.Idx) :
    Host.divf (addf (Host.reduceAdd (select M L (broadcastInDim S16x1x512x512 ![] bcast_S_S16x1x512x512 (id (constant S_ .f32 0x00000000#32)))) (constant S_ .f32 0x00000000#32) reducesTo_S16x1x512x512_S_d0_1_2_3 h_S_)
      (Host.reduceAdd (select (cmpi .slt (iotaInDim S4194304 32 0) (broadcastInDim S4194304 ![] bcast_S_S4194304 K))
        (Host.negf (Host.sort S4194304 0 comparator_f32_d0 (Host.negf (shapeCast _ (select M (broadcastInDim S16x1x512x512 ![] bcast_S_S16x1x512x512 (id (constant S_ .f32 0xFF800000#32))) L) shapeCasts_S16x1x512x512_S4194304))))
        (broadcastInDim S4194304 ![] bcast_S_S4194304 (id (constant S_ .f32 0x00000000#32)))) (constant S_ .f32 0x00000000#32) reducesTo_S4194304_S_d0 h_S_))
      (sitofp .f32 (addi P K)) j = mapLoss x t (topFirst (sortedLoss x t) (keptCount t)) := by
  classical
  have hc := (counts t).trans card_place
  have hk : keptCount t ≤ negCount t := min_le_left _ _
  obtain rfl := funext hM
  obtain rfl := funext hL
  obtain rfl := funext hP
  obtain rfl := funext hK
  refine (show _ = Ideal.div (Host.reduceAdd (F := Ideal) (φ := .f32) _ _ _ _ j + Host.reduceAdd (F := Ideal) (φ := .f32) _ _ _ _ j)
    ((((BitVec.ofNat 32 (posCount t) + BitVec.ofNat 32 (keptCount t)).toInt : ℝ) : EReal)) from rfl).trans ?_
  rw [flat_total, place_total, ← BitVec.ofNat_add, toInt_small (by omega)]
  unfold mapLoss
  refine congrArg₂ Ideal.div (congrArg₂ (· + ·) ?_ ?_) ?_
  · unfold posSum
    refine Finset.sum_congr rfl fun i _ => ?_
    show (if BitVec.ofBool (decide (half < t i)) = 1#1 then loss (x i) (t i) else (FloatOps.ofBits .f32 0x00000000#32 : Ideal .f32)) = _
    rw [pick_bool, zero_f32]
  · refine Eq.trans ?_ (first_sum (fun i => -(Host.sort Flat 0 (comparator_f32_d0 (F := Ideal)) (fun i => -(keptLoss x t (flatOf i))) i)) (keptCount t))
    refine Finset.sum_congr rfl fun i _ => ?_
    have hi : (i 0).val < 4194304 := (i 0).isLt
    have hz : (fun i => -(keptLoss x t (flatOf i))) = Host.negf (F := Ideal) (φ := .f32) (shapeCast S4194304 (select (fun i => BitVec.ofBool (decide (half < t i)))
        (broadcastInDim S16x1x512x512 ![] bcast_S_S16x1x512x512 (id (constant S_ .f32 0xFF800000#32))) (fun i => loss (x i) (t i))) shapeCasts_S16x1x512x512_S4194304) := by
      funext i
      show -(keptLoss x t (flatOf i)) = -(if BitVec.ofBool (decide (half < t (flatOf i))) = 1#1 then Ideal.ofBits .f32 0xFF800000#32 else loss (x (flatOf i)) (t (flatOf i)))
      rw [pick_bool, float_bot]
      rfl
    rw [hz]
    show (if BitVec.ofBool ((BitVec.ofNat 32 (i 0).val).slt (BitVec.ofNat 32 (keptCount t))) = 1#1 then _ else (FloatOps.ofBits .f32 0x00000000#32 : Ideal .f32)) = _
    rw [slt_small (by omega) (by omega), pick_bool, zero_f32]
    rfl
  · push_cast
    rfl

/-! ## The losses -/

/-- The logarithm of a sum of exponentials with zero, as the reference's program writes it. -/
def softHost (z x : EReal) : EReal :=
  if Ideal.cmp .une (x - z) (x - z) = 1#1 then x + z else max x z + Ideal.log1p (Ideal.exp (-(max (x - z) (-(x - z)))))

theorem softHost_zero (x : EReal) : softHost (Ideal.ofBits .f32 0x00000000#32) x = soft x := by
  unfold softHost
  rw [if_neg (by unfold Ideal.cmp; simp), Ideal.ofBits_zero_f32, sub_zero]
  unfold soft
  rw [zero_sub]

theorem loss_host {x t : Place → EReal} (hx : AllReal x) (ht : AllReal t) (i : Place) :
    t i * softHost (Ideal.ofBits .f32 0x00000000#32) (-x i) + (Ideal.ofBits .f32 0x3F800000#32 - t i) * softHost (Ideal.ofBits .f32 0x00000000#32) (x i) = loss (x i) (t i) := by
  obtain ⟨a, ha⟩ := hx i
  obtain ⟨b, hb⟩ := ht i
  rw [softHost_zero, softHost_zero, ha, hb, show Ideal.ofBits .f32 0x3F800000#32 = (1 : EReal) from one_f32, loss_two]

/-! ## The result -/

open Cert.ReferenceIdeal.Value

variable (V : Valuation τ sig (Elt Ideal))

abbrev refP : Place → EReal := V (Proc.devRef .tc main_arg0)
abbrev refTh : Place → EReal := V (Proc.devRef .tc main_arg1)
abbrev refTp : Place → EReal := V (Proc.devRef .tc main_arg2)
abbrev refTt : Place → EReal := V (Proc.devRef .tc main_arg3)
abbrev refX : Place → EReal := second (refP V) (refTh V)
abbrev refT : Place → EReal := second (refTp V) (refTt V)

variable (hP : AllReal (refP V)) (hTh : AllReal (refTh V)) (hTp : AllReal (refTp V)) (hTt : AllReal (refTt V))

include hP hTp in
theorem first_loss (i : Place) : res_main_v20 V i = loss (refP V i) (refTp V i) :=
  (show _ = refTp V i * softHost (Ideal.ofBits .f32 0x00000000#32) (-refP V i)
    + (Ideal.ofBits .f32 0x3F800000#32 - refTp V i) * softHost (Ideal.ofBits .f32 0x00000000#32) (refP V i) from rfl).trans (loss_host hP hTp i)

include hP hTh hTp hTt in
theorem second_loss (i : Place) : res_main_v51 V i = loss (refX V i) (refT V i) :=
  (show _ = refT V i * softHost (Ideal.ofBits .f32 0x00000000#32) (-refX V i)
    + (Ideal.ofBits .f32 0x3F800000#32 - refT V i) * softHost (Ideal.ofBits .f32 0x00000000#32) (refX V i) from rfl).trans
    (loss_host (x := refX V) (t := refT V) (AllReal.scaled hP hTh) (AllReal.scaled hTp hTt) i)

theorem first_mask (i : Place) : res_main_v7 V i = BitVec.ofBool (decide (half < refTp V i)) := rfl
theorem second_mask (i : Place) : res_main_v38 V i = BitVec.ofBool (decide (half < refT V i)) := rfl

theorem first_pos (j : S_.Idx) : res_main_v8 V j = BitVec.ofNat 32 (posCount (refTp V)) := pos_words (first_mask V) j
theorem second_pos (j : S_.Idx) : res_main_v39 V j = BitVec.ofNat 32 (posCount (refT V)) := pos_words (second_mask V) j
theorem first_kept (j : S_.Idx) : res_main_v12 V j = BitVec.ofNat 32 (keptCount (refTp V)) := kept_words (first_mask V) _ (first_pos V) j
theorem second_kept (j : S_.Idx) : res_main_v43 V j = BitVec.ofNat 32 (keptCount (refT V)) := kept_words (second_mask V) _ (second_pos V) j

include hP hTh hTp hTt in
/-- The reference's result. -/
theorem reference_value (j : S_.Idx) : (addf (addf (Host.divf (addf (Host.reduceAdd (select (res_main_v7 V) (res_main_v20 V) (broadcastInDim S16x1x512x512 ![] bcast_S_S16x1x512x512 (id (constant S_ .f32 0x00000000#32)))) (constant S_ .f32 0x00000000#32) reducesTo_S16x1x512x512_S_d0_1_2_3 h_S_) (Host.reduceAdd (select (cmpi .slt (iotaInDim S4194304 32 0) (broadcastInDim S4194304 ![] bcast_S_S4194304 (res_main_v12 V))) (Host.negf (Host.sort S4194304 0 comparator_f32_d0 (Host.negf (shapeCast _ (select (res_main_v7 V) (broadcastInDim S16x1x512x512 ![] bcast_S_S16x1x512x512 (id (constant S_ .f32 0xFF800000#32))) (res_main_v20 V)) shapeCasts_S16x1x512x512_S4194304)))) (broadcastInDim S4194304 ![] bcast_S_S4194304 (id (constant S_ .f32 0x00000000#32)))) (constant S_ .f32 0x00000000#32) reducesTo_S4194304_S_d0 h_S_)) (sitofp .f32 (addi (res_main_v8 V) (res_main_v12 V)))) (mulf (constant S_ .f32 0x3F800000#32) (Host.divf (addf (Host.reduceAdd (select (res_main_v38 V) (res_main_v51 V) (broadcastInDim S16x1x512x512 ![] bcast_S_S16x1x512x512 (id (constant S_ .f32 0x00000000#32)))) (constant S_ .f32 0x00000000#32) reducesTo_S16x1x512x512_S_d0_1_2_3 h_S_) (Host.reduceAdd (select (cmpi .slt (iotaInDim S4194304 32 0) (broadcastInDim S4194304 ![] bcast_S_S4194304 (res_main_v43 V))) (Host.negf (Host.sort S4194304 0 comparator_f32_d0 (Host.negf (shapeCast _ (select (res_main_v38 V) (broadcastInDim S16x1x512x512 ![] bcast_S_S16x1x512x512 (id (constant S_ .f32 0xFF800000#32))) (res_main_v51 V)) shapeCasts_S16x1x512x512_S4194304)))) (broadcastInDim S4194304 ![] bcast_S_S4194304 (id (constant S_ .f32 0x00000000#32)))) (constant S_ .f32 0x00000000#32) reducesTo_S4194304_S_d0 h_S_)) (sitofp .f32 (addi (res_main_v39 V) (res_main_v43 V)))))) (mulf (constant S_ .f32 0x41200000#32) (Host.divf (Host.reduceAdd (Host.absf (subf (V (Proc.devRef .tc main_arg1)) (V (Proc.devRef .tc main_arg3)))) (constant S_ .f32 0x00000000#32) reducesTo_S16x1x512x512_S_d0_1_2_3 h_S_) (constant S_ .f32 0x4A800000#32))) : FVec Ideal S_ .f32) j =
    answer (refP V) (refTh V) (refTp V) (refTt V) (topFirst (sortedLoss (refP V) (refTp V)) (keptCount (refTp V))) (topFirst (sortedLoss (refX V) (refT V)) (keptCount (refT V))) := by
  have h1 := map_loss (first_mask V) (first_loss V hP hTp) (first_pos V) (first_kept V) j
  have h2 := map_loss (second_mask V) (second_loss V hP hTh hTp hTt) (second_pos V) (second_kept V) j
  have h3 := place_total (fun i => max (refTh V i - refTt V i) (-(refTh V i - refTt V i))) j
  unfold answer
  rw [← h1, ← h2, ← h3]
  rfl

end Cert.Balanced

end
-- ==== Proof.Kept.lean ====
/-
  What the precondition says at the exact values: the four arguments are real numbers, and of each map no entry is
  kept, or every negative one is, or the least kept loss is a whole number below `2 ^ 24` in size times a power of two
  in the range of float32.
-/
module

public import proofs.«01_k».proof.Pre_kept_exactly
public import proofs.«01_k».proof.Proof.Reference

@[expose] public section

set_option maxRecDepth 16384

noncomputable section

namespace Cert.Balanced

open Idealize.ShloMosaic Idealize.ShloMosaic.TcCoe
open Finset
open Cert.Pre_kept_exactly Cert.Pre_kept_exactly.Facts

/-- The shapes the precondition's operations take fit together. -/
theorem keptFacts : Cert.Pre_kept_exactly.Facts where
  bcast_S_S16x1x512x512 := by decide
  natLt_1_32 := by decide
  reducesTo_S16x1x512x512_S_d0_1_2_3 := by decide
  h_S_ := by decide
  shapeCasts_S16x1x512x512_S4194304 := by decide
  bcast_S_S4194304 := by decide
  reducesTo_S4194304_S_d0 := by decide
  bcast_S_S254 := by decide
  reducesTo_S254_S_d0 := by decide

variable [Cert.Pre_kept_exactly.Facts]

/-! ## The steps of the test, over a map's mask and its losses -/

section Steps
variable (M : IVec S16x1x512x512 1) (L : FVec Ideal S16x1x512x512 .f32)

def posWord : IVec S_ 32 := Host.reduce IntOp.addi (extui 32 M natLt_1_32) (constantI S_ 32 0#32) reducesTo_S16x1x512x512_S_d0_1_2_3 h_S_
def negWord : IVec S_ 32 := subi (constantI S_ 32 4194304#32) (posWord M)
def keptWord : IVec S_ 32 := minsi (negWord M) (muli (constantI S_ 32 3#32) (posWord M))

def inOrder : FVec Ideal S4194304 .f32 :=
  Host.negf (Host.sort S4194304 0 comparator_f32_d0 (Host.negf (shapeCast S4194304 (select M (broadcastInDim S16x1x512x512 ![] bcast_S_S16x1x512x512 (constant S_ .f32 0xFF800000#32)) L) shapeCasts_S16x1x512x512_S4194304)))

/-- The least kept loss. -/
def least : FVec Ideal S_ .f32 :=
  Host.reduceAdd (select (cmpi .eq (addi (iotaInDim S4194304 32 0) (broadcastInDim S4194304 ![] bcast_S_S4194304 (constantI S_ 32 1#32))) (broadcastInDim S4194304 ![] bcast_S_S4194304 (keptWord M)))
    (inOrder M L) (broadcastInDim S4194304 ![] bcast_S_S4194304 (constant S_ .f32 0x00000000#32))) (constant S_ .f32 0x00000000#32) reducesTo_S4194304_S_d0 h_S_

/-- The powers of two of float32's range. -/
def powers : FVec Ideal S254 .f32 :=
  bitcastToFloat .f32 (Host.shli (addi (iotaInDim S254 32 0) (broadcastInDim S254 ![] bcast_S_S254 (constantI S_ 32 1#32))) (broadcastInDim S254 ![] bcast_S_S254 (constantI S_ 32 23#32)))

/-- The least kept loss in units of a float's last place, for each of the exponents. -/
def units : FVec Ideal S254 .f32 :=
  mulf (Host.divf (broadcastInDim S254 ![] bcast_S_S254 (least M L)) powers) (broadcastInDim S254 ![] bcast_S_S254 (constant S_ .f32 0x4B000000#32))

/-- The test itself. -/
def exact : IVec S_ 1 :=
  ori (ori (Host.reduce IntOp.ori (andi (cmpf .olt (Host.absf (units M L)) (broadcastInDim S254 ![] bcast_S_S254 (constant S_ .f32 0x4B800000#32))) (cmpf .oeq (Host.floor (units M L)) (units M L)))
    (constantI S_ 1 0#1) reducesTo_S254_S_d0 h_S_) (cmpi .eq (keptWord M) (negWord M))) (cmpi .eq (keptWord M) (constantI S_ 32 0#32))

end Steps

/-! ## What the steps compute -/

theorem equal_words {a b : ℕ} (ha : a < 2 ^ 32) (hb : b < 2 ^ 32) : IntOp.cmpi .eq (BitVec.ofNat 32 a) (BitVec.ofNat 32 b) = BitVec.ofBool (decide (a = b)) := by
  unfold IntOp.cmpi
  congr 1
  rw [Bool.eq_iff_iff, decide_eq_true_eq, beq_iff_eq, ← BitVec.toNat_inj, BitVec.toNat_ofNat, BitVec.toNat_ofNat, Nat.mod_eq_of_lt ha, Nat.mod_eq_of_lt hb]

/-- The power of two of a float's pattern with a clear fraction. -/
theorem power_float (n : ℕ) (h : n < 254) : Ideal.ofBits .f32 (BitVec.ofNat 32 ((n + 1) * 2 ^ 23)) = (((2 : ℝ) ^ 23 * 2 ^ ((n : ℤ) - 149) : ℝ) : EReal) := by
  rw [float_pos _ (by omega)]
  unfold mag
  have e : (n + 1) * 2 ^ 23 / 2 ^ 23 = n + 1 := by omega
  rw [e, if_neg (by omega), show (n + 1) * 2 ^ 23 % 2 ^ 23 = 0 by omega]
  congr 1
  push_cast
  congr 2 <;> ring

theorem shift_word (n : ℕ) (h : n < 254) : IntOp.shli .host (BitVec.ofNat 32 n + 1#32) 23#32 = BitVec.ofNat 32 ((n + 1) * 2 ^ 23) := by
  unfold IntOp.shli
  rw [if_pos (by decide), BitVec.shiftLeft_eq', show (23#32 : BitVec 32).toNat = 23 from rfl, show (1#32 : BitVec 32) = BitVec.ofNat 32 1 from rfl, ← BitVec.ofNat_add]
  apply BitVec.eq_of_toNat_eq
  rw [BitVec.toNat_shiftLeft, Nat.shiftLeft_eq, BitVec.toNat_ofNat, BitVec.toNat_ofNat, Nat.mod_eq_of_lt (show n + 1 < 2 ^ 32 by omega)]

theorem powers_apply (i : S254.Idx) : powers i = (((2 : ℝ) ^ 23 * 2 ^ (((i 0).val : ℤ) - 149) : ℝ) : EReal) := by
  have hi : (i 0).val < 254 := (i 0).isLt
  rw [← power_float _ hi, ← shift_word _ hi]
  rfl

theorem unit_float : Ideal.ofBits .f32 0x4B000000#32 = (((2 : ℝ) ^ 23 : ℝ) : EReal) := by
  rw [show (0x4B000000#32 : BitVec 32) = BitVec.ofNat 32 ((149 + 1) * 2 ^ 23) from rfl, power_float _ (by norm_num)]
  norm_num

theorem bound_float : Ideal.ofBits .f32 0x4B800000#32 = (((2 : ℝ) ^ 24 : ℝ) : EReal) := by
  rw [show (0x4B800000#32 : BitVec 32) = BitVec.ofNat 32 ((150 + 1) * 2 ^ 23) from rfl, power_float _ (by norm_num)]
  norm_num

/-- A number that is a whole one below the bound when counted in units of a float's last place. -/
theorem whole_units {κ u w : EReal} {n : ℕ} (hu : u = (((2 : ℝ) ^ 23 * 2 ^ ((n : ℤ) - 149) : ℝ) : EReal))
    (hw : w = Ideal.div κ u * (((2 : ℝ) ^ 23 : ℝ) : EReal)) (hb : max w (-w) < (((2 : ℝ) ^ 24 : ℝ) : EReal)) (hf : Ideal.liftRound Int.floor w = w) :
    ∃ z : ℤ, -2 ^ 24 < z ∧ z < 2 ^ 24 ∧ κ = (((z : ℝ) * 2 ^ ((n : ℤ) - 149) : ℝ) : EReal) := by
  have hq : (0 : ℝ) < 2 ^ ((n : ℤ) - 149) := by positivity
  have hpos : (0 : ℝ) < (2 : ℝ) ^ 23 * 2 ^ ((n : ℤ) - 149) := by positivity
  unfold Ideal.div at hw
  rw [if_neg (by rw [hu]; exact_mod_cast hpos.ne'), hu, ← EReal.coe_inv] at hw
  induction κ using EReal.rec with
  | bot =>
    rw [EReal.bot_mul_coe_of_pos (inv_pos.mpr hpos), EReal.bot_mul_coe_of_pos (by norm_num)] at hw
    rw [hw] at hb
    simp at hb
  | top =>
    rw [EReal.top_mul_coe_of_pos (inv_pos.mpr hpos), EReal.top_mul_coe_of_pos (by norm_num)] at hw
    rw [hw] at hb
    simp at hb
  | coe c =>
    rw [← EReal.coe_mul, ← EReal.coe_mul] at hw
    rw [hw, max_neg_coe, EReal.coe_lt_coe_iff] at hb
    rw [hw] at hf
    have hz := EReal.coe_injective hf
    rw [← hz] at hb
    rw [abs_lt] at hb
    refine ⟨⌊c * ((2 : ℝ) ^ 23 * 2 ^ ((n : ℤ) - 149))⁻¹ * 2 ^ 23⌋, by exact_mod_cast hb.1, by exact_mod_cast hb.2, ?_⟩
    rw [hz]
    congr 1
    field_simp

section Map
variable {x t : Place → EReal} {M : IVec S16x1x512x512 1} (hM : ∀ i, M i = BitVec.ofBool (decide (half < t i)))
include hM

theorem posWord_apply (j : S_.Idx) : posWord M j = BitVec.ofNat 32 (posCount t) := by
  refine (reduce_count rfl (fun i => decide (half < t i)) _ (fun i => congrArg (BitVec.setWidth 32) (hM i)) _ (fun _ => rfl) _ _ j).trans ?_
  unfold posCount
  simp only [decide_eq_true_eq]

theorem negWord_apply (j : S_.Idx) : negWord M j = BitVec.ofNat 32 (negCount t) := by
  have hc := (counts t).trans card_place
  show 4194304#32 - posWord M j = _
  rw [posWord_apply hM, ← hc]
  apply BitVec.eq_of_toNat_eq
  rw [BitVec.toNat_sub, BitVec.toNat_ofNat, BitVec.toNat_ofNat, BitVec.toNat_ofNat]
  omega

theorem keptWord_apply (j : S_.Idx) : keptWord M j = BitVec.ofNat 32 (keptCount t) := by
  have hc := (counts t).trans card_place
  show IntOp.minsi (negWord M j) (3#32 * posWord M j) = _
  rw [negWord_apply hM, posWord_apply hM, show (3#32 : BitVec 32) = BitVec.ofNat 32 3 from rfl, ← BitVec.ofNat_mul, minsi_small (by omega) (by omega)]
  rfl

variable {L : FVec Ideal S16x1x512x512 .f32} (hL : ∀ i, L i = loss (x i) (t i))
include hL

theorem inOrder_apply (j : Fin 4194304) : inOrder M L (spot j) = sortedLoss x t j := by
  classical
  obtain rfl := funext hM
  obtain rfl := funext hL
  have hz : (fun i => -(keptLoss x t (flatOf i))) = Host.negf (F := Ideal) (φ := .f32) (shapeCast S4194304 (select (fun i => BitVec.ofBool (decide (half < t i)))
      (broadcastInDim S16x1x512x512 ![] bcast_S_S16x1x512x512 (constant S_ .f32 0xFF800000#32)) (fun i => loss (x i) (t i))) shapeCasts_S16x1x512x512_S4194304) := by
    funext i
    show -(keptLoss x t (flatOf i)) = -(if BitVec.ofBool (decide (half < t (flatOf i))) = 1#1 then Ideal.ofBits .f32 0xFF800000#32 else loss (x (flatOf i)) (t (flatOf i)))
    rw [pick_bool, float_bot]
    rfl
  unfold sortedLoss falling
  show _ = -(Host.sort Flat 0 _ (fun i => -(keptLoss x t (flatOf i))) (spot j))
  rw [hz]
  rfl

theorem least_apply (j : S_.Idx) (h0 : 0 < keptCount t) (h : keptCount t - 1 < 4194304) : least M L j = sortedLoss x t ⟨keptCount t - 1, h⟩ := by
  classical
  have hk : keptWord M = fun _ => BitVec.ofNat 32 (keptCount t) := funext (keptWord_apply hM)
  unfold least
  rw [hk]
  refine (Ideal.hostReduceAdd_total reducesTo_S4194304_S_d0 (fun b => b.elim0) _ _ j).trans ?_
  rw [show (constant (F := Ideal) S_ .f32 0x00000000#32 _ : EReal) = 0 from zero_f32, zero_add]
  refine (Finset.sum_congr rfl fun i _ => (?_ : _ = if i = spot ⟨keptCount t - 1, h⟩ then sortedLoss x t ⟨keptCount t - 1, h⟩ else 0)).trans ?_
  · have hi : (i 0).val < 4194304 := (i 0).isLt
    show (if IntOp.cmpi .eq (IntOp.addi (BitVec.ofNat 32 (i 0).val) (BitVec.ofNat 32 1)) (BitVec.ofNat 32 (keptCount t)) = 1#1 then inOrder M L i else (FloatOps.ofBits .f32 0x00000000#32 : Ideal .f32)) = _
    unfold IntOp.addi
    rw [← BitVec.ofNat_add, equal_words (by omega) (by omega), pick_bool, zero_f32]
    obtain ⟨n, rfl⟩ := spot.surjective i
    rw [inOrder_apply hM hL]
    have hn : (spot n 0).val = n.val := rfl
    rw [hn]
    by_cases hk : n.val = keptCount t - 1
    · obtain rfl : n = ⟨keptCount t - 1, h⟩ := Fin.ext hk
      rw [if_pos (by omega), if_pos rfl]
    · rw [if_neg (by omega), if_neg fun e => hk (congrArg Fin.val (spot.injective e))]
  · rw [Finset.sum_ite_eq' univ]
    exact if_pos (mem_univ _)

/-- Where none is kept it reads zero. -/
theorem least_none (j : S_.Idx) (h0 : keptCount t = 0) : least M L j = 0 := by
  classical
  have hk : keptWord M = fun _ => BitVec.ofNat 32 0 := funext fun j => h0 ▸ keptWord_apply hM j
  unfold least
  rw [hk]
  refine (Ideal.hostReduceAdd_total reducesTo_S4194304_S_d0 (fun b => b.elim0) _ _ j).trans ?_
  rw [show (constant (F := Ideal) S_ .f32 0x00000000#32 _ : EReal) = 0 from zero_f32, zero_add]
  refine Finset.sum_eq_zero fun i _ => ?_
  have hi : (i 0).val < 4194304 := (i 0).isLt
  show (if IntOp.cmpi .eq (IntOp.addi (BitVec.ofNat 32 (i 0).val) (BitVec.ofNat 32 1)) (BitVec.ofNat 32 0) = 1#1 then inOrder M L i else (FloatOps.ofBits .f32 0x00000000#32 : Ideal .f32)) = _
  unfold IntOp.addi
  rw [← BitVec.ofNat_add, equal_words (by omega) (by omega), pick_bool, zero_f32, if_neg (by omega)]

/-- A map that passes the test. -/
theorem exact_floatAt (j : S_.Idx) (hj : exact M L j = 1#1) : FloatAt t (sortedLoss x t) := by
  have hc := (counts t).trans card_place
  have hk : keptCount t ≤ negCount t := min_le_left _ _
  have hor : ∀ a b : BitVec 1, a ||| b = 1#1 → a = 1#1 ∨ b = 1#1 := by decide
  have hand : ∀ a b : BitVec 1, a &&& b = 1#1 → a = 1#1 ∧ b = 1#1 := by decide
  have hbit : ∀ p : Bool, BitVec.ofBool p = 1#1 → p = true := by decide
  by_cases h0 : keptCount t = 0
  · exact Or.inl h0
  rcases hor _ _ hj with hj | hj
  · rcases hor _ _ hj with hj | hj
    · obtain ⟨i, hi⟩ := reduce_any rfl _ _ (fun _ => rfl) _ _ _ hj
      have hn : (i 0).val < 254 := (i 0).isLt
      have hlt : keptCount t - 1 < 4194304 := by omega
      obtain ⟨hb, hf⟩ := hand _ _ hi
      have hb' : max (units M L i) (-(units M L i)) < Ideal.ofBits .f32 0x4B800000#32 := of_decide_eq_true (hbit _ hb)
      have hf' : Ideal.liftRound Int.floor (units M L i) = units M L i := of_decide_eq_true (hbit _ hf)
      rw [bound_float] at hb'
      have hw : units M L i = Ideal.div (sortedLoss x t ⟨keptCount t - 1, hlt⟩) (powers i) * (((2 : ℝ) ^ 23 : ℝ) : EReal) := by
        rw [← unit_float, ← least_apply hM hL j (by omega) hlt]
        show Ideal.div (least M L _) (powers i) * _ = _
        rw [least_apply hM hL _ (by omega) hlt, least_apply hM hL _ (by omega) hlt]
        rfl
      obtain ⟨z, hz, hz', he⟩ := whole_units (powers_apply i) hw hb' hf'
      exact Or.inr (Or.inr ⟨_, z, by omega, hz, hz', fun _ => he⟩)
    · refine Or.inr (Or.inl ?_)
      have := hj
      change IntOp.cmpi .eq (keptWord M j) (negWord M j) = 1#1 at this
      rw [keptWord_apply hM, negWord_apply hM, equal_words (by omega) (by omega)] at this
      exact of_decide_eq_true (hbit _ this)
  · refine Or.inl ?_
    have := hj
    change IntOp.cmpi .eq (keptWord M j) (BitVec.ofNat 32 0) = 1#1 at this
    rw [keptWord_apply hM, equal_words (by omega) (by omega)] at this
    exact of_decide_eq_true (hbit _ this)

end Map

/-! ## The precondition -/

section Pre
variable (p th tp tt : FVec Ideal S16x1x512x512 .f32)

def limit : FVec Ideal S16x1x512x512 .f32 := broadcastInDim S16x1x512x512 ![] bcast_S_S16x1x512x512 (constant S_ .f32 0x7F800000#32)

/-- The targets. -/
def maskOf (t : FVec Ideal S16x1x512x512 .f32) : IVec S16x1x512x512 1 :=
  cmpf .ogt t (broadcastInDim S16x1x512x512 ![] bcast_S_S16x1x512x512 (constant S_ .f32 0x3F000000#32))

/-- The logarithm of one plus the exponential, entry by entry. -/
def softOf (x : FVec Ideal S16x1x512x512 .f32) : FVec Ideal S16x1x512x512 .f32 :=
  addf (maximumf x (broadcastInDim S16x1x512x512 ![] bcast_S_S16x1x512x512 (constant S_ .f32 0x00000000#32))) (Host.log1p (Host.exp (Host.negf (Host.absf x))))

/-- The loss with the two terms of the cross entropy, entry by entry. -/
def lossOf (x t : FVec Ideal S16x1x512x512 .f32) : FVec Ideal S16x1x512x512 .f32 :=
  addf (mulf t (softOf (Host.negf x))) (mulf (subf (broadcastInDim S16x1x512x512 ![] bcast_S_S16x1x512x512 (constant S_ .f32 0x3F800000#32)) t) (softOf x))

def scaledBy (a b : FVec Ideal S16x1x512x512 .f32) : FVec Ideal S16x1x512x512 .f32 :=
  mulf (broadcastInDim S16x1x512x512 ![] bcast_S_S16x1x512x512 (constant S_ .f32 0x42480000#32)) (subf a b)

theorem pre_steps : Cert.Pre_kept_exactly.fn (F := Ideal) p th tp tt =
    (cmpf .olt (Host.absf p) limit, cmpf .olt (Host.absf th) limit, cmpf .olt (Host.absf tp) limit, cmpf .olt (Host.absf tt) limit,
      exact (maskOf tp) (lossOf p tp), exact (maskOf (scaledBy tp tt)) (lossOf (scaledBy p th) (scaledBy tp tt))) := rfl

theorem maskOf_apply (t : FVec Ideal S16x1x512x512 .f32) (i : Place) : maskOf t i = BitVec.ofBool (decide (half < t i)) := rfl

theorem softOf_apply (x : FVec Ideal S16x1x512x512 .f32) (i : Place) : softOf x i = soft (x i) := by
  unfold soft
  rw [zero_sub]
  show max (x i : EReal) (Ideal.ofBits .f32 0x00000000#32) + _ = _
  rw [Ideal.ofBits_zero_f32]
  rfl

theorem lossOf_apply {x t : Place → EReal} (hx : AllReal x) (ht : AllReal t) (i : Place) : lossOf x t i = loss (x i) (t i) := by
  obtain ⟨a, ha⟩ := hx i
  obtain ⟨b, hb⟩ := ht i
  show t i * softOf (Host.negf (F := Ideal) (φ := .f32) x) i + (Ideal.ofBits .f32 0x3F800000#32 - t i) * softOf x i = _
  rw [softOf_apply, softOf_apply, show Ideal.ofBits .f32 0x3F800000#32 = (1 : EReal) from one_f32]
  show t i * soft (-x i) + _ = _
  rw [ha, hb, loss_two]

/-- A number whose size is below the infinity is a real one. -/
theorem real_of_limit {x : FVec Ideal S16x1x512x512 .f32} (h : cmpf .olt (Host.absf x) limit = fun _ => 1#1) : AllReal (x : Place → EReal) := fun i => by
  have hbit : ∀ p : Bool, BitVec.ofBool p = 1#1 → p = true := by decide
  have hi : max (x i : EReal) (-(x i : EReal)) < Ideal.ofBits .f32 0x7F800000#32 := of_decide_eq_true (hbit _ (congrFun h i))
  rw [float_top] at hi
  generalize (x i : EReal) = a at hi ⊢
  induction a using EReal.rec with
  | bot => simp at hi
  | top => simp at hi
  | coe c => exact ⟨c, rfl⟩

end Pre

end Cert.Balanced

end
-- ==== Proof.Equal.lean ====
/-
  The value claim: at the exact values, under the precondition, the kernel's result is the reference's.
-/
module

public import proofs.«01_k».proof.Defs
public import proofs.«01_k».proof.Proof.Endings
public import proofs.«01_k».proof.Proof.Result
public import proofs.«01_k».proof.Proof.Kept

@[expose] public section

set_option maxRecDepth 16384

noncomputable section

namespace Cert.Balanced

open Idealize.ShloMosaic Idealize.ShloMosaic.TcCoe Idealize.SL.Sem Idealize.ShloMosaic.StableHlo

/-- Under the precondition the threshold's sum of a map is the sorted sum. -/
theorem threshold_sum {x t : Place → EReal} (hx : AllReal x) (ht : AllReal t) (hf : FloatAt t (sortedLoss x t)) :
    negSum x t = topFirst (sortedLoss x t) (keptCount t) := by
  obtain ⟨⟨e, he⟩, ha⟩ := sortedLoss_spec x t
  exact negSum_eq hx ht e _ he ha hf

/-- What the precondition says of the four arguments. -/
theorem pre_spec [Cert.Pre_kept_exactly.Facts] (p th tp tt : Place → EReal)
    (h : (Cert.Pre_kept_exactly.fn (F := Ideal) p th tp tt).1 = (fun _ => 1#1)
      ∧ (Cert.Pre_kept_exactly.fn (F := Ideal) p th tp tt).2.1 = (fun _ => 1#1)
      ∧ (Cert.Pre_kept_exactly.fn (F := Ideal) p th tp tt).2.2.1 = (fun _ => 1#1)
      ∧ (Cert.Pre_kept_exactly.fn (F := Ideal) p th tp tt).2.2.2.1 = (fun _ => 1#1)
      ∧ (Cert.Pre_kept_exactly.fn (F := Ideal) p th tp tt).2.2.2.2.1 = (fun _ => 1#1)
      ∧ (Cert.Pre_kept_exactly.fn (F := Ideal) p th tp tt).2.2.2.2.2 = (fun _ => 1#1)) :
    AllReal p ∧ AllReal th ∧ AllReal tp ∧ AllReal tt ∧ FloatAt tp (sortedLoss p tp)
      ∧ FloatAt (second tp tt) (sortedLoss (second p th) (second tp tt)) := by
  rw [pre_steps] at h
  obtain ⟨h1, h2, h3, h4, h5, h6⟩ := h
  have hP := real_of_limit h1
  have hTh := real_of_limit h2
  have hTp := real_of_limit h3
  have hTt := real_of_limit h4
  exact ⟨hP, hTh, hTp, hTt, exact_floatAt (maskOf_apply tp) (lossOf_apply hP hTp) HostLoop.idx0 (congrFun h5 _),
    exact_floatAt (t := second tp tt) (x := second p th) (maskOf_apply (scaledBy tp tt)) (lossOf_apply (AllReal.scaled hP hTh) (AllReal.scaled hTp hTt)) HostLoop.idx0 (congrFun h6 _)⟩

theorem equal_values [Cert.Pre_kept_exactly.Facts] : Cert.algebraic_KernelIdeal_ReferenceIdeal_pre_kept_exactly := by
  intro m g m' g' hpre hargs
  refine ⟨fun c => last (launched m) c (Proc.devRef .tc Cert.KernelIdeal.main_v36),
    (θ_run _ _ _).mono (fun _ h => h.1) (run_frame m g),
    (θ_run _ _ _).mono (fun r h c => ⟨(h c).1.trans (funext fun j => ?_), (h c).2⟩) (Cert.ReferenceIdeal.Value.run m' g')⟩
  obtain ⟨hP, hTh, hTp, hTt, hf0, hf1⟩ := pre_spec _ _ _ _ (hpre c)
  obtain ⟨e0, e1, e2, e3⟩ := hargs c
  have r0 : refP (launchContents m' c) = inP (launched m) c := e0
  have r1 : refTh (launchContents m' c) = inTh (launched m) c := e1
  have r2 : refTp (launchContents m' c) = inTp (launched m) c := e2
  have r3 : refTt (launchContents m' c) = inTt (launched m) c := e3
  refine (reference_value (launchContents m' c) (r0 ▸ hP) (r1 ▸ hTh) (r2 ▸ hTp) (r3 ▸ hTt) j).trans ?_
  refine Eq.trans ?_ (last_value (launched m) c hP hTh hTp hTt j).symm
  unfold refX refT
  rw [r0, r1, r2, r3]
  rw [threshold_sum (x := inP (launched m) c) hP hTp hf0, threshold_sum (x := inX (launched m) c) (t := inT (launched m) c) (AllReal.scaled hP hTh) (AllReal.scaled hTp hTt) hf1]

end Cert.Balanced

end
-- ==== Proof.Near.lean ====
/-
  How far the threshold found by halving takes a map's loss from the sort's, where the least kept loss is any real
  number in float32's range: never below it, and above it by no more than a step of float32 at that loss.
-/
module

public import proofs.«01_k».proof.Proof.Map

@[expose] public section

noncomputable section

namespace Cert.Balanced

open Idealize.ShloMosaic
open Finset

/-- The largest float32 number. -/
def topReal : ℝ := (2 ^ 24 - 1) * 2 ^ (104 : ℤ)

/-- A step of float32 at a real number: enough for the next float up. -/
def stepReal (q : ℝ) : ℝ := |q| * 2 ^ (-23 : ℤ) + 2 ^ (-149 : ℤ)

theorem stepReal_nonneg (q : ℝ) : 0 ≤ stepReal q := by
  unfold stepReal
  positivity

/-- The same on the extended reals. -/
def step (a : EReal) : EReal := max a (-a) * ((2 ^ (-23 : ℤ) : ℝ) : EReal) + ((2 ^ (-149 : ℤ) : ℝ) : EReal)

theorem step_coe (q : ℝ) : step q = ((stepReal q : ℝ) : EReal) := by
  unfold step stepReal
  rw [max_neg_coe, ← EReal.coe_mul, ← EReal.coe_add]

/-- Rounding up to a multiple of a unit. -/
theorem ceil_unit (q u : ℝ) (hu : 0 < u) : q ≤ (⌈q / u⌉ : ℝ) * u ∧ (⌈q / u⌉ : ℝ) * u ≤ q + u := by
  have h1 := Int.le_ceil (q / u)
  have h2 := (Int.ceil_lt_add_one (q / u)).le
  constructor
  · calc q = q / u * u := by field_simp
      _ ≤ _ := mul_le_mul_of_nonneg_right h1 hu.le
  · calc _ ≤ (q / u + 1) * u := mul_le_mul_of_nonneg_right h2 hu.le
      _ = q + u := by field_simp

/-- A number in range has a float at or above it, no more than a step away. -/
theorem float_above (q : ℝ) (hq : |q| ≤ topReal) : ∃ (E : ℕ) (w : ℤ), E ≤ 253 ∧ -2 ^ 24 < w ∧ w < 2 ^ 24
    ∧ q ≤ (w : ℝ) * 2 ^ ((E : ℤ) - 149) ∧ (w : ℝ) * 2 ^ ((E : ℤ) - 149) ≤ q + stepReal q := by
  have two : (2 : ℝ) ≠ 0 := by norm_num
  by_cases hs : |q| < 2 ^ (-126 : ℤ)
  · have hu : (0 : ℝ) < 2 ^ (-149 : ℤ) := by positivity
    have hb : |q / 2 ^ (-149 : ℤ)| < 2 ^ 23 := by
      rw [abs_div, abs_of_pos hu, div_lt_iff₀ hu]
      calc |q| < _ := hs
        _ = _ := by rw [← zpow_natCast, ← zpow_add₀ two]; norm_num
    rw [abs_lt] at hb
    obtain ⟨h1, h2⟩ := ceil_unit q _ hu
    refine ⟨0, ⌈q / 2 ^ (-149 : ℤ)⌉, by norm_num, ?_, ?_, by simpa using h1, ?_⟩
    · rw [Int.lt_ceil]
      push_cast
      linarith [hb.1]
    · have : ⌈q / 2 ^ (-149 : ℤ)⌉ ≤ 2 ^ 23 := by
        rw [Int.ceil_le]
        exact hb.2.le.trans (by norm_num)
      omega
    · have h3 : (0 : ℝ) ≤ |q| * 2 ^ (-23 : ℤ) := by positivity
      unfold stepReal
      rw [show (((0 : ℕ) : ℤ) - 149) = -149 by norm_num]
      exact h2.trans (add_le_add_right (le_add_of_nonneg_left h3) q)
  · have hs := not_lt.mp hs
    have hq0 : 0 < |q| := lt_of_lt_of_le (by positivity) hs
    have one : (1 : ℝ) < 2 := by norm_num
    obtain ⟨e, he, he'⟩ := exists_mem_Ico_zpow hq0 one
    have hq' : topReal < 2 ^ (128 : ℤ) := by
      unfold topReal
      norm_num
    have l1 : e < 128 := (zpow_lt_zpow_iff_right₀ one).mp (lt_of_le_of_lt (he.trans hq) hq')
    have l0 : -126 < e + 1 := (zpow_lt_zpow_iff_right₀ one).mp (lt_of_le_of_lt hs he')
    obtain ⟨E, hE⟩ := Int.eq_ofNat_of_zero_le (show 0 ≤ e + 126 by omega)
    obtain rfl : e = (E : ℤ) - 126 := by omega
    have hu : (0 : ℝ) < 2 ^ ((E : ℤ) - 149) := by positivity
    have hb : |q / 2 ^ ((E : ℤ) - 149)| < 2 ^ 24 := by
      rw [abs_div, abs_of_pos hu, div_lt_iff₀ hu]
      calc |q| < _ := he'
        _ = _ := by rw [← zpow_natCast, ← zpow_add₀ two]; congr 1; push_cast; ring
    rw [abs_lt] at hb
    obtain ⟨h1, h2⟩ := ceil_unit q _ hu
    have hst : (2 : ℝ) ^ ((E : ℤ) - 149) ≤ stepReal q := by
      have h3 : (0 : ℝ) ≤ 2 ^ (-149 : ℤ) := by positivity
      have h4 : (2 : ℝ) ^ ((E : ℤ) - 149) = 2 ^ ((E : ℤ) - 126) * 2 ^ (-23 : ℤ) := by rw [← zpow_add₀ two]; congr 1; ring
      have h5 : (2 : ℝ) ^ ((E : ℤ) - 126) * 2 ^ (-23 : ℤ) ≤ |q| * 2 ^ (-23 : ℤ) := mul_le_mul_of_nonneg_right he (by positivity)
      unfold stepReal
      linarith
    have hw0 : -2 ^ 24 < ⌈q / 2 ^ ((E : ℤ) - 149)⌉ := by
      rw [Int.lt_ceil]
      exact lt_of_le_of_lt (by norm_num) hb.1
    have hw1 : ⌈q / 2 ^ ((E : ℤ) - 149)⌉ ≤ 2 ^ 24 := by
      rw [Int.ceil_le]
      exact hb.2.le.trans (by norm_num)
    have hw2 : E = 253 → ⌈q / 2 ^ ((E : ℤ) - 149)⌉ ≤ 2 ^ 24 - 1 := fun h => by
      rw [Int.ceil_le, div_le_iff₀ hu, h]
      refine (le_abs_self q).trans (hq.trans (le_of_eq ?_))
      unfold topReal
      norm_num
    generalize ⌈q / 2 ^ ((E : ℤ) - 149)⌉ = w at h1 h2 hw0 hw1 hw2
    rcases lt_or_eq_of_le hw1 with hw | hw
    · exact ⟨E, w, by omega, hw0, hw, h1, by linarith⟩
    · have h6 : (w : ℝ) * 2 ^ ((E : ℤ) - 149) = ((2 ^ 23 : ℤ) : ℝ) * 2 ^ (((E + 1 : ℕ) : ℤ) - 149) := by
        rw [hw, show (((E + 1 : ℕ) : ℤ) - 149) = ((E : ℤ) - 149) + 1 by push_cast; ring, zpow_add₀ two]
        push_cast
        ring
      rw [h6] at h1 h2
      exact ⟨E + 1, 2 ^ 23, by omega, by norm_num, by norm_num, h1, by linarith⟩

/-- The upper end after the last halving is the `k`-th largest or a little more. -/
theorem halved_near {N : ℕ} (y : Fin N → EReal) (hy : ∀ i j, i ≤ j → y j ≤ y i) {k : ℕ} (h0 : 0 < k) (hk : k ≤ N) (h : k ≤ above y ⊥)
    {q : ℝ} (hq : |q| ≤ topReal) (hz : y ⟨k - 1, by omega⟩ = (q : EReal)) :
    ∃ r : ℝ, level ((halve y k)^[33] widest).2 = (r : EReal) ∧ q ≤ r ∧ r ≤ q + stepReal q := by
  obtain ⟨E, w, hE, w0, w1, hw, hw'⟩ := float_above q hq
  obtain ⟨z, z0, z1, hl⟩ := level_surj E hE w w0 w1
  generalize (w : ℝ) * 2 ^ ((E : ℤ) - 149) = u at hw hw' hl
  obtain ⟨h1, h2, h3, h4, h5, h6, -⟩ := bracket_iterate h 33 (le_refl _)
  generalize (halve y k)^[33] widest = p at h1 h2 h3 h4 h5 h6
  have h4 : p.2 = p.1 + 1 := by
    simp at h4
    omega
  have low : (q : EReal) ≤ level p.2 := by
    refine not_lt.mp fun hlt => ?_
    have := le_above_of_lt y hy h0 hk (hz.symm ▸ hlt)
    have := h6 h0
    omega
  have high : level p.2 ≤ (u : EReal) := by
    rw [← hl]
    refine level_mono (not_lt.mp fun hlt => ?_) (by omega) z1.le
    have h7 : level z ≤ level p.1 := level_mono (by omega) z0.le (by omega)
    have h8 : y ⟨k - 1, by omega⟩ ≤ level p.1 := hz.le.trans (le_trans (by rw [hl]; exact_mod_cast hw) h7)
    have := lt_of_le_of_lt (above_anti y h8) (above_kth_lt y hy h0 hk)
    omega
  generalize level p.2 = v at low high
  induction v using EReal.rec with
  | bot => simp at low
  | top => simp at high
  | coe r => exact ⟨r, rfl, by exact_mod_cast low, (by exact_mod_cast high : r ≤ u).trans hw'⟩

/-- The `k`-th entry of a list, counted from one; zero where there is none. -/
def kth {N : ℕ} (y : Fin N → EReal) (k : ℕ) : EReal := if h : 0 < k ∧ k - 1 < N then y ⟨k - 1, h.2⟩ else 0

section
variable {ι : Type} [Fintype ι] {x t : ι → EReal}

/-- The threshold's sum is the sort's or more by at most a step for each kept entry. -/
theorem negSum_near (hx : AllReal x) (ht : AllReal t) {N : ℕ} (e : Fin N ≃ ι) (y : Fin N → EReal) (hv : y = keptLoss x t ∘ e)
    (hy : ∀ i j, i ≤ j → y j ≤ y i) {q : ℝ} (hq : |q| ≤ topReal) (hk : kth y (keptCount t) = q) :
    topFirst y (keptCount t) ≤ negSum x t ∧ negSum x t ≤ topFirst y (keptCount t) + (((keptCount t : ℝ) * stepReal q : ℝ) : EReal) := by
  have same : FloatAt t y → topFirst y (keptCount t) ≤ negSum x t ∧ negSum x t ≤ topFirst y (keptCount t) + (((keptCount t : ℝ) * stepReal q : ℝ) : EReal) := fun hf => by
    rw [negSum_eq hx ht e y hv hy hf]
    exact ⟨le_refl _, le_add_of_nonneg_right (by exact_mod_cast mul_nonneg (Nat.cast_nonneg _) (stepReal_nonneg q))⟩
  have hb : above y ⊥ = negCount t := by rw [hv, above_comp, above_bot hx ht]
  have hN : negCount t ≤ N := by
    have := counts t
    rw [← Fintype.card_congr e, Fintype.card_fin] at this
    omega
  have hle : keptCount t ≤ negCount t := min_le_left _ _
  by_cases h0 : keptCount t = 0
  · exact same (Or.inl h0)
  by_cases hlt : keptCount t < negCount t
  · unfold kth at hk
    rw [dif_pos ⟨by omega, by omega⟩] at hk
    obtain ⟨r, hr, h1, h2⟩ := halved_near y hy (by omega) (by omega : keptCount t ≤ N) (by omega) hq hk
    have h3 : negSum x t = topBy y r (keptCount t) := by
      unfold negSum
      rw [if_pos hlt, ← halve_comp e, ← topBy_comp e, ← hv, hr]
    rw [h3]
    exact topBy_near y hy (by omega) (by omega) hk h1 h2
  · exact same (Or.inr (Or.inl (by omega)))

/-- A map's loss over a sum a little too large is a little too large. -/
theorem mapLoss_near {A B : EReal} {s : ℝ} (hs : 0 ≤ s) (h1 : A ≤ B) (h2 : B ≤ A + (((keptCount t : ℝ) * s : ℝ) : EReal)) :
    mapLoss x t A ≤ mapLoss x t B ∧ mapLoss x t B ≤ mapLoss x t A + (s : EReal) := by
  have hs' : (0 : EReal) ≤ (s : EReal) := by exact_mod_cast hs
  by_cases hn : posCount t + keptCount t = 0
  · have hk : keptCount t = 0 := by omega
    rw [hk, Nat.cast_zero, zero_mul, EReal.coe_zero, add_zero] at h2
    rw [le_antisymm h1 h2]
    exact ⟨le_refl _, le_add_of_nonneg_right hs'⟩
  · have hpos : (0 : ℝ) < (posCount t : ℝ) + (keptCount t : ℝ) := by exact_mod_cast Nat.pos_of_ne_zero hn
    have hkn : (keptCount t : ℝ) ≤ (posCount t : ℝ) + (keptCount t : ℝ) := le_add_of_nonneg_left (Nat.cast_nonneg _)
    unfold mapLoss Ideal.div
    rw [if_neg (by exact_mod_cast hpos.ne'), if_neg (by exact_mod_cast hpos.ne')]
    generalize (keptCount t : ℝ) = k at h2 hpos hkn
    generalize (posCount t : ℝ) + k = n at hpos hkn
    generalize posSum x t = P
    rw [← EReal.coe_inv]
    have hi : (0 : ℝ) < n⁻¹ := inv_pos.mpr hpos
    have hi' : (0 : EReal) ≤ ((n⁻¹ : ℝ) : EReal) := by exact_mod_cast hi.le
    refine ⟨mul_le_mul_of_nonneg_right (add_le_add_right h1 P) hi', (mul_le_mul_of_nonneg_right (add_le_add_right h2 P) hi').trans ?_⟩
    rw [← add_assoc]
    generalize P + A = a
    induction a using EReal.rec with
    | bot => rw [EReal.bot_add, EReal.bot_mul_coe_of_pos hi]; exact bot_le
    | top => rw [EReal.top_mul_coe_of_pos hi, EReal.top_add_coe]; exact le_top
    | coe a =>
      rw [← EReal.coe_add, ← EReal.coe_mul, ← EReal.coe_mul, ← EReal.coe_add, EReal.coe_le_coe_iff, add_mul]
      have : k * s * n⁻¹ ≤ s := by
        rw [mul_right_comm, ← div_eq_mul_inv]
        exact mul_le_of_le_one_left hs ((div_le_one hpos).mpr hkn)
      linarith

end

end Cert.Balanced

end
-- ==== Proof.Within.lean ====
/-
  The bound on the kernel's result where the least kept loss is no float: the test of a result, step by step, and that
  the kernel's passes it whenever the arguments are real numbers and both least kept losses lie in float32's range.
-/
module

public import proofs.«01_k».proof.Defs
public import proofs.«01_k».proof.Post_within_a_step
public import proofs.«01_k».proof.Pre_kept_in_range
public import proofs.«01_k».proof.Proof.Endings
public import proofs.«01_k».proof.Proof.Result
public import proofs.«01_k».proof.Proof.Kept
public import proofs.«01_k».proof.Proof.Near

@[expose] public section

set_option maxRecDepth 16384

noncomputable section

namespace Cert.Balanced

open Idealize.ShloMosaic Idealize.ShloMosaic.TcCoe Idealize.SL.Sem Idealize.ShloMosaic.StableHlo
open Cert.Pre_kept_exactly Cert.Pre_kept_exactly.Facts

/-- The shapes the range's operations take fit together, -/
theorem rangeFacts : Cert.Pre_kept_in_range.Facts where
  bcast_S_S16x1x512x512 := by decide
  natLt_1_32 := by decide
  reducesTo_S16x1x512x512_S_d0_1_2_3 := by decide
  h_S_ := by decide
  shapeCasts_S16x1x512x512_S4194304 := by decide
  bcast_S_S4194304 := by decide
  reducesTo_S4194304_S_d0 := by decide

/-- and those of the test of a result. -/
theorem withinFacts : Cert.Post_within_a_step.Facts where
  bcast_S_S16x1x512x512 := by decide
  natLt_1_32 := by decide
  reducesTo_S16x1x512x512_S_d0_1_2_3 := by decide
  h_S_ := by decide
  shapeCasts_S16x1x512x512_S4194304 := by decide
  bcast_S_S4194304 := by decide
  reducesTo_S4194304_S_d0 := by decide

variable [Cert.Pre_kept_exactly.Facts]

/-! ## The steps -/

section Steps
variable (M : IVec S16x1x512x512 1) (L : FVec Ideal S16x1x512x512 .f32)

/-- A map's loss with the kept losses taken from a sort. -/
def mapOf : FVec Ideal S_ .f32 :=
  Host.divf (addf (Host.reduceAdd (select M L (broadcastInDim S16x1x512x512 ![] bcast_S_S16x1x512x512 (constant S_ .f32 0x00000000#32))) (constant S_ .f32 0x00000000#32) reducesTo_S16x1x512x512_S_d0_1_2_3 h_S_)
    (Host.reduceAdd (select (cmpi .slt (iotaInDim S4194304 32 0) (broadcastInDim S4194304 ![] bcast_S_S4194304 (keptWord M)))
      (inOrder M L) (broadcastInDim S4194304 ![] bcast_S_S4194304 (constant S_ .f32 0x00000000#32))) (constant S_ .f32 0x00000000#32) reducesTo_S4194304_S_d0 h_S_))
    (sitofp .f32 (addi (posWord M) (keptWord M)))

end Steps

/-- A step of float32 at a number. -/
def stepOf (l : FVec Ideal S_ .f32) : FVec Ideal S_ .f32 :=
  addf (mulf (Host.absf l) (constant S_ .f32 0x34000000#32)) (constant S_ .f32 0x00000001#32)

/-- The test of its size. -/
def ranged (l : FVec Ideal S_ .f32) : IVec S_ 1 := cmpf .ole (Host.absf l) (constant S_ .f32 0x7F7FFFFF#32)

section Tests
variable (p th tp tt : FVec Ideal S16x1x512x512 .f32)

/-- The whole loss with the kept losses taken from a sort. -/
def wanted : FVec Ideal S_ .f32 :=
  addf (addf (mapOf (maskOf tp) (lossOf p tp)) (mulf (constant S_ .f32 0x3F800000#32) (mapOf (maskOf (scaledBy tp tt)) (lossOf (scaledBy p th) (scaledBy tp tt)))))
    (mulf (constant S_ .f32 0x41200000#32) (Host.divf (Host.reduceAdd (Host.absf (subf th tt)) (constant S_ .f32 0x00000000#32) reducesTo_S16x1x512x512_S_d0_1_2_3 h_S_) (constant S_ .f32 0x4A800000#32)))

theorem range_steps [Cert.Pre_kept_in_range.Facts] : Cert.Pre_kept_in_range.fn (F := Ideal) p th tp tt =
    (cmpf .olt (Host.absf p) limit, cmpf .olt (Host.absf th) limit, cmpf .olt (Host.absf tp) limit, cmpf .olt (Host.absf tt) limit,
      ranged (least (maskOf tp) (lossOf p tp)), ranged (least (maskOf (scaledBy tp tt)) (lossOf (scaledBy p th) (scaledBy tp tt)))) := rfl

theorem within_steps [Cert.Post_within_a_step.Facts] (out : FVec Ideal S_ .f32) : Cert.Post_within_a_step.fn (F := Ideal) p th tp tt out =
    (cmpf .ole (wanted p th tp tt) out, cmpf .ole out (addf (wanted p th tp tt) (addf (stepOf (least (maskOf tp) (lossOf p tp)))
      (stepOf (least (maskOf (scaledBy tp tt)) (lossOf (scaledBy p th) (scaledBy tp tt))))))) := rfl

end Tests

/-! ## What they compute -/

theorem step_float : Ideal.ofBits .f32 0x34000000#32 = ((2 ^ (-23 : ℤ) : ℝ) : EReal) := by
  rw [show (0x34000000#32 : BitVec 32) = BitVec.ofNat 32 ((103 + 1) * 2 ^ 23) from rfl, power_float _ (by norm_num)]
  congr 1
  norm_num

theorem least_float : Ideal.ofBits .f32 0x00000001#32 = ((2 ^ (-149 : ℤ) : ℝ) : EReal) := by
  rw [show (0x00000001#32 : BitVec 32) = BitVec.ofNat 32 1 from rfl, float_pos _ (by norm_num)]
  unfold mag
  rw [if_pos (by norm_num), Nat.cast_one, one_mul]

theorem range_float : Ideal.ofBits .f32 0x7F7FFFFF#32 = ((topReal : ℝ) : EReal) := by
  rw [show (0x7F7FFFFF#32 : BitVec 32) = BitVec.ofNat 32 0x7F7FFFFF from rfl, float_pos _ (by norm_num)]
  unfold mag topReal
  norm_num

theorem step_at (l : FVec Ideal S_ .f32) (j : S_.Idx) : stepOf l j = step (l j) := by
  unfold step
  rw [← step_float, ← least_float]
  rfl

theorem ranged_at (l : FVec Ideal S_ .f32) (j : S_.Idx) (h : ranged l j = 1#1) : ∃ q : ℝ, |q| ≤ topReal ∧ (l j : EReal) = q := by
  have hbit : ∀ p : Bool, BitVec.ofBool p = 1#1 → p = true := by decide
  have hi : max (l j : EReal) (-(l j : EReal)) ≤ Ideal.ofBits .f32 0x7F7FFFFF#32 := of_decide_eq_true (hbit _ h)
  rw [range_float] at hi
  generalize (l j : EReal) = a at hi ⊢
  induction a using EReal.rec with
  | bot => simp at hi
  | top => simp at hi
  | coe c =>
    rw [max_neg_coe, EReal.coe_le_coe_iff] at hi
    exact ⟨c, hi, rfl⟩

section Map
variable {x t : Place → EReal} {M : IVec S16x1x512x512 1} (hM : ∀ i, M i = BitVec.ofBool (decide (half < t i)))
variable {L : FVec Ideal S16x1x512x512 .f32} (hL : ∀ i, L i = loss (x i) (t i))
include hM hL

theorem mapOf_apply (j : S_.Idx) : mapOf M L j = mapLoss x t (topFirst (sortedLoss x t) (keptCount t)) :=
  map_loss hM hL (posWord_apply hM) (keptWord_apply hM) j

theorem least_kth (j : S_.Idx) : least M L j = kth (sortedLoss x t) (keptCount t) := by
  have hc := (counts t).trans card_place
  have hk : keptCount t ≤ negCount t := min_le_left _ _
  unfold kth
  by_cases h0 : keptCount t = 0
  · rw [dif_neg (by omega), least_none hM hL j h0]
  · rw [dif_pos ⟨by omega, by omega⟩]
    exact least_apply hM hL j (by omega) _

theorem stepOf_apply (j : S_.Idx) : stepOf (least M L) j = step (kth (sortedLoss x t) (keptCount t)) := by
  rw [step_at, least_kth hM hL j]

/-- A least kept loss in range is a real number. -/
theorem ranged_real (j : S_.Idx) (h : ranged (least M L) j = 1#1) : ∃ q : ℝ, |q| ≤ topReal ∧ kth (sortedLoss x t) (keptCount t) = q :=
  least_kth hM hL j ▸ ranged_at _ j h

end Map

/-- One map: the threshold's loss is the sort's or more by at most a step. -/
theorem map_within {x t : Place → EReal} (hx : AllReal x) (ht : AllReal t) {q : ℝ} (hq : |q| ≤ topReal) (hk : kth (sortedLoss x t) (keptCount t) = q) :
    mapLoss x t (topFirst (sortedLoss x t) (keptCount t)) ≤ mapLoss x t (negSum x t)
      ∧ mapLoss x t (negSum x t) ≤ mapLoss x t (topFirst (sortedLoss x t) (keptCount t)) + step (kth (sortedLoss x t) (keptCount t)) := by
  obtain ⟨⟨e, he⟩, ha⟩ := sortedLoss_spec x t
  obtain ⟨h1, h2⟩ := negSum_near hx ht e _ he ha hq hk
  rw [hk, step_coe]
  exact mapLoss_near (stepReal_nonneg q) h1 h2

/-- What the range says of the four arguments. -/
theorem range_spec [Cert.Pre_kept_in_range.Facts] (p th tp tt : Place → EReal)
    (h : (Cert.Pre_kept_in_range.fn (F := Ideal) p th tp tt).1 = (fun _ => 1#1)
      ∧ (Cert.Pre_kept_in_range.fn (F := Ideal) p th tp tt).2.1 = (fun _ => 1#1)
      ∧ (Cert.Pre_kept_in_range.fn (F := Ideal) p th tp tt).2.2.1 = (fun _ => 1#1)
      ∧ (Cert.Pre_kept_in_range.fn (F := Ideal) p th tp tt).2.2.2.1 = (fun _ => 1#1)
      ∧ (Cert.Pre_kept_in_range.fn (F := Ideal) p th tp tt).2.2.2.2.1 = (fun _ => 1#1)
      ∧ (Cert.Pre_kept_in_range.fn (F := Ideal) p th tp tt).2.2.2.2.2 = (fun _ => 1#1)) :
    AllReal p ∧ AllReal th ∧ AllReal tp ∧ AllReal tt
      ∧ (∃ q : ℝ, |q| ≤ topReal ∧ kth (sortedLoss p tp) (keptCount tp) = q)
      ∧ ∃ q : ℝ, |q| ≤ topReal ∧ kth (sortedLoss (second p th) (second tp tt)) (keptCount (second tp tt)) = q := by
  rw [range_steps] at h
  obtain ⟨h1, h2, h3, h4, h5, h6⟩ := h
  have hP := real_of_limit h1
  have hTh := real_of_limit h2
  have hTp := real_of_limit h3
  have hTt := real_of_limit h4
  exact ⟨hP, hTh, hTp, hTt, ranged_real (maskOf_apply tp) (lossOf_apply hP hTp) HostLoop.idx0 (congrFun h5 _),
    ranged_real (t := second tp tt) (x := second p th) (maskOf_apply (scaledBy tp tt)) (lossOf_apply (AllReal.scaled hP hTh) (AllReal.scaled hTp hTt)) HostLoop.idx0 (congrFun h6 _)⟩

theorem at_most (w o a b : FVec Ideal S_ .f32) (h1 : ∀ j, (w j : EReal) ≤ o j) (h2 : ∀ j, (o j : EReal) ≤ (w j : EReal) + ((a j : EReal) + (b j : EReal))) :
    cmpf .ole w o = (fun _ => 1#1) ∧ cmpf .ole o (addf w (addf a b)) = (fun _ => 1#1) :=
  ⟨funext fun j => congrArg BitVec.ofBool (decide_eq_true (h1 j)), funext fun j => congrArg BitVec.ofBool (decide_eq_true (h2 j))⟩

section Whole
variable {p th tp tt : Place → EReal} (hP : AllReal p) (hTh : AllReal th) (hTp : AllReal tp) (hTt : AllReal tt)
include hP hTh hTp hTt

theorem wanted_apply (j : S_.Idx) : wanted p th tp tt j = answer p th tp tt (topFirst (sortedLoss p tp) (keptCount tp))
    (topFirst (sortedLoss (second p th) (second tp tt)) (keptCount (second tp tt))) := by
  have h1 := mapOf_apply (maskOf_apply tp) (lossOf_apply hP hTp) j
  have h2 := mapOf_apply (t := second tp tt) (x := second p th) (maskOf_apply (scaledBy tp tt)) (lossOf_apply (AllReal.scaled hP hTh) (AllReal.scaled hTp hTt)) j
  have h3 := place_total (fun i => max (th i - tt i) (-(th i - tt i))) j
  unfold answer
  rw [← h1, ← h2, ← h3]
  rfl

/-- The whole loss: the threshold's is the sort's or more by at most the two maps' steps. -/
theorem answer_within {q0 q1 : ℝ} (hq0 : |q0| ≤ topReal) (hk0 : kth (sortedLoss p tp) (keptCount tp) = q0)
    (hq1 : |q1| ≤ topReal) (hk1 : kth (sortedLoss (second p th) (second tp tt)) (keptCount (second tp tt)) = q1) :
    answer p th tp tt (topFirst (sortedLoss p tp) (keptCount tp)) (topFirst (sortedLoss (second p th) (second tp tt)) (keptCount (second tp tt)))
        ≤ answer p th tp tt (negSum p tp) (negSum (second p th) (second tp tt))
      ∧ answer p th tp tt (negSum p tp) (negSum (second p th) (second tp tt))
        ≤ answer p th tp tt (topFirst (sortedLoss p tp) (keptCount tp)) (topFirst (sortedLoss (second p th) (second tp tt)) (keptCount (second tp tt)))
          + (step (kth (sortedLoss p tp) (keptCount tp)) + step (kth (sortedLoss (second p th) (second tp tt)) (keptCount (second tp tt)))) := by
  obtain ⟨a1, a2⟩ := map_within hP hTp hq0 hk0
  obtain ⟨b1, b2⟩ := map_within (x := second p th) (t := second tp tt) (AllReal.scaled hP hTh) (AllReal.scaled hTp hTt) hq1 hk1
  unfold answer
  rw [show Ideal.ofBits .f32 0x3F800000#32 = (1 : EReal) from one_f32, one_mul, one_mul]
  refine ⟨add_le_add (add_le_add a1 b1) (le_refl _), (add_le_add (add_le_add a2 b2) (le_refl _)).trans (le_of_eq ?_)⟩
  rw [add_add_add_comm, add_right_comm]

/-- A result that is the threshold's passes the test. -/
theorem passes [Cert.Post_within_a_step.Facts] {q0 q1 : ℝ} (hq0 : |q0| ≤ topReal) (hk0 : kth (sortedLoss p tp) (keptCount tp) = q0)
    (hq1 : |q1| ≤ topReal) (hk1 : kth (sortedLoss (second p th) (second tp tt)) (keptCount (second tp tt)) = q1)
    (out : FVec Ideal S_ .f32) (ho : ∀ j, (out j : EReal) = answer p th tp tt (negSum p tp) (negSum (second p th) (second tp tt))) :
    (Cert.Post_within_a_step.fn (F := Ideal) p th tp tt out).1 = (fun _ => 1#1) ∧ (Cert.Post_within_a_step.fn (F := Ideal) p th tp tt out).2 = (fun _ => 1#1) := by
  have hw := wanted_apply hP hTh hTp hTt
  have s0 := stepOf_apply (maskOf_apply tp) (lossOf_apply hP hTp)
  have s1 : ∀ j, stepOf (least (maskOf (scaledBy tp tt)) (lossOf (scaledBy p th) (scaledBy tp tt))) j
      = step (kth (sortedLoss (second p th) (second tp tt)) (keptCount (second tp tt))) := stepOf_apply (t := second tp tt) (x := second p th) (maskOf_apply (scaledBy tp tt)) (lossOf_apply (AllReal.scaled hP hTh) (AllReal.scaled hTp hTt))
  obtain ⟨l1, l2⟩ := answer_within hP hTh hTp hTt hq0 hk0 hq1 hk1
  rw [within_steps]
  refine at_most _ _ _ _ (fun j => ?_) fun j => ?_
  · rw [hw, ho]
    exact l1
  · rw [hw, ho, s0, s1]
    exact l2

end Whole

/-- The kernel's result passes the test. -/
theorem within_values [Cert.Pre_kept_in_range.Facts] [Cert.Post_within_a_step.Facts] : Cert.holds_KernelIdeal_within_a_step_pre_kept_in_range := by
  intro m g hpre
  refine (θ_run _ _ _).mono (fun r h c => ?_) (run_frame m g)
  obtain ⟨hv, e0, e1, e2, e3⟩ := h.1 c
  obtain ⟨hP, hTh, hTp, hTt, ⟨q0, hq0, hk0⟩, q1, hq1, hk1⟩ := range_spec _ _ _ _ (hpre c)
  refine ⟨e0, e1, e2, e3, ?_⟩
  rw [hv]
  exact passes hP hTh hTp hTt hq0 hk0 hq1 hk1 _ (last_value (launched m) c hP hTh hTp hTt)

end Cert.Balanced

end
-- ==== Proof.lean ====
/-
  The certificate: each claim from the module that proves it.
-/
module

public import proofs.«01_k».proof.Defs
public import proofs.«01_k».proof.Proof.Endings
public import proofs.«01_k».proof.Proof.Equal
public import proofs.«01_k».proof.Proof.Within
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem Cert.Balanced

theorem claim : Cert.Claim :=
  ⟨Cert.Kernel.Gen.facts, Cert.KernelIdeal.Gen.facts, Cert.ReferenceIdeal.Gen.facts, keptFacts, rangeFacts, withinFacts,
    bits_ends, fun m g _ => ideal_ends m g, fun m g _ => ideal_ends m g, fun m g _ => ideal_ends m g, fun m g _ => reference_ends m g, fun m g _ => reference_ends m g, trivial,
    @equal_values keptFacts, @within_values keptFacts rangeFacts withinFacts⟩

end Cert.Proof

end
